-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_LatentKernel (m : (ℓ : Loc Cert.LatentKernel.nD Cert.LatentKernel.τ Cert.LatentKernel.sig) → Buf (Elt Bits) ℓ) : Prop :=
  True

def Pre_LatentKernelIdeal (m : (ℓ : Loc Cert.LatentKernelIdeal.nD Cert.LatentKernelIdeal.τ Cert.LatentKernelIdeal.sig) → Buf (Elt Ideal) ℓ) : Prop :=
  True

def Pre_LatentKernelIdeal_finite_latent [hPre_finite_latent : Cert.Pre_finite_latent.Facts] (m : (ℓ : Loc Cert.LatentKernelIdeal.nD Cert.LatentKernelIdeal.τ Cert.LatentKernelIdeal.sig) → Buf (Elt Ideal) ℓ) : Prop :=
  ∀ c : Dev Cert.LatentKernelIdeal.nD,
    (Cert.Pre_finite_latent.fn (F := Ideal) (m ((c.tc : Thread Cert.LatentKernelIdeal.nD Cert.LatentKernelIdeal.τ).loc Cert.LatentKernelIdeal.main_arg0)) (m ((c.tc : Thread Cert.LatentKernelIdeal.nD Cert.LatentKernelIdeal.τ).loc Cert.LatentKernelIdeal.main_arg1)) (m ((c.tc : Thread Cert.LatentKernelIdeal.nD Cert.LatentKernelIdeal.τ).loc Cert.LatentKernelIdeal.main_arg2)) (m ((c.tc : Thread Cert.LatentKernelIdeal.nD Cert.LatentKernelIdeal.τ).loc Cert.LatentKernelIdeal.main_arg3)) (m ((c.tc : Thread Cert.LatentKernelIdeal.nD Cert.LatentKernelIdeal.τ).loc Cert.LatentKernelIdeal.main_arg4))).1 = (fun _ => 1#1)
    ∧ (Cert.Pre_finite_latent.fn (F := Ideal) (m ((c.tc : Thread Cert.LatentKernelIdeal.nD Cert.LatentKernelIdeal.τ).loc Cert.LatentKernelIdeal.main_arg0)) (m ((c.tc : Thread Cert.LatentKernelIdeal.nD Cert.LatentKernelIdeal.τ).loc Cert.LatentKernelIdeal.main_arg1)) (m ((c.tc : Thread Cert.LatentKernelIdeal.nD Cert.LatentKernelIdeal.τ).loc Cert.LatentKernelIdeal.main_arg2)) (m ((c.tc : Thread Cert.LatentKernelIdeal.nD Cert.LatentKernelIdeal.τ).loc Cert.LatentKernelIdeal.main_arg3)) (m ((c.tc : Thread Cert.LatentKernelIdeal.nD Cert.LatentKernelIdeal.τ).loc Cert.LatentKernelIdeal.main_arg4))).2.1 = (fun _ => 1#1)
    ∧ (Cert.Pre_finite_latent.fn (F := Ideal) (m ((c.tc : Thread Cert.LatentKernelIdeal.nD Cert.LatentKernelIdeal.τ).loc Cert.LatentKernelIdeal.main_arg0)) (m ((c.tc : Thread Cert.LatentKernelIdeal.nD Cert.LatentKernelIdeal.τ).loc Cert.LatentKernelIdeal.main_arg1)) (m ((c.tc : Thread Cert.LatentKernelIdeal.nD Cert.LatentKernelIdeal.τ).loc Cert.LatentKernelIdeal.main_arg2)) (m ((c.tc : Thread Cert.LatentKernelIdeal.nD Cert.LatentKernelIdeal.τ).loc Cert.LatentKernelIdeal.main_arg3)) (m ((c.tc : Thread Cert.LatentKernelIdeal.nD Cert.LatentKernelIdeal.τ).loc Cert.LatentKernelIdeal.main_arg4))).2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_latent [hPre_finite_latent : Cert.Pre_finite_latent.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))).1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))).2.1 = (fun _ => 1#1)
    ∧ (Cert.Pre_finite_latent.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))).2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_HyenaKernel (m : (ℓ : Loc Cert.HyenaKernel.nD Cert.HyenaKernel.τ Cert.HyenaKernel.sig) → Buf (Elt Bits) ℓ) : Prop :=
  True

def Pre_HyenaKernelIdeal (m : (ℓ : Loc Cert.HyenaKernelIdeal.nD Cert.HyenaKernelIdeal.τ Cert.HyenaKernelIdeal.sig) → Buf (Elt Ideal) ℓ) : Prop :=
  True

def Pre_HyenaReferenceIdeal (m : (ℓ : Loc Cert.HyenaReferenceIdeal.nD Cert.HyenaReferenceIdeal.τ Cert.HyenaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_LatentKernel [hLatentKernel : Cert.LatentKernel.Facts] : Prop :=
  ∀ (m : (ℓ : Loc Cert.LatentKernel.nD Cert.LatentKernel.τ Cert.LatentKernel.sig) → Buf (Elt Bits) ℓ) (g : Dev Cert.LatentKernel.nD → PrngReg), Pre_LatentKernel m →
    θ_run (Cert.LatentKernel.defs (F := Bits)) (onTc (τ := Cert.LatentKernel.τ) (Cert.LatentKernel.main (F := Bits))) ⟨m, fun _ => 0, g⟩ (fun r => (∀ c : Dev Cert.LatentKernel.nD,
      r.2.mem ((c.tc : Thread Cert.LatentKernel.nD Cert.LatentKernel.τ).loc Cert.LatentKernel.main_arg0) = m ((c.tc : Thread Cert.LatentKernel.nD Cert.LatentKernel.τ).loc Cert.LatentKernel.main_arg0)
      ∧ r.2.mem ((c.tc : Thread Cert.LatentKernel.nD Cert.LatentKernel.τ).loc Cert.LatentKernel.main_arg1) = m ((c.tc : Thread Cert.LatentKernel.nD Cert.LatentKernel.τ).loc Cert.LatentKernel.main_arg1)
      ∧ r.2.mem ((c.tc : Thread Cert.LatentKernel.nD Cert.LatentKernel.τ).loc Cert.LatentKernel.main_arg2) = m ((c.tc : Thread Cert.LatentKernel.nD Cert.LatentKernel.τ).loc Cert.LatentKernel.main_arg2)
      ∧ r.2.mem ((c.tc : Thread Cert.LatentKernel.nD Cert.LatentKernel.τ).loc Cert.LatentKernel.main_arg3) = m ((c.tc : Thread Cert.LatentKernel.nD Cert.LatentKernel.τ).loc Cert.LatentKernel.main_arg3)
      ∧ r.2.mem ((c.tc : Thread Cert.LatentKernel.nD Cert.LatentKernel.τ).loc Cert.LatentKernel.main_arg4) = m ((c.tc : Thread Cert.LatentKernel.nD Cert.LatentKernel.τ).loc Cert.LatentKernel.main_arg4))
      ∧ r.2.sem = fun _ => 0)

def quiescent_LatentKernelIdeal [hLatentKernelIdeal : Cert.LatentKernelIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
      ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
      ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
      ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4))
      ∧ r.2.sem = fun _ => 0)

def quiescent_LatentKernelIdeal_pre_finite_latent [hLatentKernelIdeal : Cert.LatentKernelIdeal.Facts] [hPre_finite_latent : Cert.Pre_finite_latent.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal_finite_latent m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
      ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
      ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
      ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_LatentReferenceIdeal_pre_finite_latent [hLatentReferenceIdeal : Cert.LatentReferenceIdeal.Facts] [hPre_finite_latent : Cert.Pre_finite_latent.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_latent m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4)
      ∧ r.2.mem ((c.tc : Thread Cert.LastKernel.nD Cert.LastKernel.τ).loc Cert.LastKernel.main_arg5) = m ((c.tc : Thread Cert.LastKernel.nD Cert.LastKernel.τ).loc Cert.LastKernel.main_arg5))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
      ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5))
      ∧ r.2.sem = fun _ => 0)

def quiescent_HyenaKernel [hHyenaKernel : Cert.HyenaKernel.Facts] : Prop :=
  ∀ (m : (ℓ : Loc Cert.HyenaKernel.nD Cert.HyenaKernel.τ Cert.HyenaKernel.sig) → Buf (Elt Bits) ℓ) (g : Dev Cert.HyenaKernel.nD → PrngReg), Pre_HyenaKernel m →
    θ_run (Cert.HyenaKernel.defs (F := Bits)) (onTc (τ := Cert.HyenaKernel.τ) (Cert.HyenaKernel.main (F := Bits))) ⟨m, fun _ => 0, g⟩ (fun r => (∀ c : Dev Cert.HyenaKernel.nD,
      r.2.mem ((c.tc : Thread Cert.HyenaKernel.nD Cert.HyenaKernel.τ).loc Cert.HyenaKernel.main_arg0) = m ((c.tc : Thread Cert.HyenaKernel.nD Cert.HyenaKernel.τ).loc Cert.HyenaKernel.main_arg0)
      ∧ r.2.mem ((c.tc : Thread Cert.HyenaKernel.nD Cert.HyenaKernel.τ).loc Cert.HyenaKernel.main_arg1) = m ((c.tc : Thread Cert.HyenaKernel.nD Cert.HyenaKernel.τ).loc Cert.HyenaKernel.main_arg1)
      ∧ r.2.mem ((c.tc : Thread Cert.HyenaKernel.nD Cert.HyenaKernel.τ).loc Cert.HyenaKernel.main_arg2) = m ((c.tc : Thread Cert.HyenaKernel.nD Cert.HyenaKernel.τ).loc Cert.HyenaKernel.main_arg2)
      ∧ r.2.mem ((c.tc : Thread Cert.HyenaKernel.nD Cert.HyenaKernel.τ).loc Cert.HyenaKernel.main_arg3) = m ((c.tc : Thread Cert.HyenaKernel.nD Cert.HyenaKernel.τ).loc Cert.HyenaKernel.main_arg3)
      ∧ r.2.mem ((c.tc : Thread Cert.HyenaKernel.nD Cert.HyenaKernel.τ).loc Cert.HyenaKernel.main_arg4) = m ((c.tc : Thread Cert.HyenaKernel.nD Cert.HyenaKernel.τ).loc Cert.HyenaKernel.main_arg4)
      ∧ r.2.mem ((c.tc : Thread Cert.HyenaKernel.nD Cert.HyenaKernel.τ).loc Cert.HyenaKernel.main_arg5) = m ((c.tc : Thread Cert.HyenaKernel.nD Cert.HyenaKernel.τ).loc Cert.HyenaKernel.main_arg5))
      ∧ r.2.sem = fun _ => 0)

def quiescent_HyenaKernelIdeal [hHyenaKernelIdeal : Cert.HyenaKernelIdeal.Facts] : Prop :=
  ∀ (m : (ℓ : Loc Cert.HyenaKernelIdeal.nD Cert.HyenaKernelIdeal.τ Cert.HyenaKernelIdeal.sig) → Buf (Elt Ideal) ℓ) (g : Dev Cert.HyenaKernelIdeal.nD → PrngReg), Pre_HyenaKernelIdeal m →
    θ_run (Cert.HyenaKernelIdeal.defs (F := Ideal)) (onTc (τ := Cert.HyenaKernelIdeal.τ) (Cert.HyenaKernelIdeal.main (F := Ideal))) ⟨m, fun _ => 0, g⟩ (fun r => (∀ c : Dev Cert.HyenaKernelIdeal.nD,
      r.2.mem ((c.tc : Thread Cert.HyenaKernelIdeal.nD Cert.HyenaKernelIdeal.τ).loc Cert.HyenaKernelIdeal.main_arg0) = m ((c.tc : Thread Cert.HyenaKernelIdeal.nD Cert.HyenaKernelIdeal.τ).loc Cert.HyenaKernelIdeal.main_arg0)
      ∧ r.2.mem ((c.tc : Thread Cert.HyenaKernelIdeal.nD Cert.HyenaKernelIdeal.τ).loc Cert.HyenaKernelIdeal.main_arg1) = m ((c.tc : Thread Cert.HyenaKernelIdeal.nD Cert.HyenaKernelIdeal.τ).loc Cert.HyenaKernelIdeal.main_arg1)
      ∧ r.2.mem ((c.tc : Thread Cert.HyenaKernelIdeal.nD Cert.HyenaKernelIdeal.τ).loc Cert.HyenaKernelIdeal.main_arg2) = m ((c.tc : Thread Cert.HyenaKernelIdeal.nD Cert.HyenaKernelIdeal.τ).loc Cert.HyenaKernelIdeal.main_arg2)
      ∧ r.2.mem ((c.tc : Thread Cert.HyenaKernelIdeal.nD Cert.HyenaKernelIdeal.τ).loc Cert.HyenaKernelIdeal.main_arg3) = m ((c.tc : Thread Cert.HyenaKernelIdeal.nD Cert.HyenaKernelIdeal.τ).loc Cert.HyenaKernelIdeal.main_arg3)
      ∧ r.2.mem ((c.tc : Thread Cert.HyenaKernelIdeal.nD Cert.HyenaKernelIdeal.τ).loc Cert.HyenaKernelIdeal.main_arg4) = m ((c.tc : Thread Cert.HyenaKernelIdeal.nD Cert.HyenaKernelIdeal.τ).loc Cert.HyenaKernelIdeal.main_arg4)
      ∧ r.2.mem ((c.tc : Thread Cert.HyenaKernelIdeal.nD Cert.HyenaKernelIdeal.τ).loc Cert.HyenaKernelIdeal.main_arg5) = m ((c.tc : Thread Cert.HyenaKernelIdeal.nD Cert.HyenaKernelIdeal.τ).loc Cert.HyenaKernelIdeal.main_arg5))
      ∧ r.2.sem = fun _ => 0)

def quiescent_HyenaReferenceIdeal [hHyenaReferenceIdeal : Cert.HyenaReferenceIdeal.Facts] : Prop :=
  ∀ (m : (ℓ : Loc Cert.HyenaReferenceIdeal.nD Cert.HyenaReferenceIdeal.τ Cert.HyenaReferenceIdeal.sig) → Buf (Elt Ideal) ℓ) (g : Dev Cert.HyenaReferenceIdeal.nD → PrngReg), Pre_HyenaReferenceIdeal m →
    θ_run (Cert.HyenaReferenceIdeal.defs (F := Ideal)) (onTc (τ := Cert.HyenaReferenceIdeal.τ) (Cert.HyenaReferenceIdeal.main (F := Ideal))) ⟨m, fun _ => 0, g⟩ (fun r => (∀ c : Dev Cert.HyenaReferenceIdeal.nD,
      r.2.mem ((c.tc : Thread Cert.HyenaReferenceIdeal.nD Cert.HyenaReferenceIdeal.τ).loc Cert.HyenaReferenceIdeal.main_arg0) = m ((c.tc : Thread Cert.HyenaReferenceIdeal.nD Cert.HyenaReferenceIdeal.τ).loc Cert.HyenaReferenceIdeal.main_arg0)
      ∧ r.2.mem ((c.tc : Thread Cert.HyenaReferenceIdeal.nD Cert.HyenaReferenceIdeal.τ).loc Cert.HyenaReferenceIdeal.main_arg1) = m ((c.tc : Thread Cert.HyenaReferenceIdeal.nD Cert.HyenaReferenceIdeal.τ).loc Cert.HyenaReferenceIdeal.main_arg1)
      ∧ r.2.mem ((c.tc : Thread Cert.HyenaReferenceIdeal.nD Cert.HyenaReferenceIdeal.τ).loc Cert.HyenaReferenceIdeal.main_arg2) = m ((c.tc : Thread Cert.HyenaReferenceIdeal.nD Cert.HyenaReferenceIdeal.τ).loc Cert.HyenaReferenceIdeal.main_arg2)
      ∧ r.2.mem ((c.tc : Thread Cert.HyenaReferenceIdeal.nD Cert.HyenaReferenceIdeal.τ).loc Cert.HyenaReferenceIdeal.main_arg3) = m ((c.tc : Thread Cert.HyenaReferenceIdeal.nD Cert.HyenaReferenceIdeal.τ).loc Cert.HyenaReferenceIdeal.main_arg3)
      ∧ r.2.mem ((c.tc : Thread Cert.HyenaReferenceIdeal.nD Cert.HyenaReferenceIdeal.τ).loc Cert.HyenaReferenceIdeal.main_arg4) = m ((c.tc : Thread Cert.HyenaReferenceIdeal.nD Cert.HyenaReferenceIdeal.τ).loc Cert.HyenaReferenceIdeal.main_arg4)
      ∧ r.2.mem ((c.tc : Thread Cert.HyenaReferenceIdeal.nD Cert.HyenaReferenceIdeal.τ).loc Cert.HyenaReferenceIdeal.main_arg5) = m ((c.tc : Thread Cert.HyenaReferenceIdeal.nD Cert.HyenaReferenceIdeal.τ).loc Cert.HyenaReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_LatentKernel_LatentKernelIdeal : Prop :=
  True

def algebraic_LatentKernelIdeal_LatentReferenceIdeal_pre_finite_latent [hLatentKernelIdeal : Cert.LatentKernelIdeal.Facts] [hLatentReferenceIdeal : Cert.LatentReferenceIdeal.Facts] [hPre_finite_latent : Cert.Pre_finite_latent.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentKernelIdeal_finite_latent m →
    (∀ c : Dev Cert.LatentKernelIdeal.nD,
      m' ((c.tc : Thread Cert.LatentReferenceIdeal.nD Cert.LatentReferenceIdeal.τ).loc Cert.LatentReferenceIdeal.main_arg0) = m ((c.tc : Thread Cert.LatentKernelIdeal.nD Cert.LatentKernelIdeal.τ).loc Cert.LatentKernelIdeal.main_arg0)
      ∧ m' ((c.tc : Thread Cert.LatentReferenceIdeal.nD Cert.LatentReferenceIdeal.τ).loc Cert.LatentReferenceIdeal.main_arg1) = m ((c.tc : Thread Cert.LatentKernelIdeal.nD Cert.LatentKernelIdeal.τ).loc Cert.LatentKernelIdeal.main_arg1)
      ∧ m' ((c.tc : Thread Cert.LatentReferenceIdeal.nD Cert.LatentReferenceIdeal.τ).loc Cert.LatentReferenceIdeal.main_arg2) = m ((c.tc : Thread Cert.LatentKernelIdeal.nD Cert.LatentKernelIdeal.τ).loc Cert.LatentKernelIdeal.main_arg2)
      ∧ m' ((c.tc : Thread Cert.LatentReferenceIdeal.nD Cert.LatentReferenceIdeal.τ).loc Cert.LatentReferenceIdeal.main_arg3) = m ((c.tc : Thread Cert.LatentKernelIdeal.nD Cert.LatentKernelIdeal.τ).loc Cert.LatentKernelIdeal.main_arg3)
      ∧ m' ((c.tc : Thread Cert.LatentReferenceIdeal.nD Cert.LatentReferenceIdeal.τ).loc Cert.LatentReferenceIdeal.main_arg4) = m ((c.tc : Thread Cert.LatentKernelIdeal.nD Cert.LatentKernelIdeal.τ).loc Cert.LatentKernelIdeal.main_arg4)) →
    ∃ (v0 : (c : Dev Cert.LatentKernelIdeal.nD) → Buf (Elt Ideal) ((c.tc : Thread Cert.LatentKernelIdeal.nD Cert.LatentKernelIdeal.τ).loc Cert.LatentKernelIdeal.main_v28)),
      θ_run (Cert.LatentKernelIdeal.defs (F := Ideal)) (onTc (τ := Cert.LatentKernelIdeal.τ) (Cert.LatentKernelIdeal.main (F := Ideal))) ⟨m, fun _ => 0, g⟩ (fun r => ∀ c : Dev Cert.LatentKernelIdeal.nD,
          r.2.mem ((c.tc : Thread Cert.LatentKernelIdeal.nD Cert.LatentKernelIdeal.τ).loc Cert.LatentKernelIdeal.main_v28) = v0 c
          ∧ r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
          ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
          ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
          ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
          ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v21) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v5) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v9) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)
      ∧ m' ((c.tc : Thread Cert.LastReferenceIdeal.nD Cert.LastReferenceIdeal.τ).loc Cert.LastReferenceIdeal.main_arg5) = m ((c.tc : Thread Cert.LastKernelIdeal.nD Cert.LastKernelIdeal.τ).loc Cert.LastKernelIdeal.main_arg5)) →
    ∃ (v0 : (c : Dev Cert.LastKernelIdeal.nD) → Buf (Elt Ideal) ((c.tc : Thread Cert.LastKernelIdeal.nD Cert.LastKernelIdeal.τ).loc Cert.LastKernelIdeal.main_v5)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v5) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
          ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v21) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5))

def preserves_HyenaKernel_HyenaKernelIdeal : Prop :=
  True

def algebraic_HyenaKernelIdeal_HyenaReferenceIdeal [hHyenaKernelIdeal : Cert.HyenaKernelIdeal.Facts] [hHyenaReferenceIdeal : Cert.HyenaReferenceIdeal.Facts] : Prop :=
  ∀ (m : (ℓ : Loc Cert.HyenaKernelIdeal.nD Cert.HyenaKernelIdeal.τ Cert.HyenaKernelIdeal.sig) → Buf (Elt Ideal) ℓ) (g : Dev Cert.HyenaKernelIdeal.nD → PrngReg)
    (m' : (ℓ : Loc Cert.HyenaReferenceIdeal.nD Cert.HyenaReferenceIdeal.τ Cert.HyenaReferenceIdeal.sig) → Buf (Elt Ideal) ℓ) (g' : Dev Cert.HyenaReferenceIdeal.nD → PrngReg), Pre_HyenaKernelIdeal m →
    (∀ c : Dev Cert.HyenaKernelIdeal.nD,
      m' ((c.tc : Thread Cert.HyenaReferenceIdeal.nD Cert.HyenaReferenceIdeal.τ).loc Cert.HyenaReferenceIdeal.main_arg0) = m ((c.tc : Thread Cert.HyenaKernelIdeal.nD Cert.HyenaKernelIdeal.τ).loc Cert.HyenaKernelIdeal.main_arg0)
      ∧ m' ((c.tc : Thread Cert.HyenaReferenceIdeal.nD Cert.HyenaReferenceIdeal.τ).loc Cert.HyenaReferenceIdeal.main_arg1) = m ((c.tc : Thread Cert.HyenaKernelIdeal.nD Cert.HyenaKernelIdeal.τ).loc Cert.HyenaKernelIdeal.main_arg1)
      ∧ m' ((c.tc : Thread Cert.HyenaReferenceIdeal.nD Cert.HyenaReferenceIdeal.τ).loc Cert.HyenaReferenceIdeal.main_arg2) = m ((c.tc : Thread Cert.HyenaKernelIdeal.nD Cert.HyenaKernelIdeal.τ).loc Cert.HyenaKernelIdeal.main_arg2)
      ∧ m' ((c.tc : Thread Cert.HyenaReferenceIdeal.nD Cert.HyenaReferenceIdeal.τ).loc Cert.HyenaReferenceIdeal.main_arg3) = m ((c.tc : Thread Cert.HyenaKernelIdeal.nD Cert.HyenaKernelIdeal.τ).loc Cert.HyenaKernelIdeal.main_arg3)
      ∧ m' ((c.tc : Thread Cert.HyenaReferenceIdeal.nD Cert.HyenaReferenceIdeal.τ).loc Cert.HyenaReferenceIdeal.main_arg4) = m ((c.tc : Thread Cert.HyenaKernelIdeal.nD Cert.HyenaKernelIdeal.τ).loc Cert.HyenaKernelIdeal.main_arg4)
      ∧ m' ((c.tc : Thread Cert.HyenaReferenceIdeal.nD Cert.HyenaReferenceIdeal.τ).loc Cert.HyenaReferenceIdeal.main_arg5) = m ((c.tc : Thread Cert.HyenaKernelIdeal.nD Cert.HyenaKernelIdeal.τ).loc Cert.HyenaKernelIdeal.main_arg5)) →
    ∃ (v0 : (c : Dev Cert.HyenaKernelIdeal.nD) → Buf (Elt Ideal) ((c.tc : Thread Cert.HyenaKernelIdeal.nD Cert.HyenaKernelIdeal.τ).loc Cert.HyenaKernelIdeal.main_v4_0)) (v1 : (c : Dev Cert.HyenaKernelIdeal.nD) → Buf (Elt Ideal) ((c.tc : Thread Cert.HyenaKernelIdeal.nD Cert.HyenaKernelIdeal.τ).loc Cert.HyenaKernelIdeal.main_v4_1)) (v2 : (c : Dev Cert.HyenaKernelIdeal.nD) → Buf (Elt Ideal) ((c.tc : Thread Cert.HyenaKernelIdeal.nD Cert.HyenaKernelIdeal.τ).loc Cert.HyenaKernelIdeal.main_v4_2)) (v3 : (c : Dev Cert.HyenaKernelIdeal.nD) → Buf (Elt Ideal) ((c.tc : Thread Cert.HyenaKernelIdeal.nD Cert.HyenaKernelIdeal.τ).loc Cert.HyenaKernelIdeal.main_v4_3)),
      θ_run (Cert.HyenaKernelIdeal.defs (F := Ideal)) (onTc (τ := Cert.HyenaKernelIdeal.τ) (Cert.HyenaKernelIdeal.main (F := Ideal))) ⟨m, fun _ => 0, g⟩ (fun r => ∀ c : Dev Cert.HyenaKernelIdeal.nD,
          r.2.mem ((c.tc : Thread Cert.HyenaKernelIdeal.nD Cert.HyenaKernelIdeal.τ).loc Cert.HyenaKernelIdeal.main_v4_0) = v0 c
          ∧ r.2.mem ((c.tc : Thread Cert.HyenaKernelIdeal.nD Cert.HyenaKernelIdeal.τ).loc Cert.HyenaKernelIdeal.main_v4_1) = v1 c
          ∧ r.2.mem ((c.tc : Thread Cert.HyenaKernelIdeal.nD Cert.HyenaKernelIdeal.τ).loc Cert.HyenaKernelIdeal.main_v4_2) = v2 c
          ∧ r.2.mem ((c.tc : Thread Cert.HyenaKernelIdeal.nD Cert.HyenaKernelIdeal.τ).loc Cert.HyenaKernelIdeal.main_v4_3) = v3 c
          ∧ r.2.mem ((c.tc : Thread Cert.HyenaKernelIdeal.nD Cert.HyenaKernelIdeal.τ).loc Cert.HyenaKernelIdeal.main_arg0) = m ((c.tc : Thread Cert.HyenaKernelIdeal.nD Cert.HyenaKernelIdeal.τ).loc Cert.HyenaKernelIdeal.main_arg0)
          ∧ r.2.mem ((c.tc : Thread Cert.HyenaKernelIdeal.nD Cert.HyenaKernelIdeal.τ).loc Cert.HyenaKernelIdeal.main_arg1) = m ((c.tc : Thread Cert.HyenaKernelIdeal.nD Cert.HyenaKernelIdeal.τ).loc Cert.HyenaKernelIdeal.main_arg1)
          ∧ r.2.mem ((c.tc : Thread Cert.HyenaKernelIdeal.nD Cert.HyenaKernelIdeal.τ).loc Cert.HyenaKernelIdeal.main_arg2) = m ((c.tc : Thread Cert.HyenaKernelIdeal.nD Cert.HyenaKernelIdeal.τ).loc Cert.HyenaKernelIdeal.main_arg2)
          ∧ r.2.mem ((c.tc : Thread Cert.HyenaKernelIdeal.nD Cert.HyenaKernelIdeal.τ).loc Cert.HyenaKernelIdeal.main_arg3) = m ((c.tc : Thread Cert.HyenaKernelIdeal.nD Cert.HyenaKernelIdeal.τ).loc Cert.HyenaKernelIdeal.main_arg3)
          ∧ r.2.mem ((c.tc : Thread Cert.HyenaKernelIdeal.nD Cert.HyenaKernelIdeal.τ).loc Cert.HyenaKernelIdeal.main_arg4) = m ((c.tc : Thread Cert.HyenaKernelIdeal.nD Cert.HyenaKernelIdeal.τ).loc Cert.HyenaKernelIdeal.main_arg4)
          ∧ r.2.mem ((c.tc : Thread Cert.HyenaKernelIdeal.nD Cert.HyenaKernelIdeal.τ).loc Cert.HyenaKernelIdeal.main_arg5) = m ((c.tc : Thread Cert.HyenaKernelIdeal.nD Cert.HyenaKernelIdeal.τ).loc Cert.HyenaKernelIdeal.main_arg5))
      ∧ θ_run (Cert.HyenaReferenceIdeal.defs (F := Ideal)) (onTc (τ := Cert.HyenaReferenceIdeal.τ) (Cert.HyenaReferenceIdeal.main (F := Ideal))) ⟨m', fun _ => 0, g'⟩ (fun r => ∀ c : Dev Cert.HyenaReferenceIdeal.nD,
          r.2.mem ((c.tc : Thread Cert.HyenaReferenceIdeal.nD Cert.HyenaReferenceIdeal.τ).loc Cert.HyenaReferenceIdeal.main_v57) = v0 c
          ∧ r.2.mem ((c.tc : Thread Cert.HyenaReferenceIdeal.nD Cert.HyenaReferenceIdeal.τ).loc Cert.HyenaReferenceIdeal.main_v58) = v1 c
          ∧ r.2.mem ((c.tc : Thread Cert.HyenaReferenceIdeal.nD Cert.HyenaReferenceIdeal.τ).loc Cert.HyenaReferenceIdeal.main_v59) = v2 c
          ∧ r.2.mem ((c.tc : Thread Cert.HyenaReferenceIdeal.nD Cert.HyenaReferenceIdeal.τ).loc Cert.HyenaReferenceIdeal.main_v60) = v3 c
          ∧ r.2.mem ((c.tc : Thread Cert.HyenaReferenceIdeal.nD Cert.HyenaReferenceIdeal.τ).loc Cert.HyenaReferenceIdeal.main_arg0) = m' ((c.tc : Thread Cert.HyenaReferenceIdeal.nD Cert.HyenaReferenceIdeal.τ).loc Cert.HyenaReferenceIdeal.main_arg0)
          ∧ r.2.mem ((c.tc : Thread Cert.HyenaReferenceIdeal.nD Cert.HyenaReferenceIdeal.τ).loc Cert.HyenaReferenceIdeal.main_arg1) = m' ((c.tc : Thread Cert.HyenaReferenceIdeal.nD Cert.HyenaReferenceIdeal.τ).loc Cert.HyenaReferenceIdeal.main_arg1)
          ∧ r.2.mem ((c.tc : Thread Cert.HyenaReferenceIdeal.nD Cert.HyenaReferenceIdeal.τ).loc Cert.HyenaReferenceIdeal.main_arg2) = m' ((c.tc : Thread Cert.HyenaReferenceIdeal.nD Cert.HyenaReferenceIdeal.τ).loc Cert.HyenaReferenceIdeal.main_arg2)
          ∧ r.2.mem ((c.tc : Thread Cert.HyenaReferenceIdeal.nD Cert.HyenaReferenceIdeal.τ).loc Cert.HyenaReferenceIdeal.main_arg3) = m' ((c.tc : Thread Cert.HyenaReferenceIdeal.nD Cert.HyenaReferenceIdeal.τ).loc Cert.HyenaReferenceIdeal.main_arg3)
          ∧ r.2.mem ((c.tc : Thread Cert.HyenaReferenceIdeal.nD Cert.HyenaReferenceIdeal.τ).loc Cert.HyenaReferenceIdeal.main_arg4) = m' ((c.tc : Thread Cert.HyenaReferenceIdeal.nD Cert.HyenaReferenceIdeal.τ).loc Cert.HyenaReferenceIdeal.main_arg4)
          ∧ r.2.mem ((c.tc : Thread Cert.HyenaReferenceIdeal.nD Cert.HyenaReferenceIdeal.τ).loc Cert.HyenaReferenceIdeal.main_arg5) = m' ((c.tc : Thread Cert.HyenaReferenceIdeal.nD Cert.HyenaReferenceIdeal.τ).loc Cert.HyenaReferenceIdeal.main_arg5))

def Claim : Prop :=
  ∃ (hKernel : Cert.Kernel.Facts) (hKernelIdeal : Cert.KernelIdeal.Facts) (hReferenceIdeal : Cert.ReferenceIdeal.Facts) (hLatentKernel : Cert.LatentKernel.Facts) (hLatentKernelIdeal : Cert.LatentKernelIdeal.Facts) (hLatentReferenceIdeal : Cert.LatentReferenceIdeal.Facts) (hMixKernel : Cert.MixKernel.Facts) (hMixKernelIdeal : Cert.MixKernelIdeal.Facts) (hMixReferenceIdeal : Cert.MixReferenceIdeal.Facts) (hLastKernel : Cert.LastKernel.Facts) (hLastKernelIdeal : Cert.LastKernelIdeal.Facts) (hLastReferenceIdeal : Cert.LastReferenceIdeal.Facts) (hHyenaKernel : Cert.HyenaKernel.Facts) (hHyenaKernelIdeal : Cert.HyenaKernelIdeal.Facts) (hHyenaReferenceIdeal : Cert.HyenaReferenceIdeal.Facts) (hPre_finite : Cert.Pre_finite.Facts) (hPre_finite_latent : Cert.Pre_finite_latent.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_LatentKernel (hLatentKernel := hLatentKernel)
    ∧ quiescent_LatentKernelIdeal (hLatentKernelIdeal := hLatentKernelIdeal)
    ∧ quiescent_LatentKernelIdeal_pre_finite_latent (hLatentKernelIdeal := hLatentKernelIdeal) (hPre_finite_latent := hPre_finite_latent)
    ∧ quiescent_LatentReferenceIdeal (hLatentReferenceIdeal := hLatentReferenceIdeal)
    ∧ quiescent_LatentReferenceIdeal_pre_finite_latent (hLatentReferenceIdeal := hLatentReferenceIdeal) (hPre_finite_latent := hPre_finite_latent)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_HyenaKernel (hHyenaKernel := hHyenaKernel)
    ∧ quiescent_HyenaKernelIdeal (hHyenaKernelIdeal := hHyenaKernelIdeal)
    ∧ quiescent_HyenaReferenceIdeal (hHyenaReferenceIdeal := hHyenaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_LatentKernel_LatentKernelIdeal
    ∧ algebraic_LatentKernelIdeal_LatentReferenceIdeal_pre_finite_latent (hLatentKernelIdeal := hLatentKernelIdeal) (hLatentReferenceIdeal := hLatentReferenceIdeal) (hPre_finite_latent := hPre_finite_latent)
    ∧ preserves_MixKernel_MixKernelIdeal
    ∧ algebraic_MixKernelIdeal_MixReferenceIdeal (hMixKernelIdeal := hMixKernelIdeal) (hMixReferenceIdeal := hMixReferenceIdeal)
    ∧ preserves_LastKernel_LastKernelIdeal
    ∧ algebraic_LastKernelIdeal_LastReferenceIdeal (hLastKernelIdeal := hLastKernelIdeal) (hLastReferenceIdeal := hLastReferenceIdeal)
    ∧ preserves_HyenaKernel_HyenaKernelIdeal
    ∧ algebraic_HyenaKernelIdeal_HyenaReferenceIdeal (hHyenaKernelIdeal := hHyenaKernelIdeal) (hHyenaReferenceIdeal := hHyenaReferenceIdeal)
-- ==== Pre_finite.lean ====
abbrev S8x4096x8x64 : Shape := ⟨4, ![8, 4096, 8, 64]⟩
abbrev S8x256x2x64 : Shape := ⟨4, ![8, 256, 2, 64]⟩
abbrev S8x4096x2x64 : Shape := ⟨4, ![8, 4096, 2, 64]⟩
abbrev S_ : Shape := ⟨0, ![]⟩

class Facts : Prop where
  bcast_S_S8x4096x8x64 : S_.BroadcastsInDim S8x4096x8x64 (![] : Fin 0 → Fin S8x4096x8x64.rank)
  bcast_S_S8x256x2x64 : S_.BroadcastsInDim S8x256x2x64 (![] : Fin 0 → Fin S8x256x2x64.rank)
  bcast_S_S8x4096x2x64 : S_.BroadcastsInDim S8x4096x2x64 (![] : Fin 0 → Fin S8x4096x2x64.rank)

variable [Facts]

def fn {F : FTy → Type} [FloatOps F] (main_arg0 : FVec F S8x4096x8x64 .f32) (main_arg1 : FVec F S8x256x2x64 .f32) (main_arg2 : FVec F S8x256x2x64 .f32) (main_arg3 : FVec F S8x4096x2x64 .f32) (main_arg4 : FVec F S8x4096x2x64 .f32) : IVec S8x4096x8x64 1 × IVec S8x256x2x64 1 × IVec S8x4096x2x64 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x256x2x64 .f32 := Host.absf main_arg1
  let main_cst_0 : FVec F S_ .f32 := constant S_ .f32 0x7F800000#32
  let main_v4 : FVec F S8x256x2x64 .f32 := broadcastInDim S8x256x2x64 ![] bcast_S_S8x256x2x64 main_cst_0
  let main_v5 : IVec S8x256x2x64 1 := cmpf .olt main_v3 main_v4
  let main_v6 : FVec F S8x4096x2x64 .f32 := Host.absf main_arg3
  let main_cst_1 : FVec F S_ .f32 := constant S_ .f32 0x7F800000#32
  let main_v7 : FVec F S8x4096x2x64 .f32 := broadcastInDim S8x4096x2x64 ![] bcast_S_S8x4096x2x64 main_cst_1
  let main_v8 : IVec S8x4096x2x64 1 := cmpf .olt main_v6 main_v7
  (main_v2, main_v5, main_v8)
-- ==== Pre_finite_latent.lean ====
abbrev S8x4096x8x96 : Shape := ⟨4, ![8, 4096, 8, 96]⟩
abbrev S8x256x8x96 : Shape := ⟨4, ![8, 256, 8, 96]⟩
abbrev S8x256x8x64 : Shape := ⟨4, ![8, 256, 8, 64]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)
  bcast_S_S8x256x8x96 : S_.BroadcastsInDim S8x256x8x96 (![] : Fin 0 → Fin S8x256x8x96.rank)

variable [Facts]

def fn {F : FTy → Type} [FloatOps F] (main_arg0 : FVec F S8x4096x8x96 .f32) (main_arg1 : FVec F S8x256x8x96 .f32) (main_arg2 : FVec F S8x256x8x64 .f32) (main_arg3 : FVec F S8x4096x8x96 .f32) (main_arg4 : FVec F S8x4096x8x64 .f32) : IVec S8x4096x8x96 1 × IVec S8x256x8x96 1 × IVec S8x4096x8x96 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_v3 : FVec F S8x256x8x96 .f32 := Host.absf main_arg1
  let main_cst_0 : FVec F S_ .f32 := constant S_ .f32 0x7F800000#32
  let main_v4 : FVec F S8x256x8x96 .f32 := broadcastInDim S8x256x8x96 ![] bcast_S_S8x256x8x96 main_cst_0
  let main_v5 : IVec S8x256x8x96 1 := cmpf .olt main_v3 main_v4
  let main_v6 : FVec F S8x4096x8x96 .f32 := Host.absf main_arg3
  let main_cst_1 : FVec F S_ .f32 := constant S_ .f32 0x7F800000#32
  let main_v7 : FVec F S8x4096x8x96 .f32 := broadcastInDim S8x4096x8x96 ![] bcast_S_S8x4096x8x96 main_cst_1
  let main_v8 : IVec S8x4096x8x96 1 := cmpf .olt main_v6 main_v7
  (main_v2, main_v5, main_v8)
-- ==== Kernel.lean ====
abbrev S8x4096x8x64 : Shape := ⟨4, ![8, 4096, 8, 64]⟩
abbrev S8x256x2x64 : Shape := ⟨4, ![8, 256, 2, 64]⟩
abbrev S8x4096x2x64 : Shape := ⟨4, ![8, 4096, 2, 64]⟩
abbrev S8x4096x512 : Shape := ⟨3, ![8, 4096, 512]⟩
abbrev S_ : Shape := ⟨0, ![]⟩
abbrev S8x256x64 : Shape := ⟨3, ![8, 256, 64]⟩
abbrev S8x256x1x64 : Shape := ⟨4, ![8, 256, 1, 64]⟩
abbrev S8x256x512 : Shape := ⟨3, ![8, 256, 512]⟩
abbrev S8x2x64x256 : Shape := ⟨4, ![8, 2, 64, 256]⟩
abbrev S8x2x1x256 : Shape := ⟨4, ![8, 2, 1, 256]⟩
abbrev S8x2x63x256 : Shape := ⟨4, ![8, 2, 63, 256]⟩
abbrev S8x2x128x256 : Shape := ⟨4, ![8, 2, 128, 256]⟩
abbrev S8x256x256 : Shape := ⟨3, ![8, 256, 256]⟩
abbrev S8x4096x64 : Shape := ⟨3, ![8, 4096, 64]⟩
abbrev S8x4096x1x64 : Shape := ⟨4, ![8, 4096, 1, 64]⟩
abbrev S8x2x64x4096 : Shape := ⟨4, ![8, 2, 64, 4096]⟩
abbrev S8x2x1x4096 : Shape := ⟨4, ![8, 2, 1, 4096]⟩
abbrev S8x2x63x4096 : Shape := ⟨4, ![8, 2, 63, 4096]⟩
abbrev S8x2x128x4096 : Shape := ⟨4, ![8, 2, 128, 4096]⟩
abbrev S8x256x4096 : Shape := ⟨3, ![8, 256, 4096]⟩
abbrev S1x2048x128 : Shape := ⟨3, ![1, 2048, 128]⟩
abbrev S1x256x256 : Shape := ⟨3, ![1, 256, 256]⟩
abbrev S1x128x256 : Shape := ⟨3, ![1, 128, 256]⟩
abbrev S1x4096x256 : Shape := ⟨3, ![1, 4096, 256]⟩
abbrev S1x128x4096 : Shape := ⟨3, ![1, 128, 4096]⟩
abbrev S2x512x2048 : Shape := ⟨3, ![2, 512, 2048]⟩
abbrev S2x80x2048 : Shape := ⟨3, ![2, 80, 2048]⟩
abbrev S1x2048 : Shape := ⟨2, ![1, 2048]⟩
abbrev S1x256x128 : Shape := ⟨3, ![1, 256, 128]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S1x256 : Shape := ⟨2, ![1, 256]⟩
abbrev S2048 : Shape := ⟨1, ![2048]⟩
abbrev S1x80x256 : Shape := ⟨3, ![1, 80, 256]⟩
abbrev S80x256 : Shape := ⟨2, ![80, 256]⟩
abbrev S1x512x256 : Shape := ⟨3, ![1, 512, 256]⟩
abbrev S512x256 : Shape := ⟨2, ![512, 256]⟩
abbrev S1x80x512 : Shape := ⟨3, ![1, 80, 512]⟩
abbrev S80x512 : Shape := ⟨2, ![80, 512]⟩
abbrev S1x64x2048 : Shape := ⟨3, ![1, 64, 2048]⟩
abbrev S64x2048 : Shape := ⟨2, ![64, 2048]⟩
abbrev S1x1x2048 : Shape := ⟨3, ![1, 1, 2048]⟩
abbrev S128x2048 : Shape := ⟨2, ![128, 2048]⟩

abbrev nBuf : Space → Nat
  | .hbm => 46
  | .vmem => 17
  | .smem => 0
  | _ => 0

abbrev bufTy : (tb : Table) → Fin (tcTables nBuf tb) → BufTy
  | .hbm, ⟨0, _⟩ => ⟨S8x4096x8x64, .f32⟩
  | .hbm, ⟨1, _⟩ => ⟨S8x256x2x64, .f32⟩
  | .hbm, ⟨2, _⟩ => ⟨S8x256x2x64, .f32⟩
  | .hbm, ⟨3, _⟩ => ⟨S8x4096x2x64, .f32⟩
  | .hbm, ⟨4, _⟩ => ⟨S8x4096x2x64, .f32⟩
  | .hbm, ⟨5, _⟩ => ⟨S8x4096x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x512, .f32⟩
  | .hbm, ⟨11, _⟩ => ⟨S8x4096x512, .f32⟩
  | .hbm, ⟨12, _⟩ => ⟨S8x4096x512, .bf16⟩
  | .hbm, ⟨13, _⟩ => ⟨S_, .f32⟩
  | .hbm, ⟨14, _⟩ => ⟨S8x256x64, .f32⟩
  | .hbm, ⟨15, _⟩ => ⟨S8x256x1x64, .f32⟩
  | .hbm, ⟨16, _⟩ => ⟨S8x256x64, .f32⟩
  | .hbm, ⟨17, _⟩ => ⟨S8x256x1x64, .f32⟩
  | .hbm, ⟨18, _⟩ => ⟨S8x256x64, .f32⟩
  | .hbm, ⟨19, _⟩ => ⟨S8x256x512, .f32⟩
  | .hbm, ⟨20, _⟩ => ⟨S8x256x512, .bf16⟩
  | .hbm, ⟨21, _⟩ => ⟨S8x2x64x256, .f32⟩
  | .hbm, ⟨22, _⟩ => ⟨S_, .f32⟩
  | .hbm, ⟨23, _⟩ => ⟨S8x2x1x256, .f32⟩
  | .hbm, ⟨24, _⟩ => ⟨S_, .f32⟩
  | .hbm, ⟨25, _⟩ => ⟨S8x2x63x256, .f32⟩
  | .hbm, ⟨26, _⟩ => ⟨S8x2x128x256, .f32⟩
  | .hbm, ⟨27, _⟩ => ⟨S8x256x256, .f32⟩
  | .hbm, ⟨28, _⟩ => ⟨S8x256x256, .bf16⟩
  | .hbm, ⟨29, _⟩ => ⟨S_, .f32⟩
  | .hbm, ⟨30, _⟩ => ⟨S8x4096x64, .f32⟩
  | .hbm, ⟨31, _⟩ => ⟨S8x4096x1x64, .f32⟩
  | .hbm, ⟨32, _⟩ => ⟨S8x4096x64, .f32⟩
  | .hbm, ⟨33, _⟩ => ⟨S8x4096x1x64, .f32⟩
  | .hbm, ⟨34, _⟩ => ⟨S8x4096x64, .f32⟩
  | .hbm, ⟨35, _⟩ => ⟨S8x4096x512, .f32⟩
  | .hbm, ⟨36, _⟩ => ⟨S8x4096x512, .bf16⟩
  | .hbm, ⟨37, _⟩ => ⟨S8x2x64x4096, .f32⟩
  | .hbm, ⟨38, _⟩ => ⟨S_, .f32⟩
  | .hbm, ⟨39, _⟩ => ⟨S8x2x1x4096, .f32⟩
  | .hbm, ⟨40, _⟩ => ⟨S_, .f32⟩
  | .hbm, ⟨41, _⟩ => ⟨S8x2x63x4096, .f32⟩
  | .hbm, ⟨42, _⟩ => ⟨S8x2x128x4096, .f32⟩
  | .hbm, ⟨43, _⟩ => ⟨S8x256x4096, .f32⟩
  | .hbm, ⟨44, _⟩ => ⟨S8x256x4096, .bf16⟩
  | .hbm, ⟨45, _⟩ => ⟨S8x4096x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x256, .bf16⟩
  | .local _ .vmem, ⟨3, _⟩ => ⟨S1x256x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x128x4096, .bf16⟩
  | .local _ .vmem, ⟨9, _⟩ => ⟨S1x128x4096, .bf16⟩
  | .local _ .vmem, ⟨10, _⟩ => ⟨S1x2048x128, .bf16⟩
  | .local _ .vmem, ⟨11, _⟩ => ⟨S1x2048x128, .bf16⟩
  | .local _ .vmem, ⟨12, _⟩ => ⟨S2x512x2048, .f32⟩
  | .local _ .vmem, ⟨13, _⟩ => ⟨S2x512x2048, .f32⟩
  | .local _ .vmem, ⟨14, _⟩ => ⟨S2x512x2048, .bf16⟩
  | .local _ .vmem, ⟨15, _⟩ => ⟨S2x512x2048, .bf16⟩
  | .local _ .vmem, ⟨16, _⟩ => ⟨S2x80x2048, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c0_i32_36 : BitVec 32 := 0#32
  c0_i32_36
def k0_mult4 : BitVec 32 :=
  let c256_i32_46 : BitVec 32 := 256#32
  c256_i32_46
def k0_mult5 : BitVec 32 :=
  let c0_i32_57 : BitVec 32 := 0#32
  c0_i32_57
def k0_mult6 : BitVec 32 :=
  let c256_i32_68 : BitVec 32 := 256#32
  c256_i32_68
def k0_mult7 : BitVec 32 :=
  let c0_i32_79 : BitVec 32 := 0#32
  c0_i32_79
def k0_mult8 : BitVec 32 :=
  let c256_i32_90 : BitVec 32 := 256#32
  c256_i32_90
def k0_mult9 : BitVec 32 :=
  let c0_i32_101 : BitVec 32 := 0#32
  c0_i32_101
def k0_mult10 : BitVec 32 :=
  let c256_i32_111 : BitVec 32 := 256#32
  c256_i32_111
def k0_mult11 : BitVec 32 :=
  let c0_i32_122 : BitVec 32 := 0#32
  c0_i32_122
def k0_mult12 : BitVec 32 :=
  let c256_i32_133 : BitVec 32 := 256#32
  c256_i32_133
def k0_mult13 : BitVec 32 :=
  let c0_i32_144 : BitVec 32 := 0#32
  c0_i32_144
def k0_mult14 : BitVec 32 :=
  let c256_i32_154 : BitVec 32 := 256#32
  c256_i32_154
def k0_mult15 : BitVec 32 :=
  let c0_i32_165 : BitVec 32 := 0#32
  c0_i32_165
def k0_mult16 : BitVec 32 :=
  let c256_i32_176 : BitVec 32 := 256#32
  c256_i32_176
def k0_mult17 : BitVec 32 :=
  let c0_i32_187 : BitVec 32 := 0#32
  c0_i32_187
def k0_mult18 : BitVec 32 :=
  let c256_i32_197 : BitVec 32 := 256#32
  c256_i32_197
def k0_mult19 : BitVec 32 :=
  let c0_i32_208 : BitVec 32 := 0#32
  c0_i32_208
def k0_mult20 : BitVec 32 :=
  let c256_i32_219 : BitVec 32 := 256#32
  c256_i32_219
def k0_mult21 : BitVec 32 :=
  let c0_i32_230 : BitVec 32 := 0#32
  c0_i32_230
def k0_mult22 : BitVec 32 :=
  let c256_i32_240 : BitVec 32 := 256#32
  c256_i32_240
def k0_mult23 : BitVec 32 :=
  let c0_i32_251 : BitVec 32 := 0#32
  c0_i32_251
def k0_mult24 : BitVec 32 :=
  let c256_i32_262 : BitVec 32 := 256#32
  c256_i32_262
def k0_mult25 : BitVec 32 :=
  let c0_i32_273 : BitVec 32 := 0#32
  c0_i32_273
def k0_mult26 : BitVec 32 :=
  let c256_i32_283 : BitVec 32 := 256#32
  c256_i32_283
def k0_mult27 : BitVec 32 :=
  let c0_i32_294 : BitVec 32 := 0#32
  c0_i32_294
def k0_mult28 : BitVec 32 :=
  let c256_i32_305 : BitVec 32 := 256#32
  c256_i32_305
def k0_mult29 : BitVec 32 :=
  let c0_i32_316 : BitVec 32 := 0#32
  c0_i32_316
def k0_mult30 : BitVec 32 :=
  let c256_i32_326 : BitVec 32 := 256#32
  c256_i32_326
def k0_mult31 : BitVec 32 :=
  let c0_i32_337 : BitVec 32 := 0#32
  c0_i32_337
def k0_mult32 : BitVec 32 :=
  let c256_i32_348 : BitVec 32 := 256#32
  c256_i32_348
def k0_mult33 : BitVec 32 :=
  let c512_i32 : BitVec 32 := 512#32
  c512_i32
def k0_mult34 : BitVec 32 :=
  let c768_i32 : BitVec 32 := 768#32
  c768_i32
def k0_mult35 : BitVec 32 :=
  let c512_i32_391 : BitVec 32 := 512#32
  c512_i32_391
def k0_mult36 : BitVec 32 :=
  let c768_i32_402 : BitVec 32 := 768#32
  c768_i32_402
def k0_mult37 : BitVec 32 :=
  let c512_i32_423 : BitVec 32 := 512#32
  c512_i32_423
def k0_mult38 : BitVec 32 :=
  let c768_i32_434 : BitVec 32 := 768#32
  c768_i32_434
def k0_mult39 : BitVec 32 :=
  let c512_i32_455 : BitVec 32 := 512#32
  c512_i32_455
def k0_mult40 : BitVec 32 :=
  let c768_i32_466 : BitVec 32 := 768#32
  c768_i32_466
def k0_mult41 : BitVec 32 :=
  let c512_i32_487 : BitVec 32 := 512#32
  c512_i32_487
def k0_mult42 : BitVec 32 :=
  let c768_i32_498 : BitVec 32 := 768#32
  c768_i32_498
def k0_mult43 : BitVec 32 :=
  let c512_i32_519 : BitVec 32 := 512#32
  c512_i32_519
def k0_mult44 : BitVec 32 :=
  let c768_i32_530 : BitVec 32 := 768#32
  c768_i32_530
def k0_mult45 : BitVec 32 :=
  let c512_i32_551 : BitVec 32 := 512#32
  c512_i32_551
def k0_mult46 : BitVec 32 :=
  let c768_i32_562 : BitVec 32 := 768#32
  c768_i32_562
def k0_mult47 : BitVec 32 :=
  let c512_i32_583 : BitVec 32 := 512#32
  c512_i32_583
def k0_mult48 : BitVec 32 :=
  let c768_i32_594 : BitVec 32 := 768#32
  c768_i32_594
def k0_mult49 : BitVec 32 :=
  let c512_i32_615 : BitVec 32 := 512#32
  c512_i32_615
def k0_mult50 : BitVec 32 :=
  let c768_i32_626 : BitVec 32 := 768#32
  c768_i32_626
def k0_mult51 : BitVec 32 :=
  let c512_i32_647 : BitVec 32 := 512#32
  c512_i32_647
def k0_mult52 : BitVec 32 :=
  let c768_i32_658 : BitVec 32 := 768#32
  c768_i32_658
def k0_mult53 : BitVec 32 :=
  let c512_i32_679 : BitVec 32 := 512#32
  c512_i32_679
def k0_mult54 : BitVec 32 :=
  let c768_i32_690 : BitVec 32 := 768#32
  c768_i32_690
def k0_mult55 : BitVec 32 :=
  let c512_i32_711 : BitVec 32 := 512#32
  c512_i32_711
def k0_mult56 : BitVec 32 :=
  let c768_i32_722 : BitVec 32 := 768#32
  c768_i32_722
def k0_mult57 : BitVec 32 :=
  let c512_i32_743 : BitVec 32 := 512#32
  c512_i32_743
def k0_mult58 : BitVec 32 :=
  let c768_i32_754 : BitVec 32 := 768#32
  c768_i32_754
def k0_mult59 : BitVec 32 :=
  let c512_i32_775 : BitVec 32 := 512#32
  c512_i32_775
def k0_mult60 : BitVec 32 :=
  let c768_i32_786 : BitVec 32 := 768#32
  c768_i32_786
def k0_mult61 : BitVec 32 :=
  let c512_i32_807 : BitVec 32 := 512#32
  c512_i32_807
def k0_mult62 : BitVec 32 :=
  let c768_i32_818 : BitVec 32 := 768#32
  c768_i32_818
def k0_mult63 : BitVec 32 :=
  let c512_i32_839 : BitVec 32 := 512#32
  c512_i32_839
def k0_mult64 : BitVec 32 :=
  let c768_i32_850 : BitVec 32 := 768#32
  c768_i32_850
@[reducible] def k0_t1_loop : Scf.Loop 32 :=
  let c0_i32_967 : BitVec 32 := 0#32
  let c3_i32 : BitVec 32 := 3#32
  let v1208 : BitVec 32 := Scalar.addi c0_i32_967 c3_i32
  let c1_i32 : BitVec 32 := 1#32
  ⟨c0_i32_967, v1208, c1_i32⟩
def k0_mult65 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  v1907
def k0_mult66 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1494 : BitVec 32 := 0#32
  let v1910 : BitVec 32 := Scalar.addi v1909 c0_i32_1494
  v1910
def k0_off1 (k0_t1 : Fin k0_t1_loop.trips) (c1024_i32 : BitVec 32) (c0_i32_1494 : BitVec 32) : Fin 3 → Nat :=
  let c0_1495 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1909 : BitVec 32 := Scalar.addi v1908 c1024_i32
  let v1910 : BitVec 32 := Scalar.addi v1909 c0_i32_1494
  let v1911 : BitVec 32 := v1910
  let v1912 : Index := Scalar.indexCast v1911
  let c0_1496 : Index := 0#32
  ![0, v1912.toNat, 0]
def k0_mult67 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1505 : BitVec 32 := 256#32
  let v1923 : BitVec 32 := Scalar.addi v1909 c256_i32_1505
  v1923
def k0_mult68 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_off2 (k0_t1 : Fin k0_t1_loop.trips) : Fin 3 → Nat :=
  let c0_1516 : Index := 0#32
  let c0_1517 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1937 : BitVec 32 := v1908
  let v1938 : Index := Scalar.indexCast v1937
  ![0, 0, v1938.toNat]
def k0_mult69 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1528 : BitVec 32 := 0#32
  let v1953 : BitVec 32 := Scalar.addi v1909 c0_i32_1528
  v1953
def k0_off3 (k0_t1 : Fin k0_t1_loop.trips) (c1024_i32 : BitVec 32) (c0_i32_1528 : BitVec 32) : Fin 3 → Nat :=
  let c0_1529 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1909 : BitVec 32 := Scalar.addi v1908 c1024_i32
  let v1953 : BitVec 32 := Scalar.addi v1909 c0_i32_1528
  let v1954 : BitVec 32 := v1953
  let v1955 : Index := Scalar.indexCast v1954
  let c128_1530 : Index := 128#32
  ![0, v1955.toNat, 128]
def k0_mult70 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1539 : BitVec 32 := 256#32
  let v1966 : BitVec 32 := Scalar.addi v1909 c256_i32_1539
  v1966
def k0_mult71 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult72 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1562 : BitVec 32 := 0#32
  let v1996 : BitVec 32 := Scalar.addi v1909 c0_i32_1562
  v1996
def k0_mult73 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1573 : BitVec 32 := 256#32
  let v2009 : BitVec 32 := Scalar.addi v1909 c256_i32_1573
  v2009
def k0_mult74 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult75 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1596 : BitVec 32 := 0#32
  let v2039 : BitVec 32 := Scalar.addi v1909 c0_i32_1596
  v2039
def k0_mult76 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1607 : BitVec 32 := 256#32
  let v2052 : BitVec 32 := Scalar.addi v1909 c256_i32_1607
  v2052
def k0_mult77 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult78 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1630 : BitVec 32 := 0#32
  let v2082 : BitVec 32 := Scalar.addi v1909 c0_i32_1630
  v2082
def k0_mult79 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1641 : BitVec 32 := 256#32
  let v2095 : BitVec 32 := Scalar.addi v1909 c256_i32_1641
  v2095
def k0_mult80 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult81 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1664 : BitVec 32 := 0#32
  let v2125 : BitVec 32 := Scalar.addi v1909 c0_i32_1664
  v2125
def k0_mult82 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1675 : BitVec 32 := 256#32
  let v2138 : BitVec 32 := Scalar.addi v1909 c256_i32_1675
  v2138
def k0_mult83 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult84 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1698 : BitVec 32 := 0#32
  let v2168 : BitVec 32 := Scalar.addi v1909 c0_i32_1698
  v2168
def k0_mult85 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1709 : BitVec 32 := 256#32
  let v2181 : BitVec 32 := Scalar.addi v1909 c256_i32_1709
  v2181
def k0_mult86 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult87 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1732 : BitVec 32 := 0#32
  let v2211 : BitVec 32 := Scalar.addi v1909 c0_i32_1732
  v2211
def k0_mult88 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1743 : BitVec 32 := 256#32
  let v2224 : BitVec 32 := Scalar.addi v1909 c256_i32_1743
  v2224
def k0_mult89 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult90 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1766 : BitVec 32 := 0#32
  let v2254 : BitVec 32 := Scalar.addi v1909 c0_i32_1766
  v2254
def k0_mult91 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1777 : BitVec 32 := 256#32
  let v2267 : BitVec 32 := Scalar.addi v1909 c256_i32_1777
  v2267
def k0_mult92 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult93 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1800 : BitVec 32 := 0#32
  let v2297 : BitVec 32 := Scalar.addi v1909 c0_i32_1800
  v2297
def k0_mult94 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1811 : BitVec 32 := 256#32
  let v2310 : BitVec 32 := Scalar.addi v1909 c256_i32_1811
  v2310
def k0_mult95 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult96 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1834 : BitVec 32 := 0#32
  let v2340 : BitVec 32 := Scalar.addi v1909 c0_i32_1834
  v2340
def k0_mult97 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1845 : BitVec 32 := 256#32
  let v2353 : BitVec 32 := Scalar.addi v1909 c256_i32_1845
  v2353
def k0_mult98 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult99 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1868 : BitVec 32 := 0#32
  let v2383 : BitVec 32 := Scalar.addi v1909 c0_i32_1868
  v2383
def k0_mult100 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1879 : BitVec 32 := 256#32
  let v2396 : BitVec 32 := Scalar.addi v1909 c256_i32_1879
  v2396
def k0_mult101 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult102 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1902 : BitVec 32 := 0#32
  let v2426 : BitVec 32 := Scalar.addi v1909 c0_i32_1902
  v2426
def k0_mult103 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1913 : BitVec 32 := 256#32
  let v2439 : BitVec 32 := Scalar.addi v1909 c256_i32_1913
  v2439
def k0_mult104 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult105 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1936 : BitVec 32 := 0#32
  let v2469 : BitVec 32 := Scalar.addi v1909 c0_i32_1936
  v2469
def k0_mult106 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1947 : BitVec 32 := 256#32
  let v2482 : BitVec 32 := Scalar.addi v1909 c256_i32_1947
  v2482
def k0_mult107 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult108 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1970 : BitVec 32 := 0#32
  let v2512 : BitVec 32 := Scalar.addi v1909 c0_i32_1970
  v2512
def k0_mult109 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1981 : BitVec 32 := 256#32
  let v2525 : BitVec 32 := Scalar.addi v1909 c256_i32_1981
  v2525
def k0_mult110 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult111 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_2004 : BitVec 32 := 0#32
  let v2555 : BitVec 32 := Scalar.addi v1909 c0_i32_2004
  v2555
def k0_mult112 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_2015 : BitVec 32 := 256#32
  let v2568 : BitVec 32 := Scalar.addi v1909 c256_i32_2015
  v2568
def k0_mult113 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult114 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2135 : BitVec 32 := 0#32
  let v2768 : BitVec 32 := Scalar.addi v2766 c0_i32_2135
  v2768
def k0_mult115 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2146 : BitVec 32 := 256#32
  let v2781 : BitVec 32 := Scalar.addi v2766 c256_i32_2146
  v2781
def k0_mult116 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_off4 (k0_t1 : Fin k0_t1_loop.trips) : Fin 3 → Nat :=
  let c0_2157 : Index := 0#32
  let c0_2158 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  let v2795 : BitVec 32 := v2767
  let v2796 : Index := Scalar.indexCast v2795
  ![0, 0, v2796.toNat]
def k0_mult117 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2169 : BitVec 32 := 0#32
  let v2811 : BitVec 32 := Scalar.addi v2766 c0_i32_2169
  v2811
def k0_mult118 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2180 : BitVec 32 := 256#32
  let v2824 : BitVec 32 := Scalar.addi v2766 c256_i32_2180
  v2824
def k0_mult119 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult120 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2203 : BitVec 32 := 0#32
  let v2854 : BitVec 32 := Scalar.addi v2766 c0_i32_2203
  v2854
def k0_mult121 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2214 : BitVec 32 := 256#32
  let v2867 : BitVec 32 := Scalar.addi v2766 c256_i32_2214
  v2867
def k0_mult122 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult123 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2237 : BitVec 32 := 0#32
  let v2897 : BitVec 32 := Scalar.addi v2766 c0_i32_2237
  v2897
def k0_mult124 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2248 : BitVec 32 := 256#32
  let v2910 : BitVec 32 := Scalar.addi v2766 c256_i32_2248
  v2910
def k0_mult125 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult126 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2271 : BitVec 32 := 0#32
  let v2940 : BitVec 32 := Scalar.addi v2766 c0_i32_2271
  v2940
def k0_mult127 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2282 : BitVec 32 := 256#32
  let v2953 : BitVec 32 := Scalar.addi v2766 c256_i32_2282
  v2953
def k0_mult128 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult129 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2305 : BitVec 32 := 0#32
  let v2983 : BitVec 32 := Scalar.addi v2766 c0_i32_2305
  v2983
def k0_mult130 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2316 : BitVec 32 := 256#32
  let v2996 : BitVec 32 := Scalar.addi v2766 c256_i32_2316
  v2996
def k0_mult131 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult132 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2339 : BitVec 32 := 0#32
  let v3026 : BitVec 32 := Scalar.addi v2766 c0_i32_2339
  v3026
def k0_mult133 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2350 : BitVec 32 := 256#32
  let v3039 : BitVec 32 := Scalar.addi v2766 c256_i32_2350
  v3039
def k0_mult134 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult135 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2373 : BitVec 32 := 0#32
  let v3069 : BitVec 32 := Scalar.addi v2766 c0_i32_2373
  v3069
def k0_mult136 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2384 : BitVec 32 := 256#32
  let v3082 : BitVec 32 := Scalar.addi v2766 c256_i32_2384
  v3082
def k0_mult137 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult138 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2407 : BitVec 32 := 0#32
  let v3112 : BitVec 32 := Scalar.addi v2766 c0_i32_2407
  v3112
def k0_mult139 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2418 : BitVec 32 := 256#32
  let v3125 : BitVec 32 := Scalar.addi v2766 c256_i32_2418
  v3125
def k0_mult140 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult141 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2441 : BitVec 32 := 0#32
  let v3155 : BitVec 32 := Scalar.addi v2766 c0_i32_2441
  v3155
def k0_mult142 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2452 : BitVec 32 := 256#32
  let v3168 : BitVec 32 := Scalar.addi v2766 c256_i32_2452
  v3168
def k0_mult143 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult144 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2475 : BitVec 32 := 0#32
  let v3198 : BitVec 32 := Scalar.addi v2766 c0_i32_2475
  v3198
def k0_mult145 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2486 : BitVec 32 := 256#32
  let v3211 : BitVec 32 := Scalar.addi v2766 c256_i32_2486
  v3211
def k0_mult146 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult147 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2509 : BitVec 32 := 0#32
  let v3241 : BitVec 32 := Scalar.addi v2766 c0_i32_2509
  v3241
def k0_mult148 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2520 : BitVec 32 := 256#32
  let v3254 : BitVec 32 := Scalar.addi v2766 c256_i32_2520
  v3254
def k0_mult149 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult150 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2543 : BitVec 32 := 0#32
  let v3284 : BitVec 32 := Scalar.addi v2766 c0_i32_2543
  v3284
def k0_mult151 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2554 : BitVec 32 := 256#32
  let v3297 : BitVec 32 := Scalar.addi v2766 c256_i32_2554
  v3297
def k0_mult152 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult153 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2577 : BitVec 32 := 0#32
  let v3327 : BitVec 32 := Scalar.addi v2766 c0_i32_2577
  v3327
def k0_mult154 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2588 : BitVec 32 := 256#32
  let v3340 : BitVec 32 := Scalar.addi v2766 c256_i32_2588
  v3340
def k0_mult155 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult156 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2611 : BitVec 32 := 0#32
  let v3370 : BitVec 32 := Scalar.addi v2766 c0_i32_2611
  v3370
def k0_mult157 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2622 : BitVec 32 := 256#32
  let v3383 : BitVec 32 := Scalar.addi v2766 c256_i32_2622
  v3383
def k0_mult158 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult159 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2645 : BitVec 32 := 0#32
  let v3413 : BitVec 32 := Scalar.addi v2766 c0_i32_2645
  v3413
def k0_mult160 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2656 : BitVec 32 := 256#32
  let v3426 : BitVec 32 := Scalar.addi v2766 c256_i32_2656
  v3426
def k0_mult161 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult162 : BitVec 32 :=
  let c3072_i32 : BitVec 32 := 3072#32
  c3072_i32
def k0_mult163 : BitVec 32 :=
  let c3072_i32_981 : BitVec 32 := 3072#32
  c3072_i32_981
def k0_mult164 : BitVec 32 :=
  let c3072_i32_994 : BitVec 32 := 3072#32
  c3072_i32_994
def k0_mult165 : BitVec 32 :=
  let c3072_i32_1007 : BitVec 32 := 3072#32
  c3072_i32_1007
def k0_mult166 : BitVec 32 :=
  let c3072_i32_1020 : BitVec 32 := 3072#32
  c3072_i32_1020
def k0_mult167 : BitVec 32 :=
  let c3072_i32_1033 : BitVec 32 := 3072#32
  c3072_i32_1033
def k0_mult168 : BitVec 32 :=
  let c3072_i32_1046 : BitVec 32 := 3072#32
  c3072_i32_1046
def k0_mult169 : BitVec 32 :=
  let c3072_i32_1059 : BitVec 32 := 3072#32
  c3072_i32_1059
def k0_mult170 : BitVec 32 :=
  let c3072_i32_1072 : BitVec 32 := 3072#32
  c3072_i32_1072
def k0_mult171 : BitVec 32 :=
  let c3072_i32_1085 : BitVec 32 := 3072#32
  c3072_i32_1085
def k0_mult172 : BitVec 32 :=
  let c3072_i32_1098 : BitVec 32 := 3072#32
  c3072_i32_1098
def k0_mult173 : BitVec 32 :=
  let c3072_i32_1111 : BitVec 32 := 3072#32
  c3072_i32_1111
def k0_mult174 : BitVec 32 :=
  let c3072_i32_1124 : BitVec 32 := 3072#32
  c3072_i32_1124
def k0_mult175 : BitVec 32 :=
  let c3072_i32_1137 : BitVec 32 := 3072#32
  c3072_i32_1137
def k0_mult176 : BitVec 32 :=
  let c3072_i32_1150 : BitVec 32 := 3072#32
  c3072_i32_1150
def k0_mult177 : BitVec 32 :=
  let c3072_i32_1163 : BitVec 32 := 3072#32
  c3072_i32_1163
def k0_mult178 : BitVec 32 :=
  let c3584_i32 : BitVec 32 := 3584#32
  c3584_i32
def k0_mult179 : BitVec 32 :=
  let c3584_i32_1284 : BitVec 32 := 3584#32
  c3584_i32_1284
def k0_mult180 : BitVec 32 :=
  let c3584_i32_1297 : BitVec 32 := 3584#32
  c3584_i32_1297
def k0_mult181 : BitVec 32 :=
  let c3584_i32_1310 : BitVec 32 := 3584#32
  c3584_i32_1310
def k0_mult182 : BitVec 32 :=
  let c3584_i32_1323 : BitVec 32 := 3584#32
  c3584_i32_1323
def k0_mult183 : BitVec 32 :=
  let c3584_i32_1336 : BitVec 32 := 3584#32
  c3584_i32_1336
def k0_mult184 : BitVec 32 :=
  let c3584_i32_1349 : BitVec 32 := 3584#32
  c3584_i32_1349
def k0_mult185 : BitVec 32 :=
  let c3584_i32_1362 : BitVec 32 := 3584#32
  c3584_i32_1362
def k0_mult186 : BitVec 32 :=
  let c3584_i32_1375 : BitVec 32 := 3584#32
  c3584_i32_1375
def k0_mult187 : BitVec 32 :=
  let c3584_i32_1388 : BitVec 32 := 3584#32
  c3584_i32_1388
def k0_mult188 : BitVec 32 :=
  let c3584_i32_1401 : BitVec 32 := 3584#32
  c3584_i32_1401
def k0_mult189 : BitVec 32 :=
  let c3584_i32_1414 : BitVec 32 := 3584#32
  c3584_i32_1414
def k0_mult190 : BitVec 32 :=
  let c3584_i32_1427 : BitVec 32 := 3584#32
  c3584_i32_1427
def k0_mult191 : BitVec 32 :=
  let c3584_i32_1440 : BitVec 32 := 3584#32
  c3584_i32_1440
def k0_mult192 : BitVec 32 :=
  let c3584_i32_1453 : BitVec 32 := 3584#32
  c3584_i32_1453
def k0_mult193 : BitVec 32 :=
  let c3584_i32_1466 : BitVec 32 := 3584#32
  c3584_i32_1466
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x8x64 : Shape := ⟨4, ![8, 4096, 8, 64]⟩
abbrev S8x256x2x64 : Shape := ⟨4, ![8, 256, 2, 64]⟩
abbrev S8x4096x2x64 : Shape := ⟨4, ![8, 4096, 2, 64]⟩
abbrev S8x4096x2x4x64 : Shape := ⟨5, ![8, 4096, 2, 4, 64]⟩
abbrev S8x4352x2x64 : Shape := ⟨4, ![8, 4352, 2, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x256x2x64, .f32⟩
  | .hbm, ⟨2, _⟩ => ⟨S8x256x2x64, .f32⟩
  | .hbm, ⟨3, _⟩ => ⟨S8x4096x2x64, .f32⟩
  | .hbm, ⟨4, _⟩ => ⟨S8x4096x2x64, .f32⟩
  | .hbm, ⟨5, _⟩ => ⟨S8x4096x2x4x64, .f32⟩
  | .hbm, ⟨6, _⟩ => ⟨S8x4352x2x64, .f32⟩
  | .hbm, ⟨7, _⟩ => ⟨S8x4352x2x64, .f32⟩
  | .hbm, ⟨8, _⟩ => ⟨S8x2x4352x4096x4, .f32⟩
  | .hbm, ⟨9, _⟩ => ⟨S8x2x4x4096x4352, .f32⟩
  | .hbm, ⟨10, _⟩ => ⟨S_, .f32⟩
  | .hbm, ⟨11, _⟩ => ⟨S8x2x4x4096x4352, .f32⟩
  | .hbm, ⟨12, _⟩ => ⟨S8x2x4x4096x4352, .f32⟩
  | .hbm, ⟨13, _⟩ => ⟨S_, .f32⟩
  | .hbm, ⟨14, _⟩ => ⟨S8x2x4x4096, .f32⟩
  | .hbm, ⟨15, _⟩ => ⟨S_, .f32⟩
  | .hbm, ⟨16, _⟩ => ⟨S8x2x4x4096, .f32⟩
  | .hbm, ⟨17, _⟩ => ⟨S8x2x4x4096, .f32⟩
  | .hbm, ⟨18, _⟩ => ⟨S8x2x4x4096x1, .f32⟩
  | .hbm, ⟨19, _⟩ => ⟨S8x2x4x4096x4352, .f32⟩
  | .hbm, ⟨20, _⟩ => ⟨S8x2x4x4096x4352, .f32⟩
  | .hbm, ⟨21, _⟩ => ⟨S8x2x4x4096x4352, .f32⟩
  | .hbm, ⟨22, _⟩ => ⟨S_, .f32⟩
  | .hbm, ⟨23, _⟩ => ⟨S8x2x4x4096, .f32⟩
  | .hbm, ⟨24, _⟩ => ⟨S8x2x4x4096x1, .f32⟩
  | .hbm, ⟨25, _⟩ => ⟨S8x2x4x4096x4352, .f32⟩
  | .hbm, ⟨26, _⟩ => ⟨S8x2x4x4096x4352, .f32⟩
  | .hbm, ⟨27, _⟩ => ⟨S8x2x64x4x4096, .f32⟩
  | .hbm, ⟨28, _⟩ => ⟨S8x4096x2x4x64, .f32⟩
  | .hbm, ⟨29, _⟩ => ⟨S8x4096x512, .f32⟩
  | .hbm, ⟨30, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== LatentKernel.lean ====
abbrev S8x4096x8x96 : Shape := ⟨4, ![8, 4096, 8, 96]⟩
abbrev S8x256x8x96 : Shape := ⟨4, ![8, 256, 8, 96]⟩
abbrev S8x256x8x64 : Shape := ⟨4, ![8, 256, 8, 64]⟩
abbrev S8x4096x8x64 : Shape := ⟨4, ![8, 4096, 8, 64]⟩
abbrev S_ : Shape := ⟨0, ![]⟩
abbrev S8x4096x8x32 : Shape := ⟨4, ![8, 4096, 8, 32]⟩
abbrev S8x4096x8x128 : Shape := ⟨4, ![8, 4096, 8, 128]⟩
abbrev S8x4096x1024 : Shape := ⟨3, ![8, 4096, 1024]⟩
abbrev S8x256x8x32 : Shape := ⟨4, ![8, 256, 8, 32]⟩
abbrev S8x256x8x128 : Shape := ⟨4, ![8, 256, 8, 128]⟩
abbrev S8x256x1024 : Shape := ⟨3, ![8, 256, 1024]⟩
abbrev S8x8x64x256 : Shape := ⟨4, ![8, 8, 64, 256]⟩
abbrev S8x8x1x256 : Shape := ⟨4, ![8, 8, 1, 256]⟩
abbrev S8x8x63x256 : Shape := ⟨4, ![8, 8, 63, 256]⟩
abbrev S8x8x128x256 : Shape := ⟨4, ![8, 8, 128, 256]⟩
abbrev S8x1024x256 : Shape := ⟨3, ![8, 1024, 256]⟩
abbrev S8x8x64x4096 : Shape := ⟨4, ![8, 8, 64, 4096]⟩
abbrev S8x8x1x4096 : Shape := ⟨4, ![8, 8, 1, 4096]⟩
abbrev S8x8x63x4096 : Shape := ⟨4, ![8, 8, 63, 4096]⟩
abbrev S8x8x128x4096 : Shape := ⟨4, ![8, 8, 128, 4096]⟩
abbrev S8x1024x4096 : Shape := ⟨3, ![8, 1024, 4096]⟩
abbrev S8x4096x512 : Shape := ⟨3, ![8, 4096, 512]⟩
abbrev S1x2048x256 : Shape := ⟨3, ![1, 2048, 256]⟩
abbrev S1x256x256 : Shape := ⟨3, ![1, 256, 256]⟩
abbrev S1x4096x256 : Shape := ⟨3, ![1, 4096, 256]⟩
abbrev S1x256x4096 : Shape := ⟨3, ![1, 256, 4096]⟩
abbrev S1x2048x128 : Shape := ⟨3, ![1, 2048, 128]⟩
abbrev S2x512x2048 : Shape := ⟨3, ![2, 512, 2048]⟩
abbrev S2x80x2048 : Shape := ⟨3, ![2, 80, 2048]⟩
abbrev S1x2048 : Shape := ⟨2, ![1, 2048]⟩
abbrev S1x256x128 : Shape := ⟨3, ![1, 256, 128]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S1x256 : Shape := ⟨2, ![1, 256]⟩
abbrev S2048 : Shape := ⟨1, ![2048]⟩
abbrev S1x80x256 : Shape := ⟨3, ![1, 80, 256]⟩
abbrev S80x256 : Shape := ⟨2, ![80, 256]⟩
abbrev S1x512x256 : Shape := ⟨3, ![1, 512, 256]⟩
abbrev S512x256 : Shape := ⟨2, ![512, 256]⟩
abbrev S1x80x512 : Shape := ⟨3, ![1, 80, 512]⟩
abbrev S80x512 : Shape := ⟨2, ![80, 512]⟩
abbrev S1x64x2048 : Shape := ⟨3, ![1, 64, 2048]⟩
abbrev S64x2048 : Shape := ⟨2, ![64, 2048]⟩
abbrev S1x1x2048 : Shape := ⟨3, ![1, 1, 2048]⟩
abbrev S128x2048 : Shape := ⟨2, ![128, 2048]⟩

abbrev nBuf : Space → Nat
  | .hbm => 43
  | .vmem => 17
  | .smem => 0
  | _ => 0

abbrev bufTy : (tb : Table) → Fin (tcTables nBuf tb) → BufTy
  | .hbm, ⟨0, _⟩ => ⟨S8x4096x8x96, .f32⟩
  | .hbm, ⟨1, _⟩ => ⟨S8x256x8x96, .f32⟩
  | .hbm, ⟨2, _⟩ => ⟨S8x256x8x64, .f32⟩
  | .hbm, ⟨3, _⟩ => ⟨S8x4096x8x96, .f32⟩
  | .hbm, ⟨4, _⟩ => ⟨S8x4096x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x8x96, .f32⟩
  | .hbm, ⟨10, _⟩ => ⟨S8x4096x8x96, .f32⟩
  | .hbm, ⟨11, _⟩ => ⟨S_, .f32⟩
  | .hbm, ⟨12, _⟩ => ⟨S8x4096x8x32, .f32⟩
  | .hbm, ⟨13, _⟩ => ⟨S8x4096x8x128, .f32⟩
  | .hbm, ⟨14, _⟩ => ⟨S8x4096x1024, .f32⟩
  | .hbm, ⟨15, _⟩ => ⟨S8x4096x1024, .bf16⟩
  | .hbm, ⟨16, _⟩ => ⟨S_, .f32⟩
  | .hbm, ⟨17, _⟩ => ⟨S8x256x8x32, .f32⟩
  | .hbm, ⟨18, _⟩ => ⟨S8x256x8x128, .f32⟩
  | .hbm, ⟨19, _⟩ => ⟨S8x256x1024, .f32⟩
  | .hbm, ⟨20, _⟩ => ⟨S8x256x1024, .bf16⟩
  | .hbm, ⟨21, _⟩ => ⟨S8x8x64x256, .f32⟩
  | .hbm, ⟨22, _⟩ => ⟨S_, .f32⟩
  | .hbm, ⟨23, _⟩ => ⟨S8x8x1x256, .f32⟩
  | .hbm, ⟨24, _⟩ => ⟨S_, .f32⟩
  | .hbm, ⟨25, _⟩ => ⟨S8x8x63x256, .f32⟩
  | .hbm, ⟨26, _⟩ => ⟨S8x8x128x256, .f32⟩
  | .hbm, ⟨27, _⟩ => ⟨S8x1024x256, .f32⟩
  | .hbm, ⟨28, _⟩ => ⟨S8x1024x256, .bf16⟩
  | .hbm, ⟨29, _⟩ => ⟨S_, .f32⟩
  | .hbm, ⟨30, _⟩ => ⟨S8x4096x8x32, .f32⟩
  | .hbm, ⟨31, _⟩ => ⟨S8x4096x8x128, .f32⟩
  | .hbm, ⟨32, _⟩ => ⟨S8x4096x1024, .f32⟩
  | .hbm, ⟨33, _⟩ => ⟨S8x4096x1024, .bf16⟩
  | .hbm, ⟨34, _⟩ => ⟨S8x8x64x4096, .f32⟩
  | .hbm, ⟨35, _⟩ => ⟨S_, .f32⟩
  | .hbm, ⟨36, _⟩ => ⟨S8x8x1x4096, .f32⟩
  | .hbm, ⟨37, _⟩ => ⟨S_, .f32⟩
  | .hbm, ⟨38, _⟩ => ⟨S8x8x63x4096, .f32⟩
  | .hbm, ⟨39, _⟩ => ⟨S8x8x128x4096, .f32⟩
  | .hbm, ⟨40, _⟩ => ⟨S8x1024x4096, .f32⟩
  | .hbm, ⟨41, _⟩ => ⟨S8x1024x4096, .bf16⟩
  | .hbm, ⟨42, _⟩ => ⟨S8x4096x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x2048x128, .bf16⟩
  | .local _ .vmem, ⟨11, _⟩ => ⟨S1x2048x128, .bf16⟩
  | .local _ .vmem, ⟨12, _⟩ => ⟨S2x512x2048, .f32⟩
  | .local _ .vmem, ⟨13, _⟩ => ⟨S2x512x2048, .f32⟩
  | .local _ .vmem, ⟨14, _⟩ => ⟨S2x512x2048, .bf16⟩
  | .local _ .vmem, ⟨15, _⟩ => ⟨S2x512x2048, .bf16⟩
  | .local _ .vmem, ⟨16, _⟩ => ⟨S2x80x2048, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c0_i32_36 : BitVec 32 := 0#32
  c0_i32_36
def k0_mult4 : BitVec 32 :=
  let c256_i32_46 : BitVec 32 := 256#32
  c256_i32_46
def k0_mult5 : BitVec 32 :=
  let c0_i32_57 : BitVec 32 := 0#32
  c0_i32_57
def k0_mult6 : BitVec 32 :=
  let c256_i32_68 : BitVec 32 := 256#32
  c256_i32_68
def k0_mult7 : BitVec 32 :=
  let c0_i32_79 : BitVec 32 := 0#32
  c0_i32_79
def k0_mult8 : BitVec 32 :=
  let c256_i32_90 : BitVec 32 := 256#32
  c256_i32_90
def k0_mult9 : BitVec 32 :=
  let c0_i32_101 : BitVec 32 := 0#32
  c0_i32_101
def k0_mult10 : BitVec 32 :=
  let c256_i32_111 : BitVec 32 := 256#32
  c256_i32_111
def k0_mult11 : BitVec 32 :=
  let c0_i32_122 : BitVec 32 := 0#32
  c0_i32_122
def k0_mult12 : BitVec 32 :=
  let c256_i32_133 : BitVec 32 := 256#32
  c256_i32_133
def k0_mult13 : BitVec 32 :=
  let c0_i32_144 : BitVec 32 := 0#32
  c0_i32_144
def k0_mult14 : BitVec 32 :=
  let c256_i32_154 : BitVec 32 := 256#32
  c256_i32_154
def k0_mult15 : BitVec 32 :=
  let c0_i32_165 : BitVec 32 := 0#32
  c0_i32_165
def k0_mult16 : BitVec 32 :=
  let c256_i32_176 : BitVec 32 := 256#32
  c256_i32_176
def k0_mult17 : BitVec 32 :=
  let c0_i32_187 : BitVec 32 := 0#32
  c0_i32_187
def k0_mult18 : BitVec 32 :=
  let c256_i32_197 : BitVec 32 := 256#32
  c256_i32_197
def k0_mult19 : BitVec 32 :=
  let c0_i32_208 : BitVec 32 := 0#32
  c0_i32_208
def k0_mult20 : BitVec 32 :=
  let c256_i32_219 : BitVec 32 := 256#32
  c256_i32_219
def k0_mult21 : BitVec 32 :=
  let c0_i32_230 : BitVec 32 := 0#32
  c0_i32_230
def k0_mult22 : BitVec 32 :=
  let c256_i32_240 : BitVec 32 := 256#32
  c256_i32_240
def k0_mult23 : BitVec 32 :=
  let c0_i32_251 : BitVec 32 := 0#32
  c0_i32_251
def k0_mult24 : BitVec 32 :=
  let c256_i32_262 : BitVec 32 := 256#32
  c256_i32_262
def k0_mult25 : BitVec 32 :=
  let c0_i32_273 : BitVec 32 := 0#32
  c0_i32_273
def k0_mult26 : BitVec 32 :=
  let c256_i32_283 : BitVec 32 := 256#32
  c256_i32_283
def k0_mult27 : BitVec 32 :=
  let c0_i32_294 : BitVec 32 := 0#32
  c0_i32_294
def k0_mult28 : BitVec 32 :=
  let c256_i32_305 : BitVec 32 := 256#32
  c256_i32_305
def k0_mult29 : BitVec 32 :=
  let c0_i32_316 : BitVec 32 := 0#32
  c0_i32_316
def k0_mult30 : BitVec 32 :=
  let c256_i32_326 : BitVec 32 := 256#32
  c256_i32_326
def k0_mult31 : BitVec 32 :=
  let c0_i32_337 : BitVec 32 := 0#32
  c0_i32_337
def k0_mult32 : BitVec 32 :=
  let c256_i32_348 : BitVec 32 := 256#32
  c256_i32_348
def k0_mult33 : BitVec 32 :=
  let c512_i32 : BitVec 32 := 512#32
  c512_i32
def k0_mult34 : BitVec 32 :=
  let c768_i32 : BitVec 32 := 768#32
  c768_i32
def k0_mult35 : BitVec 32 :=
  let c512_i32_391 : BitVec 32 := 512#32
  c512_i32_391
def k0_mult36 : BitVec 32 :=
  let c768_i32_402 : BitVec 32 := 768#32
  c768_i32_402
def k0_mult37 : BitVec 32 :=
  let c512_i32_423 : BitVec 32 := 512#32
  c512_i32_423
def k0_mult38 : BitVec 32 :=
  let c768_i32_434 : BitVec 32 := 768#32
  c768_i32_434
def k0_mult39 : BitVec 32 :=
  let c512_i32_455 : BitVec 32 := 512#32
  c512_i32_455
def k0_mult40 : BitVec 32 :=
  let c768_i32_466 : BitVec 32 := 768#32
  c768_i32_466
def k0_mult41 : BitVec 32 :=
  let c512_i32_487 : BitVec 32 := 512#32
  c512_i32_487
def k0_mult42 : BitVec 32 :=
  let c768_i32_498 : BitVec 32 := 768#32
  c768_i32_498
def k0_mult43 : BitVec 32 :=
  let c512_i32_519 : BitVec 32 := 512#32
  c512_i32_519
def k0_mult44 : BitVec 32 :=
  let c768_i32_530 : BitVec 32 := 768#32
  c768_i32_530
def k0_mult45 : BitVec 32 :=
  let c512_i32_551 : BitVec 32 := 512#32
  c512_i32_551
def k0_mult46 : BitVec 32 :=
  let c768_i32_562 : BitVec 32 := 768#32
  c768_i32_562
def k0_mult47 : BitVec 32 :=
  let c512_i32_583 : BitVec 32 := 512#32
  c512_i32_583
def k0_mult48 : BitVec 32 :=
  let c768_i32_594 : BitVec 32 := 768#32
  c768_i32_594
def k0_mult49 : BitVec 32 :=
  let c512_i32_615 : BitVec 32 := 512#32
  c512_i32_615
def k0_mult50 : BitVec 32 :=
  let c768_i32_626 : BitVec 32 := 768#32
  c768_i32_626
def k0_mult51 : BitVec 32 :=
  let c512_i32_647 : BitVec 32 := 512#32
  c512_i32_647
def k0_mult52 : BitVec 32 :=
  let c768_i32_658 : BitVec 32 := 768#32
  c768_i32_658
def k0_mult53 : BitVec 32 :=
  let c512_i32_679 : BitVec 32 := 512#32
  c512_i32_679
def k0_mult54 : BitVec 32 :=
  let c768_i32_690 : BitVec 32 := 768#32
  c768_i32_690
def k0_mult55 : BitVec 32 :=
  let c512_i32_711 : BitVec 32 := 512#32
  c512_i32_711
def k0_mult56 : BitVec 32 :=
  let c768_i32_722 : BitVec 32 := 768#32
  c768_i32_722
def k0_mult57 : BitVec 32 :=
  let c512_i32_743 : BitVec 32 := 512#32
  c512_i32_743
def k0_mult58 : BitVec 32 :=
  let c768_i32_754 : BitVec 32 := 768#32
  c768_i32_754
def k0_mult59 : BitVec 32 :=
  let c512_i32_775 : BitVec 32 := 512#32
  c512_i32_775
def k0_mult60 : BitVec 32 :=
  let c768_i32_786 : BitVec 32 := 768#32
  c768_i32_786
def k0_mult61 : BitVec 32 :=
  let c512_i32_807 : BitVec 32 := 512#32
  c512_i32_807
def k0_mult62 : BitVec 32 :=
  let c768_i32_818 : BitVec 32 := 768#32
  c768_i32_818
def k0_mult63 : BitVec 32 :=
  let c512_i32_839 : BitVec 32 := 512#32
  c512_i32_839
def k0_mult64 : BitVec 32 :=
  let c768_i32_850 : BitVec 32 := 768#32
  c768_i32_850
@[reducible] def k0_t1_loop : Scf.Loop 32 :=
  let c0_i32_967 : BitVec 32 := 0#32
  let c3_i32 : BitVec 32 := 3#32
  let v1208 : BitVec 32 := Scalar.addi c0_i32_967 c3_i32
  let c1_i32 : BitVec 32 := 1#32
  ⟨c0_i32_967, v1208, c1_i32⟩
def k0_mult65 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  v1907
def k0_mult66 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1494 : BitVec 32 := 0#32
  let v1910 : BitVec 32 := Scalar.addi v1909 c0_i32_1494
  v1910
def k0_off1 (k0_t1 : Fin k0_t1_loop.trips) (c1024_i32 : BitVec 32) (c0_i32_1494 : BitVec 32) : Fin 3 → Nat :=
  let c0_1495 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1909 : BitVec 32 := Scalar.addi v1908 c1024_i32
  let v1910 : BitVec 32 := Scalar.addi v1909 c0_i32_1494
  let v1911 : BitVec 32 := v1910
  let v1912 : Index := Scalar.indexCast v1911
  let c0_1496 : Index := 0#32
  ![0, v1912.toNat, 0]
def k0_mult67 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1505 : BitVec 32 := 256#32
  let v1923 : BitVec 32 := Scalar.addi v1909 c256_i32_1505
  v1923
def k0_mult68 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_off2 (k0_t1 : Fin k0_t1_loop.trips) : Fin 3 → Nat :=
  let c0_1516 : Index := 0#32
  let c0_1517 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1937 : BitVec 32 := v1908
  let v1938 : Index := Scalar.indexCast v1937
  ![0, 0, v1938.toNat]
def k0_mult69 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1528 : BitVec 32 := 0#32
  let v1953 : BitVec 32 := Scalar.addi v1909 c0_i32_1528
  v1953
def k0_off3 (k0_t1 : Fin k0_t1_loop.trips) (c1024_i32 : BitVec 32) (c0_i32_1528 : BitVec 32) : Fin 3 → Nat :=
  let c0_1529 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1909 : BitVec 32 := Scalar.addi v1908 c1024_i32
  let v1953 : BitVec 32 := Scalar.addi v1909 c0_i32_1528
  let v1954 : BitVec 32 := v1953
  let v1955 : Index := Scalar.indexCast v1954
  let c128_1530 : Index := 128#32
  ![0, v1955.toNat, 128]
def k0_mult70 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1539 : BitVec 32 := 256#32
  let v1966 : BitVec 32 := Scalar.addi v1909 c256_i32_1539
  v1966
def k0_mult71 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_off4 (k0_t1 : Fin k0_t1_loop.trips) : Fin 3 → Nat :=
  let c0_1550 : Index := 0#32
  let c128_1551 : Index := 128#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let v1980 : BitVec 32 := v1908
  let v1981 : Index := Scalar.indexCast v1980
  ![0, 128, v1981.toNat]
def k0_mult72 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1562 : BitVec 32 := 0#32
  let v1996 : BitVec 32 := Scalar.addi v1909 c0_i32_1562
  v1996
def k0_mult73 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1573 : BitVec 32 := 256#32
  let v2009 : BitVec 32 := Scalar.addi v1909 c256_i32_1573
  v2009
def k0_mult74 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult75 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1596 : BitVec 32 := 0#32
  let v2039 : BitVec 32 := Scalar.addi v1909 c0_i32_1596
  v2039
def k0_mult76 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1607 : BitVec 32 := 256#32
  let v2052 : BitVec 32 := Scalar.addi v1909 c256_i32_1607
  v2052
def k0_mult77 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult78 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1630 : BitVec 32 := 0#32
  let v2082 : BitVec 32 := Scalar.addi v1909 c0_i32_1630
  v2082
def k0_mult79 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1641 : BitVec 32 := 256#32
  let v2095 : BitVec 32 := Scalar.addi v1909 c256_i32_1641
  v2095
def k0_mult80 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult81 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1664 : BitVec 32 := 0#32
  let v2125 : BitVec 32 := Scalar.addi v1909 c0_i32_1664
  v2125
def k0_mult82 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1675 : BitVec 32 := 256#32
  let v2138 : BitVec 32 := Scalar.addi v1909 c256_i32_1675
  v2138
def k0_mult83 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult84 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1698 : BitVec 32 := 0#32
  let v2168 : BitVec 32 := Scalar.addi v1909 c0_i32_1698
  v2168
def k0_mult85 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1709 : BitVec 32 := 256#32
  let v2181 : BitVec 32 := Scalar.addi v1909 c256_i32_1709
  v2181
def k0_mult86 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult87 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1732 : BitVec 32 := 0#32
  let v2211 : BitVec 32 := Scalar.addi v1909 c0_i32_1732
  v2211
def k0_mult88 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1743 : BitVec 32 := 256#32
  let v2224 : BitVec 32 := Scalar.addi v1909 c256_i32_1743
  v2224
def k0_mult89 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult90 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1766 : BitVec 32 := 0#32
  let v2254 : BitVec 32 := Scalar.addi v1909 c0_i32_1766
  v2254
def k0_mult91 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1777 : BitVec 32 := 256#32
  let v2267 : BitVec 32 := Scalar.addi v1909 c256_i32_1777
  v2267
def k0_mult92 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult93 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1800 : BitVec 32 := 0#32
  let v2297 : BitVec 32 := Scalar.addi v1909 c0_i32_1800
  v2297
def k0_mult94 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1811 : BitVec 32 := 256#32
  let v2310 : BitVec 32 := Scalar.addi v1909 c256_i32_1811
  v2310
def k0_mult95 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult96 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1834 : BitVec 32 := 0#32
  let v2340 : BitVec 32 := Scalar.addi v1909 c0_i32_1834
  v2340
def k0_mult97 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1845 : BitVec 32 := 256#32
  let v2353 : BitVec 32 := Scalar.addi v1909 c256_i32_1845
  v2353
def k0_mult98 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult99 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1868 : BitVec 32 := 0#32
  let v2383 : BitVec 32 := Scalar.addi v1909 c0_i32_1868
  v2383
def k0_mult100 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1879 : BitVec 32 := 256#32
  let v2396 : BitVec 32 := Scalar.addi v1909 c256_i32_1879
  v2396
def k0_mult101 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult102 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1902 : BitVec 32 := 0#32
  let v2426 : BitVec 32 := Scalar.addi v1909 c0_i32_1902
  v2426
def k0_mult103 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1913 : BitVec 32 := 256#32
  let v2439 : BitVec 32 := Scalar.addi v1909 c256_i32_1913
  v2439
def k0_mult104 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult105 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1936 : BitVec 32 := 0#32
  let v2469 : BitVec 32 := Scalar.addi v1909 c0_i32_1936
  v2469
def k0_mult106 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1947 : BitVec 32 := 256#32
  let v2482 : BitVec 32 := Scalar.addi v1909 c256_i32_1947
  v2482
def k0_mult107 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult108 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_1970 : BitVec 32 := 0#32
  let v2512 : BitVec 32 := Scalar.addi v1909 c0_i32_1970
  v2512
def k0_mult109 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_1981 : BitVec 32 := 256#32
  let v2525 : BitVec 32 := Scalar.addi v1909 c256_i32_1981
  v2525
def k0_mult110 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult111 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c0_i32_2004 : BitVec 32 := 0#32
  let v2555 : BitVec 32 := Scalar.addi v1909 c0_i32_2004
  v2555
def k0_mult112 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1024_i32 : BitVec 32 := 1024#32
  let v1909 : BitVec 32 := Scalar.addi v1908 c1024_i32
  let c256_i32_2015 : BitVec 32 := 256#32
  let v2568 : BitVec 32 := Scalar.addi v1909 c256_i32_2015
  v2568
def k0_mult113 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  v1908
def k0_mult114 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2135 : BitVec 32 := 0#32
  let v2768 : BitVec 32 := Scalar.addi v2766 c0_i32_2135
  v2768
def k0_mult115 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2146 : BitVec 32 := 256#32
  let v2781 : BitVec 32 := Scalar.addi v2766 c256_i32_2146
  v2781
def k0_mult116 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_off5 (k0_t1 : Fin k0_t1_loop.trips) : Fin 3 → Nat :=
  let c0_2157 : Index := 0#32
  let c0_2158 : Index := 0#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  let v2795 : BitVec 32 := v2767
  let v2796 : Index := Scalar.indexCast v2795
  ![0, 0, v2796.toNat]
def k0_mult117 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2169 : BitVec 32 := 0#32
  let v2811 : BitVec 32 := Scalar.addi v2766 c0_i32_2169
  v2811
def k0_mult118 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2180 : BitVec 32 := 256#32
  let v2824 : BitVec 32 := Scalar.addi v2766 c256_i32_2180
  v2824
def k0_mult119 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_off6 (k0_t1 : Fin k0_t1_loop.trips) : Fin 3 → Nat :=
  let c0_2191 : Index := 0#32
  let c128_2192 : Index := 128#32
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  let v2838 : BitVec 32 := v2767
  let v2839 : Index := Scalar.indexCast v2838
  ![0, 128, v2839.toNat]
def k0_mult120 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2203 : BitVec 32 := 0#32
  let v2854 : BitVec 32 := Scalar.addi v2766 c0_i32_2203
  v2854
def k0_mult121 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2214 : BitVec 32 := 256#32
  let v2867 : BitVec 32 := Scalar.addi v2766 c256_i32_2214
  v2867
def k0_mult122 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult123 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2237 : BitVec 32 := 0#32
  let v2897 : BitVec 32 := Scalar.addi v2766 c0_i32_2237
  v2897
def k0_mult124 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2248 : BitVec 32 := 256#32
  let v2910 : BitVec 32 := Scalar.addi v2766 c256_i32_2248
  v2910
def k0_mult125 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult126 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2271 : BitVec 32 := 0#32
  let v2940 : BitVec 32 := Scalar.addi v2766 c0_i32_2271
  v2940
def k0_mult127 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2282 : BitVec 32 := 256#32
  let v2953 : BitVec 32 := Scalar.addi v2766 c256_i32_2282
  v2953
def k0_mult128 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult129 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2305 : BitVec 32 := 0#32
  let v2983 : BitVec 32 := Scalar.addi v2766 c0_i32_2305
  v2983
def k0_mult130 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2316 : BitVec 32 := 256#32
  let v2996 : BitVec 32 := Scalar.addi v2766 c256_i32_2316
  v2996
def k0_mult131 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult132 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2339 : BitVec 32 := 0#32
  let v3026 : BitVec 32 := Scalar.addi v2766 c0_i32_2339
  v3026
def k0_mult133 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2350 : BitVec 32 := 256#32
  let v3039 : BitVec 32 := Scalar.addi v2766 c256_i32_2350
  v3039
def k0_mult134 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult135 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2373 : BitVec 32 := 0#32
  let v3069 : BitVec 32 := Scalar.addi v2766 c0_i32_2373
  v3069
def k0_mult136 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2384 : BitVec 32 := 256#32
  let v3082 : BitVec 32 := Scalar.addi v2766 c256_i32_2384
  v3082
def k0_mult137 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult138 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2407 : BitVec 32 := 0#32
  let v3112 : BitVec 32 := Scalar.addi v2766 c0_i32_2407
  v3112
def k0_mult139 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2418 : BitVec 32 := 256#32
  let v3125 : BitVec 32 := Scalar.addi v2766 c256_i32_2418
  v3125
def k0_mult140 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult141 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2441 : BitVec 32 := 0#32
  let v3155 : BitVec 32 := Scalar.addi v2766 c0_i32_2441
  v3155
def k0_mult142 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2452 : BitVec 32 := 256#32
  let v3168 : BitVec 32 := Scalar.addi v2766 c256_i32_2452
  v3168
def k0_mult143 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult144 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2475 : BitVec 32 := 0#32
  let v3198 : BitVec 32 := Scalar.addi v2766 c0_i32_2475
  v3198
def k0_mult145 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2486 : BitVec 32 := 256#32
  let v3211 : BitVec 32 := Scalar.addi v2766 c256_i32_2486
  v3211
def k0_mult146 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult147 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2509 : BitVec 32 := 0#32
  let v3241 : BitVec 32 := Scalar.addi v2766 c0_i32_2509
  v3241
def k0_mult148 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2520 : BitVec 32 := 256#32
  let v3254 : BitVec 32 := Scalar.addi v2766 c256_i32_2520
  v3254
def k0_mult149 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult150 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2543 : BitVec 32 := 0#32
  let v3284 : BitVec 32 := Scalar.addi v2766 c0_i32_2543
  v3284
def k0_mult151 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2554 : BitVec 32 := 256#32
  let v3297 : BitVec 32 := Scalar.addi v2766 c256_i32_2554
  v3297
def k0_mult152 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult153 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2577 : BitVec 32 := 0#32
  let v3327 : BitVec 32 := Scalar.addi v2766 c0_i32_2577
  v3327
def k0_mult154 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2588 : BitVec 32 := 256#32
  let v3340 : BitVec 32 := Scalar.addi v2766 c256_i32_2588
  v3340
def k0_mult155 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult156 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2611 : BitVec 32 := 0#32
  let v3370 : BitVec 32 := Scalar.addi v2766 c0_i32_2611
  v3370
def k0_mult157 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2622 : BitVec 32 := 256#32
  let v3383 : BitVec 32 := Scalar.addi v2766 c256_i32_2622
  v3383
def k0_mult158 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult159 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c0_i32_2645 : BitVec 32 := 0#32
  let v3413 : BitVec 32 := Scalar.addi v2766 c0_i32_2645
  v3413
def k0_mult160 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c1536_i32 : BitVec 32 := 1536#32
  let v2766 : BitVec 32 := Scalar.addi v1908 c1536_i32
  let c256_i32_2656 : BitVec 32 := 256#32
  let v3426 : BitVec 32 := Scalar.addi v2766 c256_i32_2656
  v3426
def k0_mult161 (k0_t1 : Fin k0_t1_loop.trips) : BitVec 32 :=
  let c2_i32 : BitVec 32 := 2#32
  let c0_i32_967 : BitVec 32 := 0#32
  let c1_i32 : BitVec 32 := 1#32
  let arg14 : BitVec 32 := Scf.iv c0_i32_967 c1_i32 k0_t1
  let v1906 : BitVec 32 := Scalar.muli c2_i32 arg14
  let c512_i32_1493 : BitVec 32 := 512#32
  let v1907 : BitVec 32 := Scalar.muli v1906 c512_i32_1493
  let v1908 : BitVec 32 := v1907
  let c512_i32_2134 : BitVec 32 := 512#32
  let v2767 : BitVec 32 := Scalar.addi v1908 c512_i32_2134
  v2767
def k0_mult162 : BitVec 32 :=
  let c3072_i32 : BitVec 32 := 3072#32
  c3072_i32
def k0_mult163 : BitVec 32 :=
  let c3072_i32_981 : BitVec 32 := 3072#32
  c3072_i32_981
def k0_mult164 : BitVec 32 :=
  let c3072_i32_994 : BitVec 32 := 3072#32
  c3072_i32_994
def k0_mult165 : BitVec 32 :=
  let c3072_i32_1007 : BitVec 32 := 3072#32
  c3072_i32_1007
def k0_mult166 : BitVec 32 :=
  let c3072_i32_1020 : BitVec 32 := 3072#32
  c3072_i32_1020
def k0_mult167 : BitVec 32 :=
  let c3072_i32_1033 : BitVec 32 := 3072#32
  c3072_i32_1033
def k0_mult168 : BitVec 32 :=
  let c3072_i32_1046 : BitVec 32 := 3072#32
  c3072_i32_1046
def k0_mult169 : BitVec 32 :=
  let c3072_i32_1059 : BitVec 32 := 3072#32
  c3072_i32_1059
def k0_mult170 : BitVec 32 :=
  let c3072_i32_1072 : BitVec 32 := 3072#32
  c3072_i32_1072
def k0_mult171 : BitVec 32 :=
  let c3072_i32_1085 : BitVec 32 := 3072#32
  c3072_i32_1085
def k0_mult172 : BitVec 32 :=
  let c3072_i32_1098 : BitVec 32 := 3072#32
  c3072_i32_1098
def k0_mult173 : BitVec 32 :=
  let c3072_i32_1111 : BitVec 32 := 3072#32
  c3072_i32_1111
def k0_mult174 : BitVec 32 :=
  let c3072_i32_1124 : BitVec 32 := 3072#32
  c3072_i32_1124
def k0_mult175 : BitVec 32 :=
  let c3072_i32_1137 : BitVec 32 := 3072#32
  c3072_i32_1137
def k0_mult176 : BitVec 32 :=
  let c3072_i32_1150 : BitVec 32 := 3072#32
  c3072_i32_1150
def k0_mult177 : BitVec 32 :=
  let c3072_i32_1163 : BitVec 32 := 3072#32
  c3072_i32_1163
def k0_mult178 : BitVec 32 :=
  let c3584_i32 : BitVec 32 := 3584#32
  c3584_i32
def k0_mult179 : BitVec 32 :=
  let c3584_i32_1284 : BitVec 32 := 3584#32
  c3584_i32_1284
def k0_mult180 : BitVec 32 :=
  let c3584_i32_1297 : BitVec 32 := 3584#32
  c3584_i32_1297
def k0_mult181 : BitVec 32 :=
  let c3584_i32_1310 : BitVec 32 := 3584#32
  c3584_i32_1310
def k0_mult182 : BitVec 32 :=
  let c3584_i32_1323 : BitVec 32 := 3584#32
  c3584_i32_1323
def k0_mult183 : BitVec 32 :=
  let c3584_i32_1336 : BitVec 32 := 3584#32
  c3584_i32_1336
def k0_mult184 : BitVec 32 :=
  let c3584_i32_1349 : BitVec 32 := 3584#32
  c3584_i32_1349
def k0_mult185 : BitVec 32 :=
  let c3584_i32_1362 : BitVec 32 := 3584#32
  c3584_i32_1362
def k0_mult186 : BitVec 32 :=
  let c3584_i32_1375 : BitVec 32 := 3584#32
  c3584_i32_1375
def k0_mult187 : BitVec 32 :=
  let c3584_i32_1388 : BitVec 32 := 3584#32
  c3584_i32_1388
def k0_mult188 : BitVec 32 :=
  let c3584_i32_1401 : BitVec 32 := 3584#32
  c3584_i32_1401
def k0_mult189 : BitVec 32 :=
  let c3584_i32_1414 : BitVec 32 := 3584#32
  c3584_i32_1414
def k0_mult190 : BitVec 32 :=
  let c3584_i32_1427 : BitVec 32 := 3584#32
  c3584_i32_1427
def k0_mult191 : BitVec 32 :=
  let c3584_i32_1440 : BitVec 32 := 3584#32
  c3584_i32_1440
def k0_mult192 : BitVec 32 :=
  let c3584_i32_1453 : BitVec 32 := 3584#32
  c3584_i32_1453
def k0_mult193 : BitVec 32 :=
  let c3584_i32_1466 : BitVec 32 := 3584#32
  c3584_i32_1466
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, v16.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, v16.toNat, c0_i32_5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentReferenceIdeal.lean ====
abbrev S8x4096x8x96 : Shape := ⟨4, ![8, 4096, 8, 96]⟩
abbrev S8x256x8x96 : Shape := ⟨4, ![8, 256, 8, 96]⟩
abbrev S8x256x8x64 : Shape := ⟨4, ![8, 256, 8, 64]⟩
abbrev S8x4096x8x64 : Shape := ⟨4, ![8, 4096, 8, 64]⟩
abbrev S8x4096x8x1x96 : Shape := ⟨5, ![8, 4096, 8, 1, 96]⟩
abbrev S8x4352x8x96 : Shape := ⟨4, ![8, 4352, 8, 96]⟩
abbrev S8x4352x8x64 : Shape := ⟨4, ![8, 4352, 8, 64]⟩
abbrev S8x8x4352x4096x1 : Shape := ⟨5, ![8, 8, 4352, 4096, 1]⟩
abbrev S8x8x1x4096x4352 : Shape := ⟨5, ![8, 8, 1, 4096, 4352]⟩
abbrev S_ : Shape := ⟨0, ![]⟩
abbrev S8x8x1x4096 : Shape := ⟨4, ![8, 8, 1, 4096]⟩
abbrev S8x8x1x4096x1 : Shape := ⟨5, ![8, 8, 1, 4096, 1]⟩
abbrev S8x8x64x1x4096 : Shape := ⟨5, ![8, 8, 64, 1, 4096]⟩
abbrev S8x4096x8x1x64 : Shape := ⟨5, ![8, 4096, 8, 1, 64]⟩
abbrev S8x4096x512 : Shape := ⟨3, ![8, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x256x8x96, .f32⟩
  | .hbm, ⟨2, _⟩ => ⟨S8x256x8x64, .f32⟩
  | .hbm, ⟨3, _⟩ => ⟨S8x4096x8x96, .f32⟩
  | .hbm, ⟨4, _⟩ => ⟨S8x4096x8x64, .f32⟩
  | .hbm, ⟨5, _⟩ => ⟨S8x4096x8x1x96, .f32⟩
  | .hbm, ⟨6, _⟩ => ⟨S8x4352x8x96, .f32⟩
  | .hbm, ⟨7, _⟩ => ⟨S8x4352x8x64, .f32⟩
  | .hbm, ⟨8, _⟩ => ⟨S8x8x4352x4096x1, .f32⟩
  | .hbm, ⟨9, _⟩ => ⟨S8x8x1x4096x4352, .f32⟩
  | .hbm, ⟨10, _⟩ => ⟨S_, .f32⟩
  | .hbm, ⟨11, _⟩ => ⟨S8x8x1x4096x4352, .f32⟩
  | .hbm, ⟨12, _⟩ => ⟨S8x8x1x4096x4352, .f32⟩
  | .hbm, ⟨13, _⟩ => ⟨S_, .f32⟩
  | .hbm, ⟨14, _⟩ => ⟨S8x8x1x4096, .f32⟩
  | .hbm, ⟨15, _⟩ => ⟨S_, .f32⟩
  | .hbm, ⟨16, _⟩ => ⟨S8x8x1x4096, .f32⟩
  | .hbm, ⟨17, _⟩ => ⟨S8x8x1x4096, .f32⟩
  | .hbm, ⟨18, _⟩ => ⟨S8x8x1x4096x1, .f32⟩
  | .hbm, ⟨19, _⟩ => ⟨S8x8x1x4096x4352, .f32⟩
  | .hbm, ⟨20, _⟩ => ⟨S8x8x1x4096x4352, .f32⟩
  | .hbm, ⟨21, _⟩ => ⟨S8x8x1x4096x4352, .f32⟩
  | .hbm, ⟨22, _⟩ => ⟨S_, .f32⟩
  | .hbm, ⟨23, _⟩ => ⟨S8x8x1x4096, .f32⟩
  | .hbm, ⟨24, _⟩ => ⟨S8x8x1x4096x1, .f32⟩
  | .hbm, ⟨25, _⟩ => ⟨S8x8x1x4096x4352, .f32⟩
  | .hbm, ⟨26, _⟩ => ⟨S8x8x1x4096x4352, .f32⟩
  | .hbm, ⟨27, _⟩ => ⟨S8x8x64x1x4096, .f32⟩
  | .hbm, ⟨28, _⟩ => ⟨S8x4096x8x1x64, .f32⟩
  | .hbm, ⟨29, _⟩ => ⟨S8x4096x512, .f32⟩
  | .hbm, ⟨30, _⟩ => ⟨S8x4096x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MixKernel.lean ====
abbrev S8x4096x1024 : Shape := ⟨3, ![8, 4096, 1024]⟩
abbrev S8x4096x512 : Shape := ⟨3, ![8, 4096, 512]⟩
abbrev S1024x1024 : Shape := ⟨2, ![1024, 1024]⟩
abbrev S8x3072 : Shape := ⟨2, ![8, 3072]⟩
abbrev S8x1x3072 : Shape := ⟨3, ![8, 1, 3072]⟩
abbrev S1x256x1024 : Shape := ⟨3, ![1, 256, 1024]⟩
abbrev S1x256x512 : Shape := ⟨3, ![1, 256, 512]⟩
abbrev S1x1x3072 : Shape := ⟨3, ![1, 1, 3072]⟩
abbrev S256x512 : Shape := ⟨2, ![256, 512]⟩
abbrev S256x1024 : Shape := ⟨2, ![256, 1024]⟩
abbrev S1x3072 : Shape := ⟨2, ![1, 3072]⟩
abbrev S1x1024 : Shape := ⟨2, ![1, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S1024x1024, .f32⟩
  | .hbm, ⟨5, _⟩ => ⟨S8x3072, .f32⟩
  | .hbm, ⟨6, _⟩ => ⟨S8x4096x512, .bf16⟩
  | .hbm, ⟨7, _⟩ => ⟨S8x4096x512, .bf16⟩
  | .hbm, ⟨8, _⟩ => ⟨S8x4096x1024, .bf16⟩
  | .hbm, ⟨9, _⟩ => ⟨S1024x1024, .bf16⟩
  | .hbm, ⟨10, _⟩ => ⟨S8x1x3072, .f32⟩
  | .hbm, ⟨11, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x1x3072, .f32⟩
  | .local _ .vmem, ⟨10, _⟩ => ⟨S1x1x3072, .f32⟩
  | .local _ .vmem, ⟨11, _⟩ => ⟨S1x256x1024, .f32⟩
  | .local _ .vmem, ⟨12, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixReferenceIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S8x3072 : Shape := ⟨2, ![8, 3072]⟩
abbrev S8x1024 : Shape := ⟨2, ![8, 1024]⟩
abbrev S8x1x1024 : Shape := ⟨3, ![8, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S1024x1024, .f32⟩
  | .hbm, ⟨5, _⟩ => ⟨S8x3072, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x4096x1024, .f32⟩
  | .hbm, ⟨10, _⟩ => ⟨S8x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== LastKernel.lean ====
abbrev S8x4096x1024 : Shape := ⟨3, ![8, 4096, 1024]⟩
abbrev S1024x1024 : Shape := ⟨2, ![1024, 1024]⟩
abbrev S8x3072 : Shape := ⟨2, ![8, 3072]⟩
abbrev S1024 : Shape := ⟨1, ![1024]⟩
abbrev S8x1x3072 : Shape := ⟨3, ![8, 1, 3072]⟩
abbrev S1x1024 : Shape := ⟨2, ![1, 1024]⟩
abbrev S1x256x1024 : Shape := ⟨3, ![1, 256, 1024]⟩
abbrev S1x1x3072 : Shape := ⟨3, ![1, 1, 3072]⟩
abbrev S256x1024 : Shape := ⟨2, ![256, 1024]⟩
abbrev S1x3072 : Shape := ⟨2, ![1, 3072]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S8x3072, .f32⟩
  | .hbm, ⟨5, _⟩ => ⟨S1024, .f32⟩
  | .hbm, ⟨6, _⟩ => ⟨S8x4096x1024, .bf16⟩
  | .hbm, ⟨7, _⟩ => ⟨S8x4096x1024, .bf16⟩
  | .hbm, ⟨8, _⟩ => ⟨S1024x1024, .bf16⟩
  | .hbm, ⟨9, _⟩ => ⟨S8x1x3072, .f32⟩
  | .hbm, ⟨10, _⟩ => ⟨S1x1024, .f32⟩
  | .hbm, ⟨11, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1x1x3072, .f32⟩
  | .local _ .vmem, ⟨8, _⟩ => ⟨S1x1x3072, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LastReferenceIdeal.lean ====
abbrev S8x4096x1024 : Shape := ⟨3, ![8, 4096, 1024]⟩
abbrev S1024x1024 : Shape := ⟨2, ![1024, 1024]⟩
abbrev S8x3072 : Shape := ⟨2, ![8, 3072]⟩
abbrev S1024 : Shape := ⟨1, ![1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S8x3072, .f32⟩
  | .hbm, ⟨5, _⟩ => ⟨S1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== HyenaKernel.lean ====
abbrev S8x4096x1024 : Shape := ⟨3, ![8, 4096, 1024]⟩
abbrev S8x3072 : Shape := ⟨2, ![8, 3072]⟩
abbrev S1024 : Shape := ⟨1, ![1024]⟩
abbrev S1024x4096 : Shape := ⟨2, ![1024, 4096]⟩
abbrev S3x3072 : Shape := ⟨2, ![3, 3072]⟩
abbrev S3072 : Shape := ⟨1, ![3072]⟩
abbrev S8x1x3072 : Shape := ⟨3, ![8, 1, 3072]⟩
abbrev S1x1024 : Shape := ⟨2, ![1, 1024]⟩
abbrev S1x3072 : Shape := ⟨2, ![1, 3072]⟩
abbrev S1x512x1024 : Shape := ⟨3, ![1, 512, 1024]⟩
abbrev S1x8x1024 : Shape := ⟨3, ![1, 8, 1024]⟩
abbrev S1x1x3072 : Shape := ⟨3, ![1, 1, 3072]⟩
abbrev S8x1024 : Shape := ⟨2, ![8, 1024]⟩
abbrev S8 : Shape := ⟨1, ![8]⟩
abbrev S8x1 : Shape := ⟨2, ![8, 1]⟩
abbrev S512x1024 : Shape := ⟨2, ![512, 1024]⟩
abbrev S512 : Shape := ⟨1, ![512]⟩
abbrev S512x1 : Shape := ⟨2, ![512, 1]⟩
abbrev S528x1024 : Shape := ⟨2, ![528, 1024]⟩
abbrev S1024x1024 : Shape := ⟨2, ![1024, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S1024x4096, .f32⟩
  | .hbm, ⟨4, _⟩ => ⟨S3x3072, .f32⟩
  | .hbm, ⟨5, _⟩ => ⟨S3072, .f32⟩
  | .hbm, ⟨6, _⟩ => ⟨S8x1x3072, .f32⟩
  | .hbm, ⟨7, _⟩ => ⟨S1x1024, .f32⟩
  | .hbm, ⟨8, _⟩ => ⟨S1024x4096, .bf16⟩
  | .hbm, ⟨9, _⟩ => ⟨S1x3072, .f32⟩
  | .hbm, ⟨10, _⟩ => ⟨S8x4096x1024, .bf16⟩
  | .hbm, ⟨11, _⟩ => ⟨S8x4096x1024, .bf16⟩
  | .hbm, ⟨12, _⟩ => ⟨S8x4096x1024, .bf16⟩
  | .hbm, ⟨13, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024, .f32⟩
  | .local _ .vmem, ⟨9, _⟩ => ⟨S1024x4096, .bf16⟩
  | .local _ .vmem, ⟨10, _⟩ => ⟨S3x3072, .f32⟩
  | .local _ .vmem, ⟨11, _⟩ => ⟨S1x3072, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== HyenaReferenceIdeal.lean ====
abbrev S8x4096x1024 : Shape := ⟨3, ![8, 4096, 1024]⟩
abbrev S8x3072 : Shape := ⟨2, ![8, 3072]⟩
abbrev S1024 : Shape := ⟨1, ![1024]⟩
abbrev S1024x4096 : Shape := ⟨2, ![1024, 4096]⟩
abbrev S3x3072 : Shape := ⟨2, ![3, 3072]⟩
abbrev S3072 : Shape := ⟨1, ![3072]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x4096 : Shape := ⟨3, ![8, 4096, 4096]⟩
abbrev S8x4096x3072 : Shape := ⟨3, ![8, 4096, 3072]⟩
abbrev S8x4098x3072 : Shape := ⟨3, ![8, 4098, 3072]⟩
abbrev S1x3072 : Shape := ⟨2, ![1, 3072]⟩
abbrev S1x1x3072 : Shape := ⟨3, ![1, 1, 3072]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S1024x4096, .f32⟩
  | .hbm, ⟨4, _⟩ => ⟨S3x3072, .f32⟩
  | .hbm, ⟨5, _⟩ => ⟨S3072, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x4096, .f32⟩
  | .hbm, ⟨35, _⟩ => ⟨S8x4096x3072, .f32⟩
  | .hbm, ⟨36, _⟩ => ⟨S_, .i32⟩
  | .hbm, ⟨37, _⟩ => ⟨S_, .f32⟩
  | .hbm, ⟨38, _⟩ => ⟨S8x4098x3072, .f32⟩
  | .hbm, ⟨39, _⟩ => ⟨S8x4096x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S8x4096x3072, .f32⟩
  | .hbm, ⟨44, _⟩ => ⟨S8x4096x3072, .f32⟩
  | .hbm, ⟨45, _⟩ => ⟨S_, .f32⟩
  | .hbm, ⟨46, _⟩ => ⟨S8x4096x3072, .f32⟩
  | .hbm, ⟨47, _⟩ => ⟨S8x4096x3072, .f32⟩
  | .hbm, ⟨48, _⟩ => ⟨S8x4096x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S8x4096x3072, .f32⟩
  | .hbm, ⟨53, _⟩ => ⟨S8x4096x3072, .f32⟩
  | .hbm, ⟨54, _⟩ => ⟨S8x4096x3072, .f32⟩
  | .hbm, ⟨55, _⟩ => ⟨S8x4096x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S8x4096x3072, .f32⟩
  | .hbm, ⟨60, _⟩ => ⟨S8x4096x3072, .f32⟩
  | .hbm, ⟨61, _⟩ => ⟨S8x4096x3072, .f32⟩
  | .hbm, ⟨62, _⟩ => ⟨S1x1x3072, .f32⟩
  | .hbm, ⟨63, _⟩ => ⟨S8x4096x3072, .f32⟩
  | .hbm, ⟨64, _⟩ => ⟨S8x4096x3072, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .bf16⟩
  | .hbm, ⟨79, _⟩ => ⟨S8x4096x1024, .bf16⟩
  | .hbm, ⟨80, _⟩ => ⟨S8x4096x1024, .bf16⟩
  | .hbm, ⟨81, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Proof.Tiles.lean ====
/-
  The attention body as a program of tiles. A phase of the body handles 256 queries of one head at a time: it makes
  a tile of scores, keeps the column maxima, and adds the product of an earlier block's weights and values to the
  accumulator. Here each kind of tile is one definition, a phase is sixteen of them, and the body is a few phases.
-/
module

public import Idealize.ShloMosaic.Lib.Pipeline
public import Idealize.ShloMosaic.Lib.Scf
public import Idealize.ShloMosaic.Lib.Exec

@[expose] public section

set_option maxRecDepth 16384

noncomputable section

namespace Att

open Idealize.ShloMosaic Idealize.SL.Sem

abbrev SC : Shape := ⟨3, ![1, 256, 256]⟩
abbrev SL : Shape := ⟨3, ![1, 4096, 256]⟩
abbrev SO : Shape := ⟨3, ![1, 2048, 128]⟩
abbrev SS : Shape := ⟨3, ![2, 512, 2048]⟩
abbrev SA : Shape := ⟨3, ![2, 80, 2048]⟩
abbrev SQ (w : Nat) : Shape := ⟨3, ![1, 2048, w]⟩
abbrev SVC (w : Nat) : Shape := ⟨3, ![1, w, 256]⟩
abbrev SVL (w : Nat) : Shape := ⟨3, ![1, w, 4096]⟩
abbrev D3 (a b c : Nat) : Shape := ⟨3, ![a, b, c]⟩
abbrev D2 (a b : Nat) : Shape := ⟨2, ![a, b]⟩
abbrev D1 (a : Nat) : Shape := ⟨1, ![a]⟩

/-- Where the two heads' queries and values lie: the width of the queries' block and of the values' block, and
    each head's first lane and first row. -/
structure Geo where
  w : Nat
  vw : Nat
  qo : Fin 2 → Nat
  vo : Fin 2 → Nat
  hq : ∀ e, qo e + 128 ≤ w
  hv : ∀ e, vo e + 80 ≤ vw

section
variable {nD : Nat} {τ : Topo} {sig : RefSig} {Λ : Labels} {F : FTy → Type} [FloatOps F] {α : Type}

/-- The buffers of the body: the five inputs, the result, two score blocks, two weight blocks, the accumulator. -/
structure Mems (sig : RefSig) (g : Geo) where
  q : Memref sig .tc .vmem (SQ g.w) .bf16
  kc : Memref sig .tc .vmem SC .bf16
  vc : Memref sig .tc .vmem (SVC g.vw) .bf16
  kl : Memref sig .tc .vmem SL .bf16
  vl : Memref sig .tc .vmem (SVL g.vw) .bf16
  o : Memref sig .tc .vmem SO .bf16
  s0 : Memref sig .tc .vmem SS .f32
  s1 : Memref sig .tc .vmem SS .f32
  p0 : Memref sig .tc .vmem SS .bf16
  p1 : Memref sig .tc .vmem SS .bf16
  acc : Memref sig .tc .vmem SA .f32
  ho : o.IsWhole
  hp0 : p0.IsWhole
  hp1 : p1.IsWhole

/-- The same buffers with the two score blocks and the two weight blocks exchanged. -/
@[reducible] def Mems.swap {g : Geo} (M : Mems sig g) : Mems sig g :=
  { M with s0 := M.s1, s1 := M.s0, p0 := M.p1, p1 := M.p0, hp0 := M.hp1, hp1 := M.hp0 }

/-! ### Offsets -/

theorem inb_q {g : Geo} (e : Fin 2) (qc : Fin 8) :
    ∀ a, (![0, 256 * qc.val, g.qo e] : Fin 3 → Nat) a + (D3 1 256 128).size a ≤ (SQ g.w).size a := by
  have := g.hq e
  intro a; fin_cases a <;> simp <;> omega

theorem inb_qw {g : Geo} (e : Fin 2) :
    ∀ a, (![0, 0, g.qo e] : Fin 3 → Nat) a + (D3 1 2048 128).size a ≤ (SQ g.w).size a := by
  have := g.hq e
  intro a; fin_cases a <;> simp <;> omega

theorem inb_kc (e : Fin 2) :
    ∀ a, (![0, 0, 128 * e.val] : Fin 3 → Nat) a + (D3 1 256 128).size a ≤ SC.size a := by
  intro a; fin_cases a <;> simp <;> omega

theorem inb_s (e kr : Fin 2) (qc : Fin 8) :
    ∀ a, (![e.val, 256 * kr.val, 256 * qc.val] : Fin 3 → Nat) a + (D3 1 256 256).size a ≤ SS.size a := by
  intro a; fin_cases a <;> simp <;> omega

theorem inb_p (e : Fin 2) (qc : Fin 8) :
    ∀ a, (![e.val, 0, 256 * qc.val] : Fin 3 → Nat) a + (D3 1 512 256).size a ≤ SS.size a := by
  intro a; fin_cases a <;> simp <;> omega

theorem inb_acc (e : Fin 2) (qc : Fin 8) :
    ∀ a, (![e.val, 0, 256 * qc.val] : Fin 3 → Nat) a + (D3 1 80 256).size a ≤ SA.size a := by
  intro a; fin_cases a <;> simp <;> omega

theorem inb_vc {g : Geo} (e : Fin 2) :
    ∀ a, (![0, g.vo e, 0] : Fin 3 → Nat) a + (D3 1 80 256).size a ≤ (SVC g.vw).size a := by
  have := g.hv e
  intro a; fin_cases a <;> simp <;> omega

theorem inb_num (e : Fin 2) :
    ∀ a, (![e.val, 0, 0] : Fin 3 → Nat) a + (D3 1 64 2048).size a ≤ SA.size a := by
  intro a; fin_cases a <;> simp <;> omega

theorem inb_den (e : Fin 2) :
    ∀ a, (![e.val, 64, 0] : Fin 3 → Nat) a + (D3 1 1 2048).size a ≤ SA.size a := by
  intro a; fin_cases a <;> simp <;> omega

theorem inb_all {s : Shape} (h : s.rank = 3) (off : Fin s.rank → Nat) (ho : ∀ a, off a = 0) : ∀ a, off a + s.size a ≤ s.size a :=
  fun a => by rw [ho a]; omega

theorem zero3 : ∀ a, (![0, 0, 0] : Fin 3 → Nat) a = 0 := by decide

theorem packed_p : ∀ (e : Fin 2) (qc : Fin 8),
    (Rect.unit (s := SS) ![e.val, 0, 256 * qc.val] (D3 1 512 256).size (inb_p e qc)).PackedRows (EltTy.packing .bf16) := by
  decide +kernel

theorem packed_o : (Rect.unit (s := SO) ![0, 0, 0] SO.size (inb_all rfl _ zero3)).PackedRows (EltTy.packing .bf16) := by
  decide +kernel

theorem sl_q (qc : Fin 8) : (D2 1 2048).Slices ![0, 256 * qc.val] (D2 1 256) := by
  revert qc; decide +kernel

theorem sl_pc (qc : Fin 8) : (D2 256 2048).Slices ![0, 256 * qc.val] (D2 256 256) := by
  revert qc; decide +kernel

theorem cats8 : Shape.Concatenates [D2 1 256, D2 1 256, D2 1 256, D2 1 256, D2 1 256, D2 1 256, D2 1 256, D2 1 256]
    (D2 1 2048) 1 := by decide

theorem cats2 : Shape.Concatenates [D2 64 2048, D2 64 2048] (D2 128 2048) 0 := by decide

theorem bits16 : FTy.bits .bf16 < FTy.bits .f32 := by decide

abbrev dotS : DotDims (D2 256 128) (D2 256 128) (D2 256 256) where
  lhsContracting := [1]
  rhsContracting := [1]
  lhsNonContracting := [0]
  rhsNonContracting := [0]
  lhsBatch := []
  rhsBatch := []

abbrev dotC : DotDims (D2 256 128) (D2 2048 128) (D2 256 2048) where
  lhsContracting := [1]
  rhsContracting := [1]
  lhsNonContracting := [0]
  rhsNonContracting := [0]
  lhsBatch := []
  rhsBatch := []

abbrev dotP : DotDims (D2 80 512) (D2 512 256) (D2 80 256) where
  lhsContracting := [1]
  rhsContracting := [0]
  lhsNonContracting := [0]
  rhsNonContracting := [1]
  lhsBatch := []
  rhsBatch := []

abbrev dotPC : DotDims (D2 80 256) (D2 256 256) (D2 80 256) where
  lhsContracting := [1]
  rhsContracting := [0]
  lhsNonContracting := [0]
  rhsNonContracting := [1]
  lhsBatch := []
  rhsBatch := []

/-! ### What a tile computes -/

/-- A tile of scores: keys by queries. -/
abbrev scoreF (k q : FVec F (D3 1 256 128) .bf16) : FVec F (D2 256 256) .f32 :=
  matmul dotS none (shapeCast (D2 256 128) k (by decide)) (shapeCast (D2 256 128) q (by decide))
    (constant (D2 256 256) .f32 0x00000000#32)

/-- The scores of the context keys for all queries. -/
abbrev ctxF (k : FVec F (D3 1 256 128) .bf16) (q : FVec F (D3 1 2048 128) .bf16) : FVec F (D2 256 2048) .f32 :=
  matmul dotC none (shapeCast (D2 256 128) k (by decide)) (shapeCast (D2 2048 128) q (by decide))
    (constant (D2 256 2048) .f32 0x00000000#32)

/-- A tile's column maxima. -/
abbrev maxF (t : FVec F (D2 256 256) .f32) : FVec F (D2 1 256) .f32 :=
  shapeCast (D2 1 256) (multiReduction .maximumf [0] (D1 256) t 0xFF800000#32 (by decide) (.inl rfl) rfl) (by decide)

abbrev ctxMaxF (t : FVec F (D2 256 2048) .f32) : FVec F (D2 1 2048) .f32 :=
  shapeCast (D2 1 2048) (multiReduction .maximumf [0] (D1 2048) t 0xFF800000#32 (by decide) (.inl rfl) rfl) (by decide)

/-- The accumulator's tile after one more product. -/
abbrev accF (qc : Fin 8) (al : FVec F (D2 1 2048) .f32) (old : FVec F (D3 1 80 256) .f32) (pv : FVec F (D2 80 256) .f32) :
    FVec F (D3 1 80 256) .f32 :=
  shapeCast (D3 1 80 256)
    (addf (mulf (broadcastTo (D2 80 256) (extractStridedSlice (D2 1 256) ![0, 256 * qc.val] al (sl_q qc)) (by decide))
      (shapeCast (D2 80 256) old (by decide))) pv) (by decide)

abbrev pvF (v : FVec F (D3 1 80 512) .bf16) (p : FVec F (D3 1 512 256) .bf16) : FVec F (D2 80 256) .f32 :=
  matmul dotP none (shapeCast (D2 80 512) v (by decide)) (shapeCast (D2 512 256) p (by decide))
    (constant (D2 80 256) .f32 0x00000000#32)

abbrev pvCF (qc : Fin 8) (v : FVec F (D3 1 80 256) .bf16) (p : FVec F (D2 256 2048) .bf16) : FVec F (D2 80 256) .f32 :=
  matmul dotPC none (shapeCast (D2 80 256) v (by decide)) (extractStridedSlice (D2 256 256) ![0, 256 * qc.val] p (sl_pc qc))
    (constant (D2 80 256) .f32 0x00000000#32)

/-- A tile of weights from a tile of scores. -/
abbrev softF (qc : Fin 8) (mn : FVec F (D2 1 2048) .f32) (s : FVec F (D3 1 512 256) .f32) : FVec F (D3 1 512 256) .bf16 :=
  shapeCast (D3 1 512 256)
    (truncf .bf16 (exp2 (subf (shapeCast (D2 512 256) s (by decide))
      (broadcastTo (D2 512 256) (extractStridedSlice (D2 1 256) ![0, 256 * qc.val] mn (sl_q qc)) (by decide)))) bits16)
    (by decide)

abbrev ctxSoftF (mn : FVec F (D2 1 2048) .f32) (s : FVec F (D2 256 2048) .f32) : FVec F (D2 256 2048) .bf16 :=
  truncf .bf16 (exp2 (subf s (broadcastTo (D2 256 2048) mn (by decide)))) bits16

abbrev cat8 (a0 a1 a2 a3 a4 a5 a6 a7 : FVec F (D2 1 256) .f32) : FVec F (D2 1 2048) .f32 :=
  concatenate (D2 1 2048) 1 [⟨D2 1 256, a0⟩, ⟨D2 1 256, a1⟩, ⟨D2 1 256, a2⟩, ⟨D2 1 256, a3⟩, ⟨D2 1 256, a4⟩,
    ⟨D2 1 256, a5⟩, ⟨D2 1 256, a6⟩, ⟨D2 1 256, a7⟩] cats8

abbrev outHeadF (n : FVec F (D3 1 64 2048) .f32) (d : FVec F (D3 1 1 2048) .f32) : FVec F (D2 64 2048) .f32 :=
  divf (shapeCast (D2 64 2048) n (by decide)) (broadcastTo (D2 64 2048) (shapeCast (D2 1 2048) d (by decide)) (by decide))

abbrev outF (h0 h1 : FVec F (D2 64 2048) .f32) : FVec F SO .bf16 :=
  shapeCast SO (truncf .bf16 (transpose (D2 2048 128) [1, 0]
    (concatenate (D2 128 2048) 0 [⟨D2 64 2048, h0⟩, ⟨D2 64 2048, h1⟩] cats2) (by decide)) bits16) (by decide)

/-! ### The programs -/

variable (nD τ Λ) in
/-- A program of the body with values of type `α`. -/
abbrev Pg (sig : RefSig) (F : FTy → Type) [FloatOps F] (α : Type) : Type 1 := Prog (TpuEff nD τ sig (Elt F) Λ .tc) α

/-- Read a rectangle, then go on. -/
abbrev ld {s : Shape} {e : EltTy} (m : Memref sig .tc .vmem s e) (off size : Fin s.rank → Nat)
    (inb : ∀ a, off a + size a ≤ s.size a) (h : 0 < (Shape.mk s.rank size).numel)
    (k : ((Shape.mk s.rank size).Idx → Elt F e) → Pg nD τ Λ sig F α) : Pg nD τ Λ sig F α :=
  .op (.load m (Rect.unit off size inb).toLoadRect (View.loadsAt_vmem h)) k

/-- Write a rectangle, then go on. -/
abbrev st {s : Shape} {e : EltTy} (m : Memref sig .tc .vmem s e) (off size : Fin s.rank → Nat)
    (inb : ∀ a, off a + size a ≤ s.size a) (w : (Shape.mk s.rank size).Idx → Elt F e)
    (h : (m.access (Rect.unit off size inb)).Stores Finset.univ)
    (k : Pg nD τ Λ sig F α) : Pg nD τ Λ sig F α :=
  .op (.store m (Rect.unit off size inb) w Finset.univ h (.inl rfl)) fun _ => k

theorem pos3 {a b c : Nat} (ha : 0 < a) (hb : 0 < b) (hc : 0 < c) : 0 < (D3 a b c).numel := by
  rw [show (D3 a b c).numel = a * b * c by simp [Shape.numel, Fin.prod_univ_succ, Nat.mul_assoc]]
  exact Nat.mul_pos (Nat.mul_pos ha hb) hc

variable {g : Geo} (M : Mems sig g)

/-- Where a phase finds its keys: an offset for each head and each half of the block. -/
structure KOff where
  o : Fin 2 → Fin 2 → Fin 3 → Nat
  inb : ∀ e kr, ∀ a, o e kr a + (D3 1 256 128).size a ≤ SL.size a

/-- Where a phase finds its values, for each head. -/
structure VOff (g : Geo) where
  o : Fin 2 → Fin 3 → Nat
  inb : ∀ e, ∀ a, o e a + (D3 1 80 512).size a ≤ (SVL g.vw).size a

/-- One half of a tile of scores, into the first score block. -/
def scoreHalf (K : KOff) (qc : Fin 8) (e kr : Fin 2) (k : FVec F (D2 1 256) .f32 → Pg nD τ Λ sig F α) : Pg nD τ Λ sig F α :=
  ld M.kl (K.o e kr) (D3 1 256 128).size (K.inb e kr) (pos3 (by decide) (by decide) (by decide)) fun kv =>
  ld M.q ![0, 256 * qc.val, g.qo e] (D3 1 256 128).size (inb_q e qc) (pos3 (by decide) (by decide) (by decide)) fun qv =>
  ld M.s0 ![e.val, 256 * kr.val, 256 * qc.val] (D3 1 256 256).size (inb_s e kr qc) (pos3 (by decide) (by decide) (by decide)) fun _ =>
  st M.s0 ![e.val, 256 * kr.val, 256 * qc.val] (D3 1 256 256).size (inb_s e kr qc)
    (shapeCast (D3 1 256 256) (scoreF kv qv) (by decide)) (View.stores_vmem_bits_univ (pos3 (by decide) (by decide) (by decide)) rfl)
    (k (maxF (scoreF kv qv)))

def scoreTile (K : KOff) (qc : Fin 8) (e : Fin 2) (k : FVec F (D2 1 256) .f32 → Pg nD τ Λ sig F α) : Pg nD τ Λ sig F α :=
  scoreHalf M K qc e 0 fun a => scoreHalf M K qc e 1 fun b => k (maximumf a b)

/-- Add to the accumulator's tile. -/
def accTile (qc : Fin 8) (e : Fin 2) (al : FVec F (D2 1 2048) .f32) (pv : FVec F (D2 80 256) .f32) (k : Pg nD τ Λ sig F α) :
    Pg nD τ Λ sig F α :=
  ld M.acc ![e.val, 0, 256 * qc.val] (D3 1 80 256).size (inb_acc e qc) (pos3 (by decide) (by decide) (by decide)) fun old =>
  ld M.acc ![e.val, 0, 256 * qc.val] (D3 1 80 256).size (inb_acc e qc) (pos3 (by decide) (by decide) (by decide)) fun _ =>
  st M.acc ![e.val, 0, 256 * qc.val] (D3 1 80 256).size (inb_acc e qc) (accF qc al old pv)
    (View.stores_vmem_bits_univ (pos3 (by decide) (by decide) (by decide)) rfl) k

/-- The product of a block's values and the weights kept in the first weight block. -/
def pvTile (V : VOff g) (qc : Fin 8) (e : Fin 2) (al : FVec F (D2 1 2048) .f32) (k : Pg nD τ Λ sig F α) : Pg nD τ Λ sig F α :=
  ld M.vl (V.o e) (D3 1 80 512).size (V.inb e) (pos3 (by decide) (by decide) (by decide)) fun v =>
  ld M.p0 ![e.val, 0, 256 * qc.val] (D3 1 512 256).size (inb_p e qc) (pos3 (by decide) (by decide) (by decide)) fun p =>
  accTile M qc e al (pvF v p) k

/-- The product of the context's values and weights. -/
def pvCTile (qc : Fin 8) (e : Fin 2) (p : FVec F (D2 256 2048) .bf16) (al : FVec F (D2 1 2048) .f32) (k : Pg nD τ Λ sig F α) :
    Pg nD τ Λ sig F α :=
  ld M.vc ![0, g.vo e, 0] (D3 1 80 256).size (inb_vc e) (pos3 (by decide) (by decide) (by decide)) fun v =>
  accTile M qc e al (pvCF qc v p) k

/-- Weights from the scores of the first score block, into the first weight block. -/
def softTile (qc : Fin 8) (e : Fin 2) (mn : FVec F (D2 1 2048) .f32) (k : Pg nD τ Λ sig F α) : Pg nD τ Λ sig F α :=
  ld M.s0 ![e.val, 0, 256 * qc.val] (D3 1 512 256).size (inb_p e qc) (pos3 (by decide) (by decide) (by decide)) fun s =>
  ld M.p0 ![e.val, 0, 256 * qc.val] (D3 1 512 256).size (inb_p e qc) (pos3 (by decide) (by decide) (by decide)) fun _ =>
  st M.p0 ![e.val, 0, 256 * qc.val] (D3 1 512 256).size (inb_p e qc) (softF qc mn s)
    (View.stores_vmem (pos3 (by decide) (by decide) (by decide)) (M.hp0.storeExact_slice rfl _ (packed_p e qc)) (fun _ => rfl)) k

/-- Sixteen tiles giving maxima, queries outermost; then the maxima of all queries for both heads. -/
def all16 (t : Fin 8 → Fin 2 → (FVec F (D2 1 256) .f32 → Pg nD τ Λ sig F α) → Pg nD τ Λ sig F α)
    (k : FVec F (D2 1 2048) .f32 → FVec F (D2 1 2048) .f32 → Pg nD τ Λ sig F α) : Pg nD τ Λ sig F α :=
  t 0 0 fun a0 => t 0 1 fun b0 => t 1 0 fun a1 => t 1 1 fun b1 => t 2 0 fun a2 => t 2 1 fun b2 =>
  t 3 0 fun a3 => t 3 1 fun b3 => t 4 0 fun a4 => t 4 1 fun b4 => t 5 0 fun a5 => t 5 1 fun b5 =>
  t 6 0 fun a6 => t 6 1 fun b6 => t 7 0 fun a7 => t 7 1 fun b7 =>
  k (cat8 a0 a1 a2 a3 a4 a5 a6 a7) (cat8 b0 b1 b2 b3 b4 b5 b6 b7)

/-- Sixteen tiles giving nothing, queries outermost. -/
def do16 (t : Fin 8 → Fin 2 → Pg nD τ Λ sig F α → Pg nD τ Λ sig F α) (k : Pg nD τ Λ sig F α) : Pg nD τ Λ sig F α :=
  t 0 0 <| t 0 1 <| t 1 0 <| t 1 1 <| t 2 0 <| t 2 1 <| t 3 0 <| t 3 1 <|
  t 4 0 <| t 4 1 <| t 5 0 <| t 5 1 <| t 6 0 <| t 6 1 <| t 7 0 <| t 7 1 <| k

/-- Eight tiles of one head. -/
def do8 (t : Fin 8 → Pg nD τ Λ sig F α → Pg nD τ Λ sig F α) (k : Pg nD τ Λ sig F α) : Pg nD τ Λ sig F α :=
  t 0 <| t 1 <| t 2 <| t 3 <| t 4 <| t 5 <| t 6 <| t 7 <| k

/-- The scores of a block. -/
def scores (K : KOff) (k : FVec F (D2 1 2048) .f32 → FVec F (D2 1 2048) .f32 → Pg nD τ Λ sig F α) : Pg nD τ Λ sig F α :=
  all16 (fun qc e k => scoreTile M K qc e k) k

/-- The scores of a block, with the product of an earlier block. -/
def mix (K : KOff) (V : VOff g) (al : Fin 2 → FVec F (D2 1 2048) .f32)
    (k : FVec F (D2 1 2048) .f32 → FVec F (D2 1 2048) .f32 → Pg nD τ Λ sig F α) : Pg nD τ Λ sig F α :=
  all16 (fun qc e k => scoreTile M K qc e fun a => pvTile M V qc e (al e) (k a)) k

/-- The scores of a block, with the product of the context. -/
def mixC (K : KOff) (p : Fin 2 → FVec F (D2 256 2048) .bf16) (al : FVec F (D2 1 2048) .f32)
    (k : FVec F (D2 1 2048) .f32 → FVec F (D2 1 2048) .f32 → Pg nD τ Λ sig F α) : Pg nD τ Λ sig F α :=
  all16 (fun qc e k => scoreTile M K qc e fun a => pvCTile M qc e (p e) al (k a)) k

/-- The product of a block. -/
def prods (V : VOff g) (al : Fin 2 → FVec F (D2 1 2048) .f32) (k : Pg nD τ Λ sig F α) : Pg nD τ Λ sig F α :=
  do16 (fun qc e k => pvTile M V qc e (al e) k) k

/-- The weights of a block. -/
def softs (mn : Fin 2 → FVec F (D2 1 2048) .f32) (k : Pg nD τ Λ sig F α) : Pg nD τ Λ sig F α :=
  do8 (fun qc k => softTile M qc 0 (mn 0) k) <| do8 (fun qc k => softTile M qc 1 (mn 1) k) k

/-- The context scores of a head. -/
def ctxScore (e : Fin 2) (k : FVec F (D2 256 2048) .f32 → Pg nD τ Λ sig F α) : Pg nD τ Λ sig F α :=
  ld M.kc ![0, 0, 128 * e.val] (D3 1 256 128).size (inb_kc e) (pos3 (by decide) (by decide) (by decide)) fun kv =>
  ld M.q ![0, 0, g.qo e] (D3 1 2048 128).size (inb_qw e) (pos3 (by decide) (by decide) (by decide)) fun qv =>
  k (ctxF kv qv)

/-- Zero the accumulator. -/
def zeroAcc (k : Pg nD τ Λ sig F α) : Pg nD τ Λ sig F α :=
  ld M.acc ![0, 0, 0] SA.size (inb_all rfl _ zero3) (pos3 (by decide) (by decide) (by decide)) fun _ =>
  st M.acc ![0, 0, 0] SA.size (inb_all rfl _ zero3) (shapeCast SA (broadcast SA (FloatOps.ofBits (F := F) .f32 0x00000000#32)) (by decide))
    (View.stores_vmem_bits_univ (pos3 (by decide) (by decide) (by decide)) rfl) k

/-- Divide, and write the result. -/
def finish (k : Pg nD τ Λ sig F α) : Pg nD τ Λ sig F α :=
  ld M.acc ![0, 0, 0] (D3 1 64 2048).size (inb_num 0) (pos3 (by decide) (by decide) (by decide)) fun n0 =>
  ld M.acc ![0, 64, 0] (D3 1 1 2048).size (inb_den 0) (pos3 (by decide) (by decide) (by decide)) fun d0 =>
  ld M.acc ![1, 0, 0] (D3 1 64 2048).size (inb_num 1) (pos3 (by decide) (by decide) (by decide)) fun n1 =>
  ld M.acc ![1, 64, 0] (D3 1 1 2048).size (inb_den 1) (pos3 (by decide) (by decide) (by decide)) fun d1 =>
  ld M.o ![0, 0, 0] SO.size (inb_all rfl _ zero3) (pos3 (by decide) (by decide) (by decide)) fun _ =>
  st M.o ![0, 0, 0] SO.size (inb_all rfl _ zero3) (outF (outHeadF n0 d0) (outHeadF n1 d1))
    (View.stores_vmem (pos3 (by decide) (by decide) (by decide)) (M.ho.storeExact_slice rfl _ packed_o) (fun _ => rfl)) k

/-- The keys of the block whose first row is `r`. -/
def kAt (b : Fin 8) : KOff where
  o e kr := ![0, 512 * b.val + 256 * kr.val, 128 * e.val]
  inb e kr := by intro a; fin_cases a <;> simp <;> omega

/-- The values of a block. -/
def vAt (g : Geo) (b : Fin 8) : VOff g where
  o e := ![0, g.vo e, 512 * b.val]
  inb e := by have := g.hv e; intro a; fin_cases a <;> simp <;> omega

abbrev onesF : FVec F (D2 1 2048) .f32 := broadcast (D2 1 2048) (FloatOps.ofBits (F := F) .f32 0x3F800000#32)
abbrev lowF : FVec F (D2 1 2048) .f32 := broadcast (D2 1 2048) (FloatOps.ofBits (F := F) .f32 0xF149F2CA#32)

/-- What is carried from block to block: both heads' maxima, the factors of the accumulator, the maxima of the
    scores not yet taken into account. -/
abbrev Carry (F : FTy → Type) : Type :=
  FVec F (D2 1 2048) .f32 × FVec F (D2 1 2048) .f32 × FVec F (D2 1 2048) .f32 × FVec F (D2 1 2048) .f32 ×
    FVec F (D2 1 2048) .f32 × FVec F (D2 1 2048) .f32

/-- Up to the loop: the context and the first two blocks' scores, the first block's weights. -/
def start (k : Carry F → Pg nD τ Λ sig F α) : Pg nD τ Λ sig F α :=
  zeroAcc M <| ctxScore M 0 fun c0 => ctxScore M 1 fun c1 => scores M (kAt 0) fun x0 x1 =>
  mixC M.swap (kAt 1) ![ctxSoftF (maximumf lowF (ctxMaxF c0)) c0, ctxSoftF (maximumf lowF (ctxMaxF c1)) c1] onesF fun y0 y1 =>
  softs M ![maximumf (maximumf lowF (ctxMaxF c0)) x0, maximumf (maximumf lowF (ctxMaxF c1)) x1] <|
  k (maximumf (maximumf lowF (ctxMaxF c0)) x0, maximumf (maximumf lowF (ctxMaxF c1)) x1,
     exp2 (subf (maximumf lowF (ctxMaxF c0)) (maximumf (maximumf lowF (ctxMaxF c0)) x0)),
     exp2 (subf (maximumf lowF (ctxMaxF c1)) (maximumf (maximumf lowF (ctxMaxF c1)) x1)), y0, y1)

/-- Half a trip: the next block's scores with the product of the block whose weights are known, then the weights of
    the block whose scores were known. -/
def halfTrip (K : KOff) (V : VOff g) (c : Carry F) (k : Carry F → Pg nD τ Λ sig F α) : Pg nD τ Λ sig F α :=
  mix M K V ![c.2.2.1, c.2.2.2.1] fun x0 x1 =>
  softs M.swap ![maximumf c.1 c.2.2.2.2.1, maximumf c.2.1 c.2.2.2.2.2] <|
  k (maximumf c.1 c.2.2.2.2.1, maximumf c.2.1 c.2.2.2.2.2,
     exp2 (subf c.1 (maximumf c.1 c.2.2.2.2.1)), exp2 (subf c.2.1 (maximumf c.2.1 c.2.2.2.2.2)), x0, x1)

/-- A trip of the loop. -/
def trip (K1 K2 : KOff) (V1 V2 : VOff g) (c : Carry F) : Pg nD τ Λ sig F (Carry F) :=
  halfTrip M K1 V1 c fun c => halfTrip M.swap K2 V2 c fun c => .ret c

/-- After the loop. -/
def close (c : Carry F) : Pg nD τ Λ sig F PUnit :=
  prods M (vAt g 6) ![c.2.2.1, c.2.2.2.1] <|
  softs M.swap ![maximumf c.1 c.2.2.2.2.1, maximumf c.2.1 c.2.2.2.2.2] <|
  prods M.swap (vAt g 7) ![exp2 (subf c.1 (maximumf c.1 c.2.2.2.2.1)), exp2 (subf c.2.1 (maximumf c.2.1 c.2.2.2.2.2))] <|
  finish M (.ret ⟨⟩)

/-- The body, its loop's trips in order. -/
def body {n : Nat} (K1 K2 : Fin n → KOff) (V1 V2 : Fin n → VOff g) : Pg nD τ Λ sig F PUnit :=
  start M fun c => Scf.forFrom (fun t c => trip M (K1 t) (K2 t) (V1 t) (V2 t) c) (List.finRange n) c >>= fun c => close M c

end

end Att
-- ==== Proof.Body.lean ====
/-
  The printed body is the program of tiles.
-/
module

public import Idealize.ShloMosaic.Lib.Tactic
public import proofs.«01_k».proof.Proof.Tiles
public import proofs.«01_k».proof.Proof.Gen.KernelIdeal

@[expose] public section

set_option maxRecDepth 16384

noncomputable section

namespace Cert.KernelIdeal

open Idealize.ShloMosaic Idealize.SL.Sem
open Cert.KernelIdeal.Gen Idealize.ShloMosaic.Tactic

variable {F : FTy → Type} [FloatOps F]

/-- Both heads share a group of queries' lanes and the values' rows. -/
abbrev geo : Att.Geo where
  w := 128
  vw := 128
  qo _ := 0
  vo _ := 0
  hq _ := by decide
  hv _ := by decide

def kLoop (c : Fin 2) (t : Fin k0_t1_loop.trips) : Att.KOff where
  o e kr := (![k0_off1 t (BitVec.ofNat 32 (1024 + 512 * c.val)) (BitVec.ofNat 32 (256 * kr.val)),
    k0_off3 t (BitVec.ofNat 32 (1024 + 512 * c.val)) (BitVec.ofNat 32 (256 * kr.val))] : Fin 2 → Fin 3 → Nat) e
  inb e kr := by
    fin_cases e
    · exact k0_off1_inb t c kr
    · exact k0_off3_inb t c kr

def vLoop (c : Fin 2) (t : Fin k0_t1_loop.trips) : Att.VOff geo where
  o _ := (![k0_off2 t, k0_off4 t] : Fin 2 → Fin 3 → Nat) c
  inb _ := by
    fin_cases c
    · exact k0_off2_inb t
    · exact k0_off4_inb t

abbrev mems (arg3 : Memref sig .tc .vmem S1x2048x128 .bf16) (arg4 : Memref sig .tc .vmem S1x256x256 .bf16) (arg5 : Memref sig .tc .vmem S1x128x256 .bf16) (arg6 : Memref sig .tc .vmem S1x4096x256 .bf16) (arg7 : Memref sig .tc .vmem S1x128x4096 .bf16) (arg8 : Memref sig .tc .vmem S1x2048x128 .bf16) (harg8 : arg8.IsWhole) (arg9 : Memref sig .tc .vmem S2x512x2048 .f32) (arg10 : Memref sig .tc .vmem S2x512x2048 .f32) (arg11 : Memref sig .tc .vmem S2x512x2048 .bf16) (harg11 : arg11.IsWhole) (arg12 : Memref sig .tc .vmem S2x512x2048 .bf16) (harg12 : arg12.IsWhole) (arg13 : Memref sig .tc .vmem S2x80x2048 .f32) :
    Att.Mems sig geo :=
  ⟨arg3, arg4, arg5, arg6, arg7, arg8, arg9, arg10, arg11, arg12, arg13, harg8, harg11, harg12⟩

theorem body_eq (i : grid0.Coords) (arg3 : Memref sig .tc .vmem S1x2048x128 .bf16) (harg3 : arg3.IsWhole) (arg4 : Memref sig .tc .vmem S1x256x256 .bf16) (harg4 : arg4.IsWhole) (arg5 : Memref sig .tc .vmem S1x128x256 .bf16) (harg5 : arg5.IsWhole) (arg6 : Memref sig .tc .vmem S1x4096x256 .bf16) (harg6 : arg6.IsWhole) (arg7 : Memref sig .tc .vmem S1x128x4096 .bf16) (harg7 : arg7.IsWhole) (arg8 : Memref sig .tc .vmem S1x2048x128 .bf16) (harg8 : arg8.IsWhole) (arg9 : Memref sig .tc .vmem S2x512x2048 .f32) (harg9 : arg9.IsWhole) (arg10 : Memref sig .tc .vmem S2x512x2048 .f32) (harg10 : arg10.IsWhole) (arg11 : Memref sig .tc .vmem S2x512x2048 .bf16) (harg11 : arg11.IsWhole) (arg12 : Memref sig .tc .vmem S2x512x2048 .bf16) (harg12 : arg12.IsWhole) (arg13 : Memref sig .tc .vmem S2x80x2048 .f32) (harg13 : arg13.IsWhole) :
    cc0_attn_gqa (F := F) i arg3 harg3 arg4 harg4 arg5 harg5 arg6 harg6 arg7 harg7 arg8 harg8 arg9 harg9 arg10 harg10 arg11 harg11 arg12 harg12 arg13 harg13 =
    Att.body (mems arg3 arg4 arg5 arg6 arg7 arg8 harg8 arg9 arg10 arg11 harg11 arg12 harg12 arg13) (n := k0_t1_loop.trips)
      (kLoop 0) (kLoop 1) (vLoop 0) (vLoop 1) := by
  delta cc0_attn_gqa k0_part113 k0_part92
  simp -zeta only [Scf.for_eq]
  sl_kernel_rfl

end Cert.KernelIdeal
-- ==== Proof.Hoare.lean ====
/-
  What the tiles do to the buffers: reads and writes of rectangles as rules over what the buffers hold, then one rule
  for each kind of tile, for sixteen tiles in turn and for the body.
-/
module

public import proofs.«01_k».proof.Proof.Tiles
public import Idealize.ShloMosaic.Lib.Pipeline.FrameBody
public import Idealize.ShloMosaic.Lib.Ring
public import Idealize.ShloMosaic.Lib.Tactic
public import Idealize.ShloMosaic.Lib.Pointwise

@[expose] public section

set_option maxRecDepth 16384

noncomputable section

namespace Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {F : FTy → Type} [FloatOps F]

local notation "𝕄" => MT nD τ sig Unit (Elt F) ℕ (UR sig nD τ) ℕ

/-- The program runs to `Q`. -/
abbrev W (defs : Defs nD τ sig (Elt F) Λ) (c : Dev nD) (E : Set ℕ) {α : Type} (Q : α → sProp 𝕄) (p : Pg nD τ Λ sig F α) : sProp 𝕄 :=
  wp frame (wpE defs Variants.none (c : Thread nD τ) none) E p Q

variable {defs : Defs nD τ sig (Elt F) Λ} {c : Dev nD} {E : Set ℕ} {α : Type} {Q : α → sProp (MT nD τ sig Unit (Elt F) ℕ (UR sig nD τ) ℕ)}

theorem ret_ok (a : α) : Q a ⊢ W defs c E Q (.ret a) := BI.fupd_intro

theorem bind_ok {β : Type} {p : Pg nD τ Λ sig F β} {k : β → Pg nD τ Λ sig F α} :
    W defs c E (fun x => W defs c E Q (k x)) p ⊢ W defs c E Q (p >>= k) := by
  unfold W
  rw [wp_bind]

theorem ld_ok {s : Shape} {e : EltTy} {m : Memref sig .tc .vmem s e} {off size : Fin s.rank → Nat}
    {inb : ∀ a, off a + size a ≤ s.size a} {h : 0 < (Shape.mk s.rank size).numel}
    {k : ((Shape.mk s.rank size).Idx → Elt F e) → Pg nD τ Λ sig F α} {X : s.Idx → Elt F e} :
    (owns (c : Thread nD τ) m fullShare X : sProp 𝕄) ⊢
      iprop((owns (c : Thread nD τ) m fullShare X -∗ W defs c E Q (k fun j => X ((Rect.unit off size inb).emb j)))
        -∗ W defs c E Q (ld m off size inb h k)) := by
  unfold owns
  iintro ⟨%f, %hf, H⟩ Hk
  iapply (wp_load_rect (defs := defs) Variants.none (c : Thread nD τ) none E (m := m) (r := Rect.unit off size inb)
    (S := m.view.set) (View.set_slice_subset _ _)) $$ H
  iintro H
  subst hf
  iapply Hk
  iexists f
  isplitr
  · ipureintro; rfl
  · iexact H

theorem st_ok {s : Shape} {e : EltTy} {m : Memref sig .tc .vmem s e} {off size : Fin s.rank → Nat}
    {inb : ∀ a, off a + size a ≤ s.size a} {w : (Shape.mk s.rank size).Idx → Elt F e}
    {h : (m.access (Rect.unit off size inb)).Stores Finset.univ}
    {k : Pg nD τ Λ sig F α} {X : s.Idx → Elt F e} (Y : s.Idx → Elt F e)
    (h1 : ∀ j, Y ((Rect.unit off size inb).emb j) = w j)
    (h2 : ∀ i, i ∉ (Rect.unit off size inb).set → Y i = X i) :
    (owns (c : Thread nD τ) m fullShare X : sProp 𝕄) ⊢
      iprop((owns (c : Thread nD τ) m fullShare Y -∗ W defs c E Q k)
        -∗ W defs c E Q (st m off size inb w h k)) := by
  unfold owns
  iintro ⟨%f, %hf, H⟩ Hk
  iapply (wp_store (defs := defs) Variants.none (c : Thread nD τ) none E (m := m) (r := Rect.unit off size inb)
    (S := m.view.set) (by rw [View.setOn_univ]; exact View.set_slice_subset _ _)) $$ H
  iintro H
  iapply Hk
  iexists _
  isplitr
  swap
  · iexact H
  · ipureintro
    subst hf
    funext i
    by_cases hi : i ∈ (Rect.unit off size inb).set
    · rw [← Rect.map_emb_univ, Finset.mem_map] at hi
      obtain ⟨j, -, rfl⟩ := hi
      rw [h1]
      exact View.read_slice_write_emb _ _ _ (Finset.mem_univ j)
    · rw [h2 i hi]
      exact View.read_slice_write_of_not_mem _ _ _ _ (by rwa [Rect.map_emb_univ])

/-! ### What the buffers hold, as functions -/

/-- A block of weights or scores or sums from its tiles: head, group of queries, index in the tile. -/
def qcOf {R : Nat} (i : (D3 2 R 2048).Idx) : Fin 8 := ⟨(i 2).val / 256, by have := (i 2).isLt; change (i 2).val < 2048 at this; omega⟩

def inTile {R : Nat} (i : (D3 2 R 2048).Idx) : (D3 1 R 256).Idx :=
  ix3 0 (i 1) ⟨(i 2).val % 256, Nat.mod_lt _ (by decide)⟩

def spread {R : Nat} {V : Type} (G : Fin 2 → Fin 8 → (D3 1 R 256).Idx → V) : (D3 2 R 2048).Idx → V :=
  fun i => G (i 0) (qcOf i) (inTile i)

/-- The contents once the tiles numbered below `n` are done. -/
def part {R : Nat} {V : Type} (key : Fin 2 → Fin 8 → Nat) (n : Nat) (new old : (D3 2 R 2048).Idx → V) : (D3 2 R 2048).Idx → V :=
  fun i => if key (i 0) (qcOf i) < n then new i else old i

theorem part_zero {R : Nat} {V : Type} (key : Fin 2 → Fin 8 → Nat) (new old : (D3 2 R 2048).Idx → V) :
    part key 0 new old = old := by
  funext i; simp [part]

theorem part_all {R : Nat} {V : Type} {key : Fin 2 → Fin 8 → Nat} {n : Nat} (h : ∀ e qc, key e qc < n)
    (new old : (D3 2 R 2048).Idx → V) : part key n new old = new :=
  funext fun _ => if_pos (h _ _)

section
variable {R : Nat} {V : Type} {e : Fin 2} {qc : Fin 8}
  {inb : ∀ a, (![e.val, 0, 256 * qc.val] : Fin 3 → Nat) a + (D3 1 R 256).size a ≤ (D3 2 R 2048).size a}

theorem emb_hd (j : (D3 1 R 256).Idx) :
    (Rect.unit (s := D3 2 R 2048) ![e.val, 0, 256 * qc.val] (D3 1 R 256).size inb).emb j 0 = e := by
  apply Fin.ext
  rw [Rect.emb_apply]
  have : (j 0).val < 1 := (j 0).isLt
  simp; omega

theorem emb_qc (j : (D3 1 R 256).Idx) :
    qcOf ((Rect.unit (s := D3 2 R 2048) ![e.val, 0, 256 * qc.val] (D3 1 R 256).size inb).emb j) = qc := by
  apply Fin.ext
  have : (j 2).val < 256 := (j 2).isLt
  simp [qcOf, Rect.emb_apply]; omega

theorem emb_in (j : (D3 1 R 256).Idx) :
    inTile ((Rect.unit (s := D3 2 R 2048) ![e.val, 0, 256 * qc.val] (D3 1 R 256).size inb).emb j) = j := by
  have h2 : (j 2).val < 256 := (j 2).isLt
  have h0 : (j 0).val < 1 := (j 0).isLt
  funext a
  apply Fin.ext
  match a with
  | ⟨0, _⟩ => simp [inTile, ix3]; omega
  | ⟨1, _⟩ => simp [inTile, ix3, Rect.emb_apply]
  | ⟨2, _⟩ => simp [inTile, ix3, Rect.emb_apply]; omega

theorem spread_emb (G : Fin 2 → Fin 8 → (D3 1 R 256).Idx → V) (j : (D3 1 R 256).Idx) :
    spread G ((Rect.unit (s := D3 2 R 2048) ![e.val, 0, 256 * qc.val] (D3 1 R 256).size inb).emb j) = G e qc j := by
  rw [spread, emb_hd, emb_qc, emb_in]

theorem mem_tile (i : (D3 2 R 2048).Idx) (h0 : i 0 = e) (h2 : qcOf i = qc) :
    i ∈ (Rect.unit (s := D3 2 R 2048) ![e.val, 0, 256 * qc.val] (D3 1 R 256).size inb).set := by
  rw [Rect.mem_set_unit]
  subst h0 h2
  intro a
  match a with
  | ⟨0, _⟩ => simp
  | ⟨1, _⟩ => exact ⟨Nat.zero_le _, by simp; exact (i 1).isLt⟩
  | ⟨2, _⟩ => simp [qcOf]; omega

theorem part_emb {key : Fin 2 → Fin 8 → Nat} (G : Fin 2 → Fin 8 → (D3 1 R 256).Idx → V) (old : (D3 2 R 2048).Idx → V)
    (j : (D3 1 R 256).Idx) :
    part key (key e qc + 1) (spread G) old
      ((Rect.unit (s := D3 2 R 2048) ![e.val, 0, 256 * qc.val] (D3 1 R 256).size inb).emb j) = G e qc j := by
  rw [part, emb_hd, emb_qc, if_pos (Nat.lt_succ_self _), spread_emb]

theorem part_read {key : Fin 2 → Fin 8 → Nat} (new old : (D3 2 R 2048).Idx → V) (j : (D3 1 R 256).Idx) :
    part key (key e qc) new old
      ((Rect.unit (s := D3 2 R 2048) ![e.val, 0, 256 * qc.val] (D3 1 R 256).size inb).emb j) =
    old ((Rect.unit (s := D3 2 R 2048) ![e.val, 0, 256 * qc.val] (D3 1 R 256).size inb).emb j) := by
  rw [part, emb_hd, emb_qc, if_neg (Nat.lt_irrefl _)]

theorem part_not {key : Fin 2 → Fin 8 → Nat} (hkey : ∀ e qc e' qc', key e qc = key e' qc' → e = e' ∧ qc = qc')
    (new old : (D3 2 R 2048).Idx → V) (i : (D3 2 R 2048).Idx)
    (hi : i ∉ (Rect.unit (s := D3 2 R 2048) ![e.val, 0, 256 * qc.val] (D3 1 R 256).size inb).set) :
    part key (key e qc + 1) new old i = part key (key e qc) new old i := by
  have : key (i 0) (qcOf i) ≠ key e qc := fun h => hi (mem_tile i (hkey _ _ _ _ h).1 (hkey _ _ _ _ h).2)
  simp only [part]
  congr 1
  exact propext (by omega)

end

/-- Tiles in turn, queries outermost, -/
abbrev keyQ : Fin 2 → Fin 8 → Nat := fun e qc => 2 * qc.val + e.val
/-- and heads outermost. -/
abbrev keyE : Fin 2 → Fin 8 → Nat := fun e qc => 8 * e.val + qc.val

theorem keyQ_inj : ∀ e qc e' qc', keyQ e qc = keyQ e' qc' → e = e' ∧ qc = qc' := by decide +kernel
theorem keyE_inj : ∀ e qc e' qc', keyE e qc = keyE e' qc' → e = e' ∧ qc = qc' := by decide +kernel
theorem keyQ_lt : ∀ e qc, keyQ e qc < 16 := by decide
theorem keyE_lt : ∀ e qc, keyE e qc < 16 := by decide

/-! ### Rectangles of the buffers -/

variable {g : Geo}

abbrev rKl (kl : SL.Idx → F .bf16) (K : KOff) (e kr : Fin 2) : FVec F (D3 1 256 128) .bf16 :=
  fun j => kl ((Rect.unit (s := SL) (K.o e kr) (D3 1 256 128).size (K.inb e kr)).emb j)
abbrev rQ (q : (SQ g.w).Idx → F .bf16) (e : Fin 2) (qc : Fin 8) : FVec F (D3 1 256 128) .bf16 :=
  fun j => q ((Rect.unit (s := SQ g.w) ![0, 256 * qc.val, g.qo e] (D3 1 256 128).size (inb_q e qc)).emb j)
abbrev rQw (q : (SQ g.w).Idx → F .bf16) (e : Fin 2) : FVec F (D3 1 2048 128) .bf16 :=
  fun j => q ((Rect.unit (s := SQ g.w) ![0, 0, g.qo e] (D3 1 2048 128).size (inb_qw e)).emb j)
abbrev rKc (kc : SC.Idx → F .bf16) (e : Fin 2) : FVec F (D3 1 256 128) .bf16 :=
  fun j => kc ((Rect.unit (s := SC) ![0, 0, 128 * e.val] (D3 1 256 128).size (inb_kc e)).emb j)
abbrev rVl (vl : (SVL g.vw).Idx → F .bf16) (V : VOff g) (e : Fin 2) : FVec F (D3 1 80 512) .bf16 :=
  fun j => vl ((Rect.unit (s := SVL g.vw) (V.o e) (D3 1 80 512).size (V.inb e)).emb j)
abbrev rVc (vc : (SVC g.vw).Idx → F .bf16) (e : Fin 2) : FVec F (D3 1 80 256) .bf16 :=
  fun j => vc ((Rect.unit (s := SVC g.vw) ![0, g.vo e, 0] (D3 1 80 256).size (inb_vc e)).emb j)
abbrev rP {V : Type} (p : SS.Idx → V) (e : Fin 2) (qc : Fin 8) : (D3 1 512 256).Idx → V :=
  fun j => p ((Rect.unit (s := SS) ![e.val, 0, 256 * qc.val] (D3 1 512 256).size (inb_p e qc)).emb j)
abbrev rAcc (acc : SA.Idx → F .f32) (e : Fin 2) (qc : Fin 8) : FVec F (D3 1 80 256) .f32 :=
  fun j => acc ((Rect.unit (s := SA) ![e.val, 0, 256 * qc.val] (D3 1 80 256).size (inb_acc e qc)).emb j)
abbrev rNum (acc : SA.Idx → F .f32) (e : Fin 2) : FVec F (D3 1 64 2048) .f32 :=
  fun j => acc ((Rect.unit (s := SA) ![e.val, 0, 0] (D3 1 64 2048).size (inb_num e)).emb j)
abbrev rDen (acc : SA.Idx → F .f32) (e : Fin 2) : FVec F (D3 1 1 2048) .f32 :=
  fun j => acc ((Rect.unit (s := SA) ![e.val, 64, 0] (D3 1 1 2048).size (inb_den e)).emb j)

/-- The scores of a block. -/
def scoreAt (q : (SQ g.w).Idx → F .bf16) (kl : SL.Idx → F .bf16) (K : KOff) (e : Fin 2) (qc : Fin 8) (j : (D3 1 512 256).Idx) : F .f32 :=
  shapeCast (D3 1 256 256)
    (scoreF (rKl kl K e ⟨(j 1).val / 256, by have := (j 1).isLt; change (j 1).val < 512 at this; omega⟩) (rQ q e qc)) (by decide)
    (ix3 0 ⟨(j 1).val % 256, Nat.mod_lt _ (by decide)⟩ (j 2))

def scoreAll (q : (SQ g.w).Idx → F .bf16) (kl : SL.Idx → F .bf16) (K : KOff) : SS.Idx → F .f32 := spread (scoreAt q kl K)

/-- A tile's maxima, and those of all queries of a head. -/
def tileMax (q : (SQ g.w).Idx → F .bf16) (kl : SL.Idx → F .bf16) (K : KOff) (e : Fin 2) (qc : Fin 8) : FVec F (D2 1 256) .f32 :=
  maximumf (maxF (scoreF (rKl kl K e 0) (rQ q e qc))) (maxF (scoreF (rKl kl K e 1) (rQ q e qc)))

def allMax (r : Fin 8 → FVec F (D2 1 256) .f32) : FVec F (D2 1 2048) .f32 :=
  cat8 (r 0) (r 1) (r 2) (r 3) (r 4) (r 5) (r 6) (r 7)

/-- The accumulator after a block's product, -/
def accAll (vl : (SVL g.vw).Idx → F .bf16) (V : VOff g) (al : Fin 2 → FVec F (D2 1 2048) .f32) (p : SS.Idx → F .bf16)
    (acc : SA.Idx → F .f32) : SA.Idx → F .f32 :=
  spread fun e qc => accF qc (al e) (rAcc acc e qc) (pvF (rVl vl V e) (rP p e qc))

/-- and after the context's. -/
def accCtx (vc : (SVC g.vw).Idx → F .bf16) (al : FVec F (D2 1 2048) .f32) (p : Fin 2 → FVec F (D2 256 2048) .bf16)
    (acc : SA.Idx → F .f32) : SA.Idx → F .f32 :=
  spread fun e qc => accF qc al (rAcc acc e qc) (pvCF qc (rVc vc e) (p e))

/-- The weights of a block. -/
def softAll (mn : Fin 2 → FVec F (D2 1 2048) .f32) (s : SS.Idx → F .f32) : SS.Idx → F .bf16 :=
  spread fun e qc => softF qc (mn e) (rP s e qc)

/-! ### Tiles -/

variable (M : Mems sig g)

/-- The first half of a tile done as well. -/
def partHalf {V : Type} (e : Fin 2) (qc : Fin 8) (new old : SS.Idx → V) : SS.Idx → V :=
  fun i => if (i 0).val = e.val ∧ (qcOf i).val = qc.val ∧ (i 1).val < 256 then new i else part keyQ (keyQ e qc) new old i

theorem half_emb (e kr : Fin 2) (qc : Fin 8) (j : (D3 1 256 256).Idx) :
    (Rect.unit (s := SS) ![e.val, 256 * kr.val, 256 * qc.val] (D3 1 256 256).size (inb_s e kr qc)).emb j =
    (ix3 e ⟨256 * kr.val + (j 1).val, by have : (j 1).val < 256 := (j 1).isLt; omega⟩
      ⟨256 * qc.val + (j 2).val, by have : (j 2).val < 256 := (j 2).isLt; omega⟩ : SS.Idx) := by
  have h0 : (j 0).val < 1 := (j 0).isLt
  funext a
  apply Fin.ext
  rw [Rect.emb_apply]
  match a with
  | ⟨0, _⟩ => simp [ix3]; omega
  | ⟨1, _⟩ => simp [ix3]
  | ⟨2, _⟩ => simp [ix3]

theorem half_new (q : (SQ g.w).Idx → F .bf16) (kl : SL.Idx → F .bf16) (K : KOff) (e kr : Fin 2) (qc : Fin 8) (j : (D3 1 256 256).Idx) :
    scoreAll q kl K ((Rect.unit (s := SS) ![e.val, 256 * kr.val, 256 * qc.val] (D3 1 256 256).size (inb_s e kr qc)).emb j) =
    shapeCast (D3 1 256 256) (scoreF (rKl kl K e kr) (rQ q e qc)) (by decide) j := by
  have h1 : (j 1).val < 256 := (j 1).isLt
  have h2 : (j 2).val < 256 := (j 2).isLt
  have h0 : (j 0).val < 1 := (j 0).isLt
  rw [half_emb]
  have hq : qcOf (R := 512) (ix3 e ⟨256 * kr.val + (j 1).val, by omega⟩ ⟨256 * qc.val + (j 2).val, by omega⟩) = qc := by
    apply Fin.ext; simp [qcOf]; omega
  unfold scoreAll spread scoreAt
  rw [hq]
  have hk : ∀ h, (⟨(256 * kr.val + (j 1).val) / 256, h⟩ : Fin 2) = kr := fun h => Fin.ext (by simp; omega)
  simp only [inTile, ix3_0, ix3_1, ix3_2, hk]
  congr 1
  funext a
  apply Fin.ext
  match a with
  | ⟨0, _⟩ => simp [ix3]; omega
  | ⟨1, _⟩ => simp [ix3]; omega
  | ⟨2, _⟩ => simp [ix3]; omega

theorem scoreTile_ok {K : KOff} {qc : Fin 8} {e : Fin 2} {k : FVec F (D2 1 256) .f32 → Pg nD τ Λ sig F α}
    {q : (SQ g.w).Idx → F .bf16} {kl : SL.Idx → F .bf16} {old : SS.Idx → F .f32} :
    (iprop(owns (c : Thread nD τ) M.q fullShare q ∗ owns (c : Thread nD τ) M.kl fullShare kl ∗
      owns (c : Thread nD τ) M.s0 fullShare (part keyQ (keyQ e qc) (scoreAll q kl K) old)) : sProp 𝕄) ⊢
    iprop((iprop(owns (c : Thread nD τ) M.q fullShare q ∗ owns (c : Thread nD τ) M.kl fullShare kl ∗
      owns (c : Thread nD τ) M.s0 fullShare (part keyQ (keyQ e qc + 1) (scoreAll q kl K) old))
        -∗ W defs c E Q (k (tileMax q kl K e qc))) -∗ W defs c E Q (scoreTile M K qc e k)) := by
  unfold scoreTile scoreHalf
  iintro ⟨Hq, Hk, Hs⟩ Hc
  iapply ld_ok $$ Hk; iintro Hk
  iapply ld_ok $$ Hq; iintro Hq
  iapply ld_ok $$ Hs; iintro Hs
  iapply (st_ok (partHalf e qc (scoreAll q kl K) old) ?_ ?_) $$ Hs
  · intro j
    have h1 : (j 1).val < 256 := (j 1).isLt
    have h2 : (j 2).val < 256 := (j 2).isLt
    rw [← half_new, half_emb, partHalf, if_pos]
    simp [qcOf]; omega
  · intro i hi
    rw [partHalf, if_neg]
    rintro ⟨h0, h2, h1⟩
    refine hi (Rect.mem_set_unit.2 fun a => ?_)
    simp only [qcOf] at h2
    match a with
    | ⟨0, _⟩ => simp; omega
    | ⟨1, _⟩ => simp; omega
    | ⟨2, _⟩ => simp; omega
  iintro Hs
  iapply ld_ok $$ Hk; iintro Hk
  iapply ld_ok $$ Hq; iintro Hq
  iapply ld_ok $$ Hs; iintro Hs
  iapply (st_ok (part keyQ (keyQ e qc + 1) (scoreAll q kl K) old) ?_ ?_) $$ Hs
  · intro j
    rw [← half_new, half_emb, part, if_pos]
    have h2 : (j 2).val < 256 := (j 2).isLt
    simp [qcOf]; omega
  · intro i hi
    have hi' : ¬ ((i 0).val = e.val ∧ (qcOf i).val = qc.val ∧ 256 ≤ (i 1).val) := by
      rintro ⟨h0, h2, h1⟩
      have h1' : (i 1).val < 512 := (i 1).isLt
      refine hi (Rect.mem_set_unit.2 fun a => ?_)
      simp only [qcOf] at h2
      match a with
      | ⟨0, _⟩ => simp; omega
      | ⟨1, _⟩ => simp; omega
      | ⟨2, _⟩ => simp; omega
    rw [partHalf]
    by_cases h : (i 0).val = e.val ∧ (qcOf i).val = qc.val
    · have h1 : (i 1).val < 256 := by
        by_contra h1; exact hi' ⟨h.1, h.2, by omega⟩
      have hk : keyQ (i 0) (qcOf i) = keyQ e qc := by
        simp only [keyQ]; have := h.1; have := h.2; omega
      rw [if_pos ⟨h.1, h.2, h1⟩, part, if_pos (by omega)]
    · rw [if_neg (fun hh => h ⟨hh.1, hh.2.1⟩)]
      have hk : keyQ (i 0) (qcOf i) ≠ keyQ e qc := fun hh =>
        h ⟨congrArg Fin.val (keyQ_inj _ _ _ _ hh).1, congrArg Fin.val (keyQ_inj _ _ _ _ hh).2⟩
      simp only [part]
      congr 1
      exact propext (by omega)
  iintro Hs
  iapply Hc
  isplitl [Hq]; · iexact Hq
  isplitl [Hk]; · iexact Hk
  iexact Hs

theorem accTile_ok {qc : Fin 8} {e : Fin 2} {al : FVec F (D2 1 2048) .f32} {pv : FVec F (D2 80 256) .f32}
    {k : Pg nD τ Λ sig F α} {acc : SA.Idx → F .f32} (G : Fin 2 → Fin 8 → (D3 1 80 256).Idx → F .f32)
    (hG : G e qc = accF qc al (rAcc acc e qc) pv) :
    (owns (c : Thread nD τ) M.acc fullShare (part keyQ (keyQ e qc) (spread G) acc) : sProp 𝕄) ⊢
    iprop((owns (c : Thread nD τ) M.acc fullShare (part keyQ (keyQ e qc + 1) (spread G) acc) -∗ W defs c E Q k)
      -∗ W defs c E Q (accTile M qc e al pv k)) := by
  unfold accTile
  iintro Ha Hc
  iapply ld_ok $$ Ha; iintro Ha
  iapply ld_ok $$ Ha; iintro Ha
  iapply (st_ok (part keyQ (keyQ e qc + 1) (spread G) acc) ?_ ?_) $$ Ha
  · intro j
    rw [part_emb, hG]
    refine congrFun (congrArg (fun x => accF qc al x pv) (funext fun j => (part_read (key := keyQ) _ _ j).symm)) j
  · exact part_not keyQ_inj _ _
  iintro Ha
  iapply Hc
  iexact Ha

theorem pvTile_ok {V : VOff g} {qc : Fin 8} {e : Fin 2} {al : Fin 2 → FVec F (D2 1 2048) .f32}
    {k : Pg nD τ Λ sig F α} {vl : (SVL g.vw).Idx → F .bf16} {p : SS.Idx → F .bf16} {acc : SA.Idx → F .f32} :
    (iprop(owns (c : Thread nD τ) M.vl fullShare vl ∗ owns (c : Thread nD τ) M.p0 fullShare p ∗
      owns (c : Thread nD τ) M.acc fullShare (part keyQ (keyQ e qc) (accAll vl V al p acc) acc)) : sProp 𝕄) ⊢
    iprop((iprop(owns (c : Thread nD τ) M.vl fullShare vl ∗ owns (c : Thread nD τ) M.p0 fullShare p ∗
      owns (c : Thread nD τ) M.acc fullShare (part keyQ (keyQ e qc + 1) (accAll vl V al p acc) acc)) -∗ W defs c E Q k)
      -∗ W defs c E Q (pvTile M V qc e (al e) k)) := by
  unfold pvTile accAll
  iintro ⟨Hv, Hp, Ha⟩ Hc
  iapply ld_ok $$ Hv; iintro Hv
  iapply ld_ok $$ Hp; iintro Hp
  iapply (accTile_ok M _ ?_) $$ Ha
  · rfl
  iintro Ha
  iapply Hc
  isplitl [Hv]; · iexact Hv
  isplitl [Hp]; · iexact Hp
  iexact Ha

theorem pvCTile_ok {qc : Fin 8} {e : Fin 2} {al : FVec F (D2 1 2048) .f32} {p : Fin 2 → FVec F (D2 256 2048) .bf16}
    {k : Pg nD τ Λ sig F α} {vc : (SVC g.vw).Idx → F .bf16} {acc : SA.Idx → F .f32} :
    (iprop(owns (c : Thread nD τ) M.vc fullShare vc ∗
      owns (c : Thread nD τ) M.acc fullShare (part keyQ (keyQ e qc) (accCtx vc al p acc) acc)) : sProp 𝕄) ⊢
    iprop((iprop(owns (c : Thread nD τ) M.vc fullShare vc ∗
      owns (c : Thread nD τ) M.acc fullShare (part keyQ (keyQ e qc + 1) (accCtx vc al p acc) acc)) -∗ W defs c E Q k)
      -∗ W defs c E Q (pvCTile M qc e (p e) al k)) := by
  unfold pvCTile accCtx
  iintro ⟨Hv, Ha⟩ Hc
  iapply ld_ok $$ Hv; iintro Hv
  iapply (accTile_ok M _ ?_) $$ Ha
  · rfl
  iintro Ha
  iapply Hc
  isplitl [Hv]; · iexact Hv
  iexact Ha

theorem softTile_ok {qc : Fin 8} {e : Fin 2} {mn : Fin 2 → FVec F (D2 1 2048) .f32}
    {k : Pg nD τ Λ sig F α} {s : SS.Idx → F .f32} {p : SS.Idx → F .bf16} :
    (iprop(owns (c : Thread nD τ) M.s0 fullShare s ∗
      owns (c : Thread nD τ) M.p0 fullShare (part keyE (keyE e qc) (softAll mn s) p)) : sProp 𝕄) ⊢
    iprop((iprop(owns (c : Thread nD τ) M.s0 fullShare s ∗
      owns (c : Thread nD τ) M.p0 fullShare (part keyE (keyE e qc + 1) (softAll mn s) p)) -∗ W defs c E Q k)
      -∗ W defs c E Q (softTile M qc e (mn e) k)) := by
  unfold softTile softAll
  iintro ⟨Hs, Hp⟩ Hc
  iapply ld_ok $$ Hs; iintro Hs
  iapply ld_ok $$ Hp; iintro Hp
  iapply (st_ok (part keyE (keyE e qc + 1) (spread fun e qc => softF qc (mn e) (rP s e qc)) p) ?_ ?_) $$ Hp
  · intro j
    rw [part_emb]
  · exact part_not keyE_inj _ _
  iintro Hp
  iapply Hc
  isplitl [Hs]; · iexact Hs
  iexact Hp

/-! ### Sixteen tiles in turn -/

theorem all16_ok {t : Fin 8 → Fin 2 → (FVec F (D2 1 256) .f32 → Pg nD τ Λ sig F α) → Pg nD τ Λ sig F α}
    {k : FVec F (D2 1 2048) .f32 → FVec F (D2 1 2048) .f32 → Pg nD τ Λ sig F α} (T : Nat → sProp 𝕄)
    (r : Fin 2 → Fin 8 → FVec F (D2 1 256) .f32)
    (h : ∀ e qc k, T (keyQ e qc) ⊢ iprop((T (keyQ e qc + 1) -∗ W defs c E Q (k (r e qc))) -∗ W defs c E Q (t qc e k))) :
    T 0 ⊢ iprop((T 16 -∗ W defs c E Q (k (allMax (r 0)) (allMax (r 1)))) -∗ W defs c E Q (all16 t k)) := by
  unfold all16 allMax
  iintro H Hk
  iapply (h 0 0 _) $$ H; iintro H
  iapply (h 1 0 _) $$ H; iintro H
  iapply (h 0 1 _) $$ H; iintro H
  iapply (h 1 1 _) $$ H; iintro H
  iapply (h 0 2 _) $$ H; iintro H
  iapply (h 1 2 _) $$ H; iintro H
  iapply (h 0 3 _) $$ H; iintro H
  iapply (h 1 3 _) $$ H; iintro H
  iapply (h 0 4 _) $$ H; iintro H
  iapply (h 1 4 _) $$ H; iintro H
  iapply (h 0 5 _) $$ H; iintro H
  iapply (h 1 5 _) $$ H; iintro H
  iapply (h 0 6 _) $$ H; iintro H
  iapply (h 1 6 _) $$ H; iintro H
  iapply (h 0 7 _) $$ H; iintro H
  iapply (h 1 7 _) $$ H; iintro H
  iapply Hk
  iexact H

theorem do16_ok {t : Fin 8 → Fin 2 → Pg nD τ Λ sig F α → Pg nD τ Λ sig F α} {k : Pg nD τ Λ sig F α} (T : Nat → sProp 𝕄)
    (h : ∀ e qc k, T (keyQ e qc) ⊢ iprop((T (keyQ e qc + 1) -∗ W defs c E Q k) -∗ W defs c E Q (t qc e k))) :
    T 0 ⊢ iprop((T 16 -∗ W defs c E Q k) -∗ W defs c E Q (do16 t k)) := by
  unfold do16
  iintro H Hk
  iapply (h 0 0 _) $$ H; iintro H
  iapply (h 1 0 _) $$ H; iintro H
  iapply (h 0 1 _) $$ H; iintro H
  iapply (h 1 1 _) $$ H; iintro H
  iapply (h 0 2 _) $$ H; iintro H
  iapply (h 1 2 _) $$ H; iintro H
  iapply (h 0 3 _) $$ H; iintro H
  iapply (h 1 3 _) $$ H; iintro H
  iapply (h 0 4 _) $$ H; iintro H
  iapply (h 1 4 _) $$ H; iintro H
  iapply (h 0 5 _) $$ H; iintro H
  iapply (h 1 5 _) $$ H; iintro H
  iapply (h 0 6 _) $$ H; iintro H
  iapply (h 1 6 _) $$ H; iintro H
  iapply (h 0 7 _) $$ H; iintro H
  iapply (h 1 7 _) $$ H; iintro H
  iapply Hk
  iexact H

theorem do8_ok {t : Fin 8 → Pg nD τ Λ sig F α → Pg nD τ Λ sig F α} {k : Pg nD τ Λ sig F α} (e : Fin 2) (T : Nat → sProp 𝕄)
    (h : ∀ qc k, T (keyE e qc) ⊢ iprop((T (keyE e qc + 1) -∗ W defs c E Q k) -∗ W defs c E Q (t qc k))) :
    T (8 * e.val) ⊢ iprop((T (8 * e.val + 8) -∗ W defs c E Q k) -∗ W defs c E Q (do8 t k)) := by
  unfold do8
  iintro H Hk
  iapply (h 0 _) $$ H; iintro H
  iapply (h 1 _) $$ H; iintro H
  iapply (h 2 _) $$ H; iintro H
  iapply (h 3 _) $$ H; iintro H
  iapply (h 4 _) $$ H; iintro H
  iapply (h 5 _) $$ H; iintro H
  iapply (h 6 _) $$ H; iintro H
  iapply (h 7 _) $$ H; iintro H
  iapply Hk
  iexact H

/-! ### Phases -/

theorem scores_ok {K : KOff} {k : FVec F (D2 1 2048) .f32 → FVec F (D2 1 2048) .f32 → Pg nD τ Λ sig F α}
    {q : (SQ g.w).Idx → F .bf16} {kl : SL.Idx → F .bf16} {old : SS.Idx → F .f32} :
    (iprop(owns (c : Thread nD τ) M.q fullShare q ∗ owns (c : Thread nD τ) M.kl fullShare kl ∗
      owns (c : Thread nD τ) M.s0 fullShare old) : sProp 𝕄) ⊢
    iprop((iprop(owns (c : Thread nD τ) M.q fullShare q ∗ owns (c : Thread nD τ) M.kl fullShare kl ∗
      owns (c : Thread nD τ) M.s0 fullShare (scoreAll q kl K))
        -∗ W defs c E Q (k (allMax (tileMax q kl K 0)) (allMax (tileMax q kl K 1)))) -∗ W defs c E Q (scores M K k)) := by
  have h := all16_ok (defs := defs) (E := E) (Q := Q) (t := fun qc e k => scoreTile M K qc e k) (k := k)
    (fun n => (iprop(owns (c : Thread nD τ) M.q fullShare q ∗ owns (c : Thread nD τ) M.kl fullShare kl ∗
      owns (c : Thread nD τ) M.s0 fullShare (part keyQ n (scoreAll q kl K) old)) : sProp 𝕄)) (tileMax q kl K)
    (fun e qc k => scoreTile_ok M)
  simp only [part_zero, part_all keyQ_lt] at h
  exact h

theorem mix_ok {K : KOff} {V : VOff g} {al : Fin 2 → FVec F (D2 1 2048) .f32}
    {k : FVec F (D2 1 2048) .f32 → FVec F (D2 1 2048) .f32 → Pg nD τ Λ sig F α}
    {q : (SQ g.w).Idx → F .bf16} {kl : SL.Idx → F .bf16} {old : SS.Idx → F .f32}
    {vl : (SVL g.vw).Idx → F .bf16} {p : SS.Idx → F .bf16} {acc : SA.Idx → F .f32} :
    (iprop(iprop(owns (c : Thread nD τ) M.q fullShare q ∗ owns (c : Thread nD τ) M.kl fullShare kl ∗
      owns (c : Thread nD τ) M.s0 fullShare old) ∗
      iprop(owns (c : Thread nD τ) M.vl fullShare vl ∗ owns (c : Thread nD τ) M.p0 fullShare p ∗
      owns (c : Thread nD τ) M.acc fullShare acc)) : sProp 𝕄) ⊢
    iprop((iprop(iprop(owns (c : Thread nD τ) M.q fullShare q ∗ owns (c : Thread nD τ) M.kl fullShare kl ∗
      owns (c : Thread nD τ) M.s0 fullShare (scoreAll q kl K)) ∗
      iprop(owns (c : Thread nD τ) M.vl fullShare vl ∗ owns (c : Thread nD τ) M.p0 fullShare p ∗
      owns (c : Thread nD τ) M.acc fullShare (accAll vl V al p acc)))
        -∗ W defs c E Q (k (allMax (tileMax q kl K 0)) (allMax (tileMax q kl K 1)))) -∗ W defs c E Q (mix M K V al k)) := by
  have h := all16_ok (defs := defs) (E := E) (Q := Q)
    (t := fun qc e k => scoreTile M K qc e fun a => pvTile M V qc e (al e) (k a)) (k := k)
    (fun n => (iprop(iprop(owns (c : Thread nD τ) M.q fullShare q ∗ owns (c : Thread nD τ) M.kl fullShare kl ∗
      owns (c : Thread nD τ) M.s0 fullShare (part keyQ n (scoreAll q kl K) old)) ∗
      iprop(owns (c : Thread nD τ) M.vl fullShare vl ∗ owns (c : Thread nD τ) M.p0 fullShare p ∗
      owns (c : Thread nD τ) M.acc fullShare (part keyQ n (accAll vl V al p acc) acc))) : sProp 𝕄)) (tileMax q kl K)
    (fun e qc k => by
      iintro ⟨H1, H2⟩ Hc
      iapply (scoreTile_ok M) $$ H1; iintro H1
      iapply (pvTile_ok M) $$ H2; iintro H2
      iapply Hc
      isplitl [H1]; · iexact H1
      iexact H2)
  simp only [part_zero, part_all keyQ_lt] at h
  exact h

theorem mixC_ok {K : KOff} {al : FVec F (D2 1 2048) .f32} {p : Fin 2 → FVec F (D2 256 2048) .bf16}
    {k : FVec F (D2 1 2048) .f32 → FVec F (D2 1 2048) .f32 → Pg nD τ Λ sig F α}
    {q : (SQ g.w).Idx → F .bf16} {kl : SL.Idx → F .bf16} {old : SS.Idx → F .f32}
    {vc : (SVC g.vw).Idx → F .bf16} {acc : SA.Idx → F .f32} :
    (iprop(iprop(owns (c : Thread nD τ) M.q fullShare q ∗ owns (c : Thread nD τ) M.kl fullShare kl ∗
      owns (c : Thread nD τ) M.s0 fullShare old) ∗
      iprop(owns (c : Thread nD τ) M.vc fullShare vc ∗
      owns (c : Thread nD τ) M.acc fullShare acc)) : sProp 𝕄) ⊢
    iprop((iprop(iprop(owns (c : Thread nD τ) M.q fullShare q ∗ owns (c : Thread nD τ) M.kl fullShare kl ∗
      owns (c : Thread nD τ) M.s0 fullShare (scoreAll q kl K)) ∗
      iprop(owns (c : Thread nD τ) M.vc fullShare vc ∗
      owns (c : Thread nD τ) M.acc fullShare (accCtx vc al p acc)))
        -∗ W defs c E Q (k (allMax (tileMax q kl K 0)) (allMax (tileMax q kl K 1)))) -∗ W defs c E Q (mixC M K p al k)) := by
  have h := all16_ok (defs := defs) (E := E) (Q := Q)
    (t := fun qc e k => scoreTile M K qc e fun a => pvCTile M qc e (p e) al (k a)) (k := k)
    (fun n => (iprop(iprop(owns (c : Thread nD τ) M.q fullShare q ∗ owns (c : Thread nD τ) M.kl fullShare kl ∗
      owns (c : Thread nD τ) M.s0 fullShare (part keyQ n (scoreAll q kl K) old)) ∗
      iprop(owns (c : Thread nD τ) M.vc fullShare vc ∗
      owns (c : Thread nD τ) M.acc fullShare (part keyQ n (accCtx vc al p acc) acc))) : sProp 𝕄)) (tileMax q kl K)
    (fun e qc k => by
      iintro ⟨H1, H2⟩ Hc
      iapply (scoreTile_ok M) $$ H1; iintro H1
      iapply (pvCTile_ok M) $$ H2; iintro H2
      iapply Hc
      isplitl [H1]; · iexact H1
      iexact H2)
  simp only [part_zero, part_all keyQ_lt] at h
  exact h

theorem prods_ok {V : VOff g} {al : Fin 2 → FVec F (D2 1 2048) .f32} {k : Pg nD τ Λ sig F α}
    {vl : (SVL g.vw).Idx → F .bf16} {p : SS.Idx → F .bf16} {acc : SA.Idx → F .f32} :
    (iprop(owns (c : Thread nD τ) M.vl fullShare vl ∗ owns (c : Thread nD τ) M.p0 fullShare p ∗
      owns (c : Thread nD τ) M.acc fullShare acc) : sProp 𝕄) ⊢
    iprop((iprop(owns (c : Thread nD τ) M.vl fullShare vl ∗ owns (c : Thread nD τ) M.p0 fullShare p ∗
      owns (c : Thread nD τ) M.acc fullShare (accAll vl V al p acc)) -∗ W defs c E Q k) -∗ W defs c E Q (prods M V al k)) := by
  have h := do16_ok (defs := defs) (E := E) (Q := Q) (t := fun qc e k => pvTile M V qc e (al e) k) (k := k)
    (fun n => (iprop(owns (c : Thread nD τ) M.vl fullShare vl ∗ owns (c : Thread nD τ) M.p0 fullShare p ∗
      owns (c : Thread nD τ) M.acc fullShare (part keyQ n (accAll vl V al p acc) acc)) : sProp 𝕄))
    (fun e qc k => pvTile_ok M)
  simp only [part_zero, part_all keyQ_lt] at h
  exact h

theorem softs_ok {mn : Fin 2 → FVec F (D2 1 2048) .f32} {k : Pg nD τ Λ sig F α}
    {s : SS.Idx → F .f32} {p : SS.Idx → F .bf16} :
    (iprop(owns (c : Thread nD τ) M.s0 fullShare s ∗ owns (c : Thread nD τ) M.p0 fullShare p) : sProp 𝕄) ⊢
    iprop((iprop(owns (c : Thread nD τ) M.s0 fullShare s ∗ owns (c : Thread nD τ) M.p0 fullShare (softAll mn s)) -∗ W defs c E Q k)
      -∗ W defs c E Q (softs M mn k)) := by
  have h := fun e k => do8_ok (defs := defs) (E := E) (Q := Q) (t := fun qc k => softTile M qc e (mn e) k) (k := k) e
    (fun n => (iprop(owns (c : Thread nD τ) M.s0 fullShare s ∗
      owns (c : Thread nD τ) M.p0 fullShare (part keyE n (softAll mn s) p)) : sProp 𝕄)) (fun qc k => softTile_ok M)
  have h0 := h 0 (do8 (fun qc k => softTile M qc 1 (mn 1) k) k)
  have h1 := h 1 k
  change (iprop(_ ∗ owns _ _ _ (part keyE 0 _ _)) : sProp 𝕄) ⊢ _ at h0
  change _ ⊢ iprop((iprop(_ ∗ owns _ _ _ (part keyE 16 _ _)) -∗ _) -∗ _) at h1
  rw [part_zero] at h0
  rw [part_all keyE_lt] at h1
  unfold softs
  iintro H Hk
  iapply h0 $$ H; iintro H
  iapply h1 $$ H; iintro H
  iapply Hk
  iexact H

/-! ### The body -/

/-- What is known between half trips: what is carried, the weights of one block, the scores of the next, the sums. -/
structure St (F : FTy → Type) where
  c : Carry F
  p : SS.Idx → F .bf16
  s : SS.Idx → F .f32
  acc : SA.Idx → F .f32

/-- The new maxima. -/
def St.mn (σ : St F) : Fin 2 → FVec F (D2 1 2048) .f32 := ![maximumf σ.c.1 σ.c.2.2.2.2.1, maximumf σ.c.2.1 σ.c.2.2.2.2.2]

def St.al (σ : St F) : Fin 2 → FVec F (D2 1 2048) .f32 := ![σ.c.2.2.1, σ.c.2.2.2.1]

/-- The factors the new maxima call for. -/
def St.alNew (σ : St F) : Fin 2 → FVec F (D2 1 2048) .f32 :=
  ![exp2 (subf σ.c.1 (maximumf σ.c.1 σ.c.2.2.2.2.1)), exp2 (subf σ.c.2.1 (maximumf σ.c.2.1 σ.c.2.2.2.2.2))]

/-- Half a trip. -/
def St.step (q : (SQ g.w).Idx → F .bf16) (kl : SL.Idx → F .bf16) (vl : (SVL g.vw).Idx → F .bf16) (K : KOff) (V : VOff g)
    (σ : St F) : St F where
  c := (σ.mn 0, σ.mn 1, σ.alNew 0, σ.alNew 1, allMax (tileMax q kl K 0), allMax (tileMax q kl K 1))
  p := softAll σ.mn σ.s
  s := scoreAll q kl K
  acc := accAll vl V σ.al σ.p σ.acc

/-- The maxima of the context's scores. -/
def ctxM (q : (SQ g.w).Idx → F .bf16) (kc : SC.Idx → F .bf16) (e : Fin 2) : FVec F (D2 1 2048) .f32 :=
  maximumf lowF (ctxMaxF (ctxF (rKc kc e) (rQw q e)))

def ctxP (q : (SQ g.w).Idx → F .bf16) (kc : SC.Idx → F .bf16) (e : Fin 2) : FVec F (D2 256 2048) .bf16 :=
  ctxSoftF (ctxM q kc e) (ctxF (rKc kc e) (rQw q e))

def zeroA : SA.Idx → F .f32 := shapeCast SA (broadcast SA (FloatOps.ofBits (F := F) .f32 0x00000000#32)) (by decide)

/-- The state before the loop. -/
def St.init (q : (SQ g.w).Idx → F .bf16) (kc : SC.Idx → F .bf16) (vc : (SVC g.vw).Idx → F .bf16) (kl : SL.Idx → F .bf16) : St F where
  c := (maximumf (ctxM q kc 0) (allMax (tileMax q kl (kAt 0) 0)), maximumf (ctxM q kc 1) (allMax (tileMax q kl (kAt 0) 1)),
    exp2 (subf (ctxM q kc 0) (maximumf (ctxM q kc 0) (allMax (tileMax q kl (kAt 0) 0)))),
    exp2 (subf (ctxM q kc 1) (maximumf (ctxM q kc 1) (allMax (tileMax q kl (kAt 0) 1)))),
    allMax (tileMax q kl (kAt 1) 0), allMax (tileMax q kl (kAt 1) 1))
  p := softAll ![maximumf (ctxM q kc 0) (allMax (tileMax q kl (kAt 0) 0)), maximumf (ctxM q kc 1) (allMax (tileMax q kl (kAt 0) 1))]
    (scoreAll q kl (kAt 0))
  s := scoreAll q kl (kAt 1)
  acc := accCtx vc onesF ![ctxP q kc 0, ctxP q kc 1] zeroA

/-- The sums at the end. -/
def St.last (vl : (SVL g.vw).Idx → F .bf16) (σ : St F) : SA.Idx → F .f32 :=
  accAll vl (vAt g 7) σ.alNew (softAll σ.mn σ.s) (accAll vl (vAt g 6) σ.al σ.p σ.acc)

/-- The result of the sums. -/
def outAcc (acc : SA.Idx → F .f32) : SO.Idx → F .bf16 :=
  outF (outHeadF (rNum acc 0) (rDen acc 0)) (outHeadF (rNum acc 1) (rDen acc 1))

def loopSt {n : Nat} (q : (SQ g.w).Idx → F .bf16) (kl : SL.Idx → F .bf16) (vl : (SVL g.vw).Idx → F .bf16)
    (K1 K2 : Fin n → KOff) (V1 V2 : Fin n → VOff g) (ts : List (Fin n)) (σ : St F) : St F :=
  ts.foldl (fun σ t => (σ.step q kl vl (K1 t) (V1 t)).step q kl vl (K2 t) (V2 t)) σ

/-- The block the body writes, of the blocks it reads. -/
def outOf {n : Nat} (K1 K2 : Fin n → KOff) (V1 V2 : Fin n → VOff g) (q : (SQ g.w).Idx → F .bf16) (kc : SC.Idx → F .bf16)
    (vc : (SVC g.vw).Idx → F .bf16) (kl : SL.Idx → F .bf16) (vl : (SVL g.vw).Idx → F .bf16) : SO.Idx → F .bf16 :=
  outAcc ((loopSt q kl vl K1 K2 V1 V2 (List.finRange n) (St.init q kc vc kl)).last vl)

/-- The buffers in such a state. -/
def R (c : Dev nD) (M : Mems sig g) (q : (SQ g.w).Idx → F .bf16) (kl : SL.Idx → F .bf16) (vl : (SVL g.vw).Idx → F .bf16) (σ : St F) : sProp 𝕄 :=
  iprop(owns (c : Thread nD τ) M.q fullShare q ∗ owns (c : Thread nD τ) M.kl fullShare kl ∗ owns (c : Thread nD τ) M.vl fullShare vl ∗
    owns (c : Thread nD τ) M.p0 fullShare σ.p ∗ owns (c : Thread nD τ) M.s1 fullShare σ.s ∗ owns (c : Thread nD τ) M.acc fullShare σ.acc ∗
    (∃ x, owns (c : Thread nD τ) M.s0 fullShare x) ∗ (∃ x, owns (c : Thread nD τ) M.p1 fullShare x))

theorem halfTrip_ok {K : KOff} {V : VOff g} {k : Carry F → Pg nD τ Λ sig F α} {q : (SQ g.w).Idx → F .bf16} {kl : SL.Idx → F .bf16}
    {vl : (SVL g.vw).Idx → F .bf16} {σ : St F} :
    (R c M q kl vl σ : sProp 𝕄) ⊢ iprop((R c M.swap q kl vl (σ.step q kl vl K V) -∗ W defs c E Q (k (σ.step q kl vl K V).c))
      -∗ W defs c E Q (halfTrip M K V σ.c k)) := by
  unfold halfTrip R
  iintro ⟨Hq, Hk, Hv, Hp, Hs, Ha, ⟨%x, Hs0⟩, ⟨%y, Hp1⟩⟩ Hc
  iapply (mix_ok M) $$ [Hq Hk Hs0 Hv Hp Ha]
  · isplitl [Hq Hk Hs0]
    · isplitl [Hq]; · iexact Hq
      isplitl [Hk]; · iexact Hk
      iexact Hs0
    · isplitl [Hv]; · iexact Hv
      isplitl [Hp]; · iexact Hp
      iexact Ha
  iintro ⟨⟨Hq, Hk, Hs0⟩, Hv, Hp, Ha⟩
  iapply (softs_ok M.swap) $$ [Hs Hp1]
  · isplitl [Hs]; · iexact Hs
    iexact Hp1
  iintro ⟨Hs, Hp1⟩
  iapply Hc
  isplitl [Hq]; · iexact Hq
  isplitl [Hk]; · iexact Hk
  isplitl [Hv]; · iexact Hv
  isplitl [Hp1]; · iexact Hp1
  isplitl [Hs0]; · iexact Hs0
  isplitl [Ha]; · iexact Ha
  isplitl [Hs]
  · iexists _; iexact Hs
  · iexists _; iexact Hp

theorem loop_ok {n : Nat} {K1 K2 : Fin n → KOff} {V1 V2 : Fin n → VOff g} {q : (SQ g.w).Idx → F .bf16} {kl : SL.Idx → F .bf16}
    {vl : (SVL g.vw).Idx → F .bf16} {Q : Carry F → sProp 𝕄} (ts : List (Fin n)) (σ : St F) :
    (R c M q kl vl σ : sProp 𝕄) ⊢ iprop((R c M q kl vl (loopSt q kl vl K1 K2 V1 V2 ts σ) -∗
        Q (loopSt q kl vl K1 K2 V1 V2 ts σ).c)
      -∗ W defs c E Q (Scf.forFrom (fun t c => trip M (K1 t) (K2 t) (V1 t) (V2 t) c) ts σ.c)) := by
  induction ts generalizing σ with
  | nil =>
    iintro H Hc
    rw [Scf.forFrom_nil, show loopSt q kl vl K1 K2 V1 V2 [] σ = σ from rfl]
    iapply ret_ok
    iapply Hc
    iexact H
  | cons t ts ih =>
    rw [Scf.forFrom_cons, show loopSt q kl vl K1 K2 V1 V2 (t :: ts) σ = loopSt q kl vl K1 K2 V1 V2 ts
      ((σ.step q kl vl (K1 t) (V1 t)).step q kl vl (K2 t) (V2 t)) from rfl]
    iintro H Hc
    iapply bind_ok
    unfold trip
    iapply (halfTrip_ok M) $$ H; iintro H
    iapply (halfTrip_ok M.swap) $$ H; iintro H
    iapply ret_ok
    iapply (ih _) $$ H; iintro H
    iapply Hc
    iexact H

theorem whole3 {a b c : Nat} (inb : ∀ x, (![0, 0, 0] : Fin 3 → Nat) x + (D3 a b c).size x ≤ (D3 a b c).size x) (j : (D3 a b c).Idx) :
    (Rect.unit (s := D3 a b c) ![0, 0, 0] (D3 a b c).size inb).emb j = j := by
  funext x
  apply Fin.ext
  rw [Rect.emb_apply]
  match x with
  | ⟨0, _⟩ => simp
  | ⟨1, _⟩ => simp
  | ⟨2, _⟩ => simp

theorem whole3_not {a b c : Nat} (inb : ∀ x, (![0, 0, 0] : Fin 3 → Nat) x + (D3 a b c).size x ≤ (D3 a b c).size x) (i : (D3 a b c).Idx)
    (hi : i ∉ (Rect.unit (s := D3 a b c) ![0, 0, 0] (D3 a b c).size inb).set) : False :=
  hi (by rw [← whole3 inb i]; rw [← Rect.map_emb_univ]; exact Finset.mem_map_of_mem _ (Finset.mem_univ i))

theorem zeroAcc_ok {k : Pg nD τ Λ sig F α} :
    (iprop(∃ x, owns (c : Thread nD τ) M.acc fullShare x) : sProp 𝕄) ⊢
    iprop((owns (c : Thread nD τ) M.acc fullShare zeroA -∗ W defs c E Q k) -∗ W defs c E Q (zeroAcc M k)) := by
  unfold zeroAcc
  iintro ⟨%x, Ha⟩ Hc
  iapply ld_ok $$ Ha; iintro Ha
  iapply (st_ok zeroA ?_ ?_) $$ Ha
  · exact fun j => congrArg zeroA (whole3 _ j)
  · exact fun i hi => (whole3_not _ i hi).elim
  iintro Ha
  iapply Hc
  iexact Ha

theorem ctxScore_ok {e : Fin 2} {k : FVec F (D2 256 2048) .f32 → Pg nD τ Λ sig F α} {q : (SQ g.w).Idx → F .bf16} {kc : SC.Idx → F .bf16} :
    (iprop(owns (c : Thread nD τ) M.q fullShare q ∗ owns (c : Thread nD τ) M.kc fullShare kc) : sProp 𝕄) ⊢
    iprop((iprop(owns (c : Thread nD τ) M.q fullShare q ∗ owns (c : Thread nD τ) M.kc fullShare kc)
      -∗ W defs c E Q (k (ctxF (rKc kc e) (rQw q e)))) -∗ W defs c E Q (ctxScore M e k)) := by
  unfold ctxScore
  iintro ⟨Hq, Hk⟩ Hc
  iapply ld_ok $$ Hk; iintro Hk
  iapply ld_ok $$ Hq; iintro Hq
  iapply Hc
  isplitl [Hq]; · iexact Hq
  iexact Hk

theorem finish_ok {k : Pg nD τ Λ sig F α} {acc : SA.Idx → F .f32} :
    (iprop(owns (c : Thread nD τ) M.acc fullShare acc ∗ (∃ x, owns (c : Thread nD τ) M.o fullShare x)) : sProp 𝕄) ⊢
    iprop((iprop(owns (c : Thread nD τ) M.acc fullShare acc ∗ owns (c : Thread nD τ) M.o fullShare (outAcc acc)) -∗ W defs c E Q k)
      -∗ W defs c E Q (finish M k)) := by
  unfold finish
  iintro ⟨Ha, ⟨%x, Ho⟩⟩ Hc
  iapply ld_ok $$ Ha; iintro Ha
  iapply ld_ok $$ Ha; iintro Ha
  iapply ld_ok $$ Ha; iintro Ha
  iapply ld_ok $$ Ha; iintro Ha
  iapply ld_ok $$ Ho; iintro Ho
  iapply (st_ok (outAcc acc) ?_ ?_) $$ Ho
  · exact fun j => congrArg (outAcc acc) (whole3 _ j)
  · exact fun i hi => (whole3_not _ i hi).elim
  iintro Ho
  iapply Hc
  isplitl [Ha]; · iexact Ha
  iexact Ho

theorem start_ok {k : Carry F → Pg nD τ Λ sig F α} {q : (SQ g.w).Idx → F .bf16} {kc : SC.Idx → F .bf16}
    {vc : (SVC g.vw).Idx → F .bf16} {kl : SL.Idx → F .bf16} {vl : (SVL g.vw).Idx → F .bf16} :
    (iprop(owns (c : Thread nD τ) M.q fullShare q ∗ owns (c : Thread nD τ) M.kc fullShare kc ∗ owns (c : Thread nD τ) M.vc fullShare vc ∗
      owns (c : Thread nD τ) M.kl fullShare kl ∗ owns (c : Thread nD τ) M.vl fullShare vl ∗
      (∃ x, owns (c : Thread nD τ) M.s0 fullShare x) ∗ (∃ x, owns (c : Thread nD τ) M.s1 fullShare x) ∗
      (∃ x, owns (c : Thread nD τ) M.p0 fullShare x) ∗ (∃ x, owns (c : Thread nD τ) M.p1 fullShare x) ∗
      (∃ x, owns (c : Thread nD τ) M.acc fullShare x)) : sProp 𝕄) ⊢
    iprop((iprop(owns (c : Thread nD τ) M.kc fullShare kc ∗ owns (c : Thread nD τ) M.vc fullShare vc ∗ R c M q kl vl (St.init q kc vc kl))
      -∗ W defs c E Q (k (St.init q kc vc kl).c)) -∗ W defs c E Q (start M k)) := by
  unfold start R
  iintro ⟨Hq, Hkc, Hvc, Hkl, Hvl, ⟨%x0, Hs0⟩, ⟨%x1, Hs1⟩, ⟨%y0, Hp0⟩, Hp1, Ha⟩ Hc
  iapply (zeroAcc_ok M) $$ Ha; iintro Ha
  iapply (ctxScore_ok M) $$ [Hq Hkc]
  · isplitl [Hq]; · iexact Hq
    iexact Hkc
  iintro ⟨Hq, Hkc⟩
  iapply (ctxScore_ok M) $$ [Hq Hkc]
  · isplitl [Hq]; · iexact Hq
    iexact Hkc
  iintro ⟨Hq, Hkc⟩
  iapply (scores_ok M) $$ [Hq Hkl Hs0]
  · isplitl [Hq]; · iexact Hq
    isplitl [Hkl]; · iexact Hkl
    iexact Hs0
  iintro ⟨Hq, Hkl, Hs0⟩
  iapply (mixC_ok M.swap) $$ [Hq Hkl Hs1 Hvc Ha]
  · isplitl [Hq Hkl Hs1]
    · isplitl [Hq]; · iexact Hq
      isplitl [Hkl]; · iexact Hkl
      iexact Hs1
    · isplitl [Hvc]; · iexact Hvc
      iexact Ha
  iintro ⟨⟨Hq, Hkl, Hs1⟩, Hvc, Ha⟩
  iapply (softs_ok M) $$ [Hs0 Hp0]
  · isplitl [Hs0]; · iexact Hs0
    iexact Hp0
  iintro ⟨Hs0, Hp0⟩
  iapply Hc
  isplitl [Hkc]; · iexact Hkc
  isplitl [Hvc]; · iexact Hvc
  isplitl [Hq]; · iexact Hq
  isplitl [Hkl]; · iexact Hkl
  isplitl [Hvl]; · iexact Hvl
  isplitl [Hp0]; · iexact Hp0
  isplitl [Hs1]; · iexact Hs1
  isplitl [Ha]; · iexact Ha
  isplitl [Hs0]
  · iexists _; iexact Hs0
  · iexact Hp1

/-- What the body needs and leaves: the blocks it reads, the block it writes, its scratch. -/
def Buf (c : Dev nD) (M : Mems sig g) (q : (SQ g.w).Idx → F .bf16) (kc : SC.Idx → F .bf16)
    (vc : (SVC g.vw).Idx → F .bf16) (kl : SL.Idx → F .bf16) (vl : (SVL g.vw).Idx → F .bf16) (o : sProp 𝕄) : sProp 𝕄 :=
  iprop(owns (c : Thread nD τ) M.q fullShare q ∗ owns (c : Thread nD τ) M.kc fullShare kc ∗ owns (c : Thread nD τ) M.vc fullShare vc ∗
    owns (c : Thread nD τ) M.kl fullShare kl ∗ owns (c : Thread nD τ) M.vl fullShare vl ∗ o ∗
    (∃ x, owns (c : Thread nD τ) M.s0 fullShare x) ∗ (∃ x, owns (c : Thread nD τ) M.s1 fullShare x) ∗
    (∃ x, owns (c : Thread nD τ) M.p0 fullShare x) ∗ (∃ x, owns (c : Thread nD τ) M.p1 fullShare x) ∗
    (∃ x, owns (c : Thread nD τ) M.acc fullShare x))

theorem close_ok {Q : PUnit → sProp 𝕄} {q : (SQ g.w).Idx → F .bf16} {kc : SC.Idx → F .bf16}
    {vc : (SVC g.vw).Idx → F .bf16} {kl : SL.Idx → F .bf16} {vl : (SVL g.vw).Idx → F .bf16} {σ : St F} :
    (iprop(iprop(owns (c : Thread nD τ) M.kc fullShare kc ∗ owns (c : Thread nD τ) M.vc fullShare vc ∗ R c M q kl vl σ) ∗
      (∃ x, owns (c : Thread nD τ) M.o fullShare x)) : sProp 𝕄) ⊢
    iprop((Buf c M q kc vc kl vl (owns (c : Thread nD τ) M.o fullShare (outAcc (σ.last vl))) -∗ Q ⟨⟩) -∗ W defs c E Q (close M σ.c)) := by
  unfold close R Buf
  iintro ⟨⟨Hkc, Hvc, Hq, Hkl, Hvl, Hp0, Hs1, Ha, Hs0, ⟨%y, Hp1⟩⟩, Ho⟩ Hc
  iapply (prods_ok M) $$ [Hvl Hp0 Ha]
  · isplitl [Hvl]; · iexact Hvl
    isplitl [Hp0]; · iexact Hp0
    iexact Ha
  iintro ⟨Hvl, Hp0, Ha⟩
  iapply (softs_ok M.swap) $$ [Hs1 Hp1]
  · isplitl [Hs1]; · iexact Hs1
    iexact Hp1
  iintro ⟨Hs1, Hp1⟩
  iapply (prods_ok M.swap) $$ [Hvl Hp1 Ha]
  · isplitl [Hvl]; · iexact Hvl
    isplitl [Hp1]; · iexact Hp1
    iexact Ha
  iintro ⟨Hvl, Hp1, Ha⟩
  iapply (finish_ok M) $$ [Ha Ho]
  · isplitl [Ha]; · iexact Ha
    iexact Ho
  iintro ⟨Ha, Ho⟩
  iapply ret_ok
  iapply Hc
  isplitl [Hq]; · iexact Hq
  isplitl [Hkc]; · iexact Hkc
  isplitl [Hvc]; · iexact Hvc
  isplitl [Hkl]; · iexact Hkl
  isplitl [Hvl]; · iexact Hvl
  isplitl [Ho]; · iexact Ho
  isplitl [Hs0]; · iexact Hs0
  isplitl [Hs1]; · iexists _; iexact Hs1
  isplitl [Hp0]; · iexists _; iexact Hp0
  isplitl [Hp1]; · iexists _; iexact Hp1
  iexists _; iexact Ha

/-- The body: it keeps the blocks it reads and writes `outOf` of them. -/
theorem body_ok {n : Nat} {K1 K2 : Fin n → KOff} {V1 V2 : Fin n → VOff g} {Q : PUnit → sProp 𝕄} {q : (SQ g.w).Idx → F .bf16}
    {kc : SC.Idx → F .bf16} {vc : (SVC g.vw).Idx → F .bf16} {kl : SL.Idx → F .bf16} {vl : (SVL g.vw).Idx → F .bf16} :
    (Buf c M q kc vc kl vl iprop(∃ x, owns (c : Thread nD τ) M.o fullShare x) : sProp 𝕄) ⊢
    iprop((Buf c M q kc vc kl vl (owns (c : Thread nD τ) M.o fullShare (outOf K1 K2 V1 V2 q kc vc kl vl)) -∗ Q ⟨⟩)
      -∗ W defs c E Q (body M K1 K2 V1 V2)) := by
  unfold body outOf
  conv in (occs := 1) Buf c M q kc vc kl vl iprop(∃ x, owns (c : Thread nD τ) M.o fullShare x) => unfold Buf
  iintro ⟨Hq, Hkc, Hvc, Hkl, Hvl, Ho, Hs⟩ Hc
  iapply (start_ok M) $$ [Hq Hkc Hvc Hkl Hvl Hs]
  · isplitl [Hq]; · iexact Hq
    isplitl [Hkc]; · iexact Hkc
    isplitl [Hvc]; · iexact Hvc
    isplitl [Hkl]; · iexact Hkl
    isplitl [Hvl]; · iexact Hvl
    iexact Hs
  iintro ⟨Hkc, Hvc, H⟩
  iapply bind_ok
  iapply (loop_ok M _ _) $$ H; iintro H
  iapply (close_ok M (kc := kc) (vc := vc)) $$ [Hkc Hvc H Ho]
  · isplitl [Hkc Hvc H]
    · isplitl [Hkc]; · iexact Hkc
      isplitl [Hvc]; · iexact Hvc
      iexact H
    · iexact Ho
  iexact Hc

end Att
-- ==== Proof.Run.lean ====
/-
  The launch: the body at a grid point over the blocks it is given, then the whole program. Stated for any values, so
  that it serves the compiled program and the ideal one alike.
-/
module

public import proofs.«01_k».proof.Proof.Body
public import proofs.«01_k».proof.Proof.Hoare
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch finds in a buffer: what the host operations left there. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem toLaunch (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-! The host operations leave the arguments alone. -/

theorem kept0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block written at point `t`. -/
def outBlk (c : Dev nD) (t : Fin cfg0.N) : Vec F S1x2048x128 .bf16 :=
  Att.outOf (kLoop 0) (kLoop 1) (vLoop 0) (vLoop 1) (blk m c 0 t) (blk m c 1 t) (blk m c 2 t) (blk m c 3 t) (blk m c 4 t)

/-- The windows' data: inputs keep their blocks, the output gets `outBlk`. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => outBlk m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = outBlk m c t := by dsimp only [dats]

theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [dats_A]; try rfl) t d).trans
    (by unfold Dat.fetched Dat.blockOf blk; rw [dats_A]; try rfl)
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [dats_A]; try rfl) t d).trans
    (by unfold Dat.fetched Dat.blockOf blk; rw [dats_A]; try rfl)
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [dats_A]; try rfl) t d).trans
    (by unfold Dat.fetched Dat.blockOf blk; rw [dats_A]; try rfl)
theorem before3 (c : Dev nD) (t : Fin cfg0.N) (d) : (dats m 0 c).before 3 t d = blk m c 3 t :=
  ((dats m 0 c).before_in_eq_fetched 3 rfl (fun _ => rfl) (fun _ _ _ => rfl)
    (fun t => by rw [after3]; unfold Dat.blockOf blk; rw [dats_A]; try rfl) t d).trans
    (by unfold Dat.fetched Dat.blockOf blk; rw [dats_A]; try rfl)
theorem before4 (c : Dev nD) (t : Fin cfg0.N) (d) : (dats m 0 c).before 4 t d = blk m c 4 t :=
  ((dats m 0 c).before_in_eq_fetched 4 rfl (fun _ => rfl) (fun _ _ _ => rfl)
    (fun t => by rw [after4]; unfold Dat.blockOf blk; rw [dats_A]; try rfl) t d).trans
    (by unfold Dat.fetched Dat.blockOf blk; rw [dats_A]; try rfl)

abbrev stg0 (t : Fin cfg0.N) : Memref sig .tc .vmem S1x2048x128 .bf16 := win0_0.stage (cfg0.slots t 0)
abbrev stg1 (t : Fin cfg0.N) : Memref sig .tc .vmem S1x256x256 .bf16 := win0_1.stage (cfg0.slots t 1)
abbrev stg2 (t : Fin cfg0.N) : Memref sig .tc .vmem S1x128x256 .bf16 := win0_2.stage (cfg0.slots t 2)
abbrev stg3 (t : Fin cfg0.N) : Memref sig .tc .vmem S1x4096x256 .bf16 := win0_3.stage (cfg0.slots t 3)
abbrev stg4 (t : Fin cfg0.N) : Memref sig .tc .vmem S1x128x4096 .bf16 := win0_4.stage (cfg0.slots t 4)
abbrev stg5 (t : Fin cfg0.N) : Memref sig .tc .vmem S1x2048x128 .bf16 := win0_5.stage (cfg0.slots t 5)
abbrev scr0 : Memref sig .tc .vmem S2x512x2048 .f32 := Memref.whole cc0_scratch0
abbrev scr1 : Memref sig .tc .vmem S2x512x2048 .f32 := Memref.whole cc0_scratch1
abbrev scr2 : Memref sig .tc .vmem S2x512x2048 .bf16 := Memref.whole cc0_scratch2
abbrev scr3 : Memref sig .tc .vmem S2x512x2048 .bf16 := Memref.whole cc0_scratch3
abbrev scr4 : Memref sig .tc .vmem S2x80x2048 .f32 := Memref.whole cc0_scratch4

theorem phi_eq (c : Dev nD) :
    (Pipeline.ΦA spec0 c : sProp 𝕄)
      = iprop(iprop((∃ d, owns (c : Thread nD τ) scr0 fullShare d) ∗
          (∃ d, owns (c : Thread nD τ) scr1 fullShare d) ∗
          (∃ d, owns (c : Thread nD τ) scr2 fullShare d) ∗
          (∃ d, owns (c : Thread nD τ) scr3 fullShare d) ∗
          (∃ d, owns (c : Thread nD τ) scr4 fullShare d)) ∗ (∃ r, prngReg c r)) := by
  unfold Pipeline.ΦA; rw [scopedRest0_eq]; simp only [scr0, scr1, scr2, scr3, scr4, owns_whole]; try rfl

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it gives back. -/
def back (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 800000 in
theorem at_point (c : Dev nD) (t : Fin cfg0.N) :
    given m c t ⊢ wp frame (wpE (defs₀ (F := F)) Variants.none c none) Set.univ (bodyAt0 t) (fun _ => back m c t) := by
  unfold given back bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, phi_eq, body_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩⟩
  iapply (Att.body_ok _ (q := blk m c 0 t) (kc := blk m c 1 t) (vc := blk m c 2 t) (kl := blk m c 3 t) (vl := blk m c 4 t)) $$ [H0 H1 H2 H3 H4 H5 S0 S1 S2 S3 S4]
  · unfold Att.Buf
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [S2]; · iexact S2
    isplitl [S3]; · iexact S3
    iexact S4
  unfold Att.Buf
  iintro ⟨H0, H1, H2, H3, H4, H5, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
/-- The whole program: the arrays end as the windows' data say, and no semaphore is left raised. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := toLaunch m Variants.none) (hA := dats_A m) (hΦ := fun _ _ => rfl)

/-- The arguments end as they began. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (kept0 m c),
      ((h.1 c).2 main_arg1 (Pipeline.mem_restRefs_of main_arg1 (by decide) (by decide))).trans (kept1 m c),
      ((h.1 c).2 main_arg2 (Pipeline.mem_restRefs_of main_arg2 (by decide) (by decide))).trans (kept2 m c),
      ((h.1 c).2 main_arg3 (Pipeline.mem_restRefs_of main_arg3 (by decide) (by decide))).trans (kept3 m c),
      ((h.1 c).2 main_arg4 (Pipeline.mem_restRefs_of main_arg4 (by decide) (by decide))).trans (kept4 m c)⟩, h.2⟩)
    (run m ρ)

end Cert.KernelIdeal.Launch
-- ==== Proof.Pack.lean ====
/-
  What the launch finds in the windows' arrays, element by element, on extended reals.
-/
module

public import proofs.«01_k».proof.Proof.Run
public import Idealize.ShloMosaic.Lib.StableHlo.ReadAt

@[expose] public section

set_option maxRecDepth 16384

noncomputable section

namespace Cert.KernelIdeal.Launch

open Idealize.ShloMosaic Idealize.ShloMosaic.TcCoe Idealize.ShloMosaic.Tactic
open Cert.KernelIdeal.Gen

variable (m : (ℓ : Loc nD τ sig) → Buf (Elt Ideal) ℓ) (c : Dev nD)

/-- The arguments' elements. -/
abbrev argQ (c : Dev nD) : S8x4096x8x64.Idx → EReal := m ((c : Thread nD τ).loc main_arg0)
abbrev argCk (c : Dev nD) : S8x256x2x64.Idx → EReal := m ((c : Thread nD τ).loc main_arg1)
abbrev argCv (c : Dev nD) : S8x256x2x64.Idx → EReal := m ((c : Thread nD τ).loc main_arg2)
abbrev argLk (c : Dev nD) : S8x4096x2x64.Idx → EReal := m ((c : Thread nD τ).loc main_arg3)
abbrev argLv (c : Dev nD) : S8x4096x2x64.Idx → EReal := m ((c : Thread nD τ).loc main_arg4)

theorem packQ (b : Fin 8) (i : Fin 4096) (l : Fin 512) :
    V m c main_v5 (ix3 b i l) = argQ m c (ix4 b i ⟨l.val / 64, by omega⟩ ⟨l.val % 64, by omega⟩) *
      Ideal.div (Ideal.ofBits .f32 0x3E000000#32) (Ideal.log (Ideal.ofBits .f32 0x40000000#32)) := by
  unfold V
  after_reads_at

/-- Eight runs of sixty-four lanes. -/
def lanes (f : Fin 2 → Fin 64 → EReal) (l : Fin 512) : EReal :=
      if h : l.val < 64 then f 0 ⟨l.val, h⟩
      else if h : l.val - 64 < 64 then 0
      else if h : l.val - 64 - 64 < 64 then 0
      else if h : l.val - 64 - 64 - 64 < 64 then f 0 ⟨l.val - 64 - 64 - 64, h⟩
      else if h : l.val - 64 - 64 - 64 - 64 < 64 then f 1 ⟨l.val - 64 - 64 - 64 - 64, h⟩
      else if h : l.val - 64 - 64 - 64 - 64 - 64 < 64 then 0
      else if h : l.val - 64 - 64 - 64 - 64 - 64 - 64 < 64 then 0
      else f 1 ⟨l.val - 64 - 64 - 64 - 64 - 64 - 64 - 64, by omega⟩

/-- Lane `128 e + l` of group `g`'s 256 lanes holds the group's key where `l` is in the `e`-th half, else zero. -/
theorem lanes_at (f : Fin 2 → Fin 64 → EReal) (g e : Fin 2) (l : Fin 128) :
    lanes f ⟨256 * g.val + 128 * e.val + l.val, by omega⟩ = if l.val / 64 = e.val then f g ⟨l.val % 64, by omega⟩ else 0 := by
  obtain ⟨g, hg⟩ := g
  obtain ⟨e, he⟩ := e
  interval_cases g <;> interval_cases e <;> unfold lanes <;> dsimp only <;> split_ifs <;>
    first
    | rfl
    | (exfalso; omega)
    | (exact congrArg (f _) (Fin.ext (by dsimp only; omega)))

/-- Sixty-four rows of values, a row of ones, rows of zeros. -/
def rows (f : Fin 2 → Fin 64 → EReal) (r : Fin 256) : EReal :=
  if h : r.val % 128 < 64 then f ⟨r.val / 128, by omega⟩ ⟨r.val % 128, h⟩ else if h : r.val % 128 - 64 < 1 then 1 else 0

theorem rows_at (f : Fin 2 → Fin 64 → EReal) (g : Fin 2) (r : Fin 80) :
    rows f ⟨128 * g.val + r.val, by omega⟩ = if h : r.val < 64 then f g ⟨r.val, h⟩ else if r.val = 64 then 1 else 0 := by
  unfold rows
  dsimp only
  split_ifs <;>
    first
    | rfl
    | (exfalso; omega)
    | (exact congrArg₂ f (Fin.ext (by dsimp only; omega)) (Fin.ext (by dsimp only; omega)))

theorem packKcRaw (b : Fin 8) (n : Fin 256) (l : Fin 512) :
    V m c main_v12 (ix3 b n l) = lanes (fun g d => argCk m c (ix4 b n g d)) l := by
  unfold V lanes
  after_reads_at
  after_reads_at

theorem packKc (b : Fin 8) (n : Fin 256) (g e : Fin 2) (l : Fin 128) :
    V m c main_v12 (ix3 b n ⟨256 * g.val + 128 * e.val + l.val, by omega⟩) =
      if l.val / 64 = e.val then argCk m c (ix4 b n g ⟨l.val % 64, by omega⟩) else (0 : EReal) := by
  rw [packKcRaw, lanes_at]

theorem packKlRaw (b : Fin 8) (n : Fin 4096) (l : Fin 512) :
    V m c main_v25 (ix3 b n l) = lanes (fun g d => argLk m c (ix4 b n g d)) l := by
  unfold V lanes
  after_reads_at
  after_reads_at

theorem packKl (b : Fin 8) (n : Fin 4096) (g e : Fin 2) (l : Fin 128) :
    V m c main_v25 (ix3 b n ⟨256 * g.val + 128 * e.val + l.val, by omega⟩) =
      if l.val / 64 = e.val then argLk m c (ix4 b n g ⟨l.val % 64, by omega⟩) else (0 : EReal) := by
  rw [packKlRaw, lanes_at]

theorem packVcRaw (b : Fin 8) (r : Fin 256) (n : Fin 256) :
    V m c main_v18 (ix3 b r n) = rows (fun g d => argCv m c (ix4 b n g d)) r := by
  unfold V rows
  after_reads_at
  after_reads_at

theorem packVc (b : Fin 8) (n : Fin 256) (g : Fin 2) (r : Fin 80) :
    V m c main_v18 (ix3 b ⟨128 * g.val + r.val, by omega⟩ n) =
      if h : r.val < 64 then argCv m c (ix4 b n g ⟨r.val, h⟩) else if r.val = 64 then (1 : EReal) else 0 := by
  rw [packVcRaw, rows_at]

theorem packVlRaw (b : Fin 8) (r : Fin 256) (n : Fin 4096) :
    V m c main_v31 (ix3 b r n) = rows (fun g d => argLv m c (ix4 b n g d)) r := by
  unfold V rows
  after_reads_at
  after_reads_at

theorem packVl (b : Fin 8) (n : Fin 4096) (g : Fin 2) (r : Fin 80) :
    V m c main_v31 (ix3 b ⟨128 * g.val + r.val, by omega⟩ n) =
      if h : r.val < 64 then argLv m c (ix4 b n g ⟨r.val, h⟩) else if r.val = 64 then (1 : EReal) else 0 := by
  rw [packVlRaw, rows_at]

end Cert.KernelIdeal.Launch
-- ==== Proof.Read.lean ====
/-
  What the tiles compute, element by element, on extended reals.
-/
module

public import proofs.«01_k».proof.Proof.Hoare
public import Idealize.ShloMosaic.Lib.Pointwise

@[expose] public section

set_option maxRecDepth 16384

noncomputable section

namespace Att

open Idealize.ShloMosaic Idealize.ShloMosaic.Tactic

theorem scoreF_at (k q : FVec Ideal (D3 1 256 128) .bf16) (n i : Fin 256) :
    shapeCast (D3 1 256 256) (scoreF k q) (by decide) (ix3 0 n i) = ∑ l : Fin 128, (k (ix3 0 n l) : EReal) * q (ix3 0 i l) := by
  pointwise
theorem scoreF_at2 (k q : FVec Ideal (D3 1 256 128) .bf16) (n i : Fin 256) :
    scoreF k q (ix2 n i) = ∑ l : Fin 128, (k (ix3 0 n l) : EReal) * q (ix3 0 i l) := by
  pointwise
theorem ctxF_at (k : FVec Ideal (D3 1 256 128) .bf16) (q : FVec Ideal (D3 1 2048 128) .bf16) (n : Fin 256) (i : Fin 2048) :
    ctxF k q (ix2 n i) = ∑ l : Fin 128, (k (ix3 0 n l) : EReal) * q (ix3 0 i l) := by
  pointwise
theorem ofBits_low : (Ideal.ofBits FTy.f32 4286578688#32 : EReal) = ⊥ := by simp [Ideal.ofBits, Ideal.ieee]
theorem maxF_at (t : FVec Ideal (D2 256 256) .f32) (i : Fin 256) :
    maxF t (ix2 0 i) = Finset.univ.fold max (⊥ : EReal) fun n => t (ix2 n i) := by
  pointwise
  rw [ofBits_low]
theorem ctxMaxF_at (t : FVec Ideal (D2 256 2048) .f32) (i : Fin 2048) :
    ctxMaxF t (ix2 0 i) = Finset.univ.fold max (⊥ : EReal) fun n => t (ix2 n i) := by
  pointwise
  rw [ofBits_low]
theorem accF_at (qc : Fin 8) (al : FVec Ideal (D2 1 2048) .f32) (old : FVec Ideal (D3 1 80 256) .f32) (pv : FVec Ideal (D2 80 256) .f32)
    (r : Fin 80) (i : Fin 256) :
    accF qc al old pv (ix3 0 r i) = al (ix2 0 ⟨256 * qc.val + i.val, by omega⟩) * old (ix3 0 r i) + pv (ix2 r i) := by
  pointwise
theorem pvF_at (v : FVec Ideal (D3 1 80 512) .bf16) (p : FVec Ideal (D3 1 512 256) .bf16) (r : Fin 80) (i : Fin 256) :
    pvF v p (ix2 r i) = ∑ n : Fin 512, (v (ix3 0 r n) : EReal) * p (ix3 0 n i) := by
  pointwise
theorem pvCF_at (qc : Fin 8) (v : FVec Ideal (D3 1 80 256) .bf16) (p : FVec Ideal (D2 256 2048) .bf16) (r : Fin 80) (i : Fin 256) :
    pvCF qc v p (ix2 r i) = ∑ n : Fin 256, (v (ix3 0 r n) : EReal) * p (ix2 n ⟨256 * qc.val + i.val, by omega⟩) := by
  pointwise
theorem softF_at (qc : Fin 8) (mn : FVec Ideal (D2 1 2048) .f32) (s : FVec Ideal (D3 1 512 256) .f32) (n : Fin 512) (i : Fin 256) :
    softF qc mn s (ix3 0 n i) = Ideal.exp2 ((s (ix3 0 n i) : EReal) - mn (ix2 0 ⟨256 * qc.val + i.val, by omega⟩)) := by
  pointwise
  rfl
theorem ctxSoftF_at (mn : FVec Ideal (D2 1 2048) .f32) (s : FVec Ideal (D2 256 2048) .f32) (n : Fin 256) (i : Fin 2048) :
    ctxSoftF mn s (ix2 n i) = Ideal.exp2 ((s (ix2 n i) : EReal) - mn (ix2 0 i)) := by
  pointwise
  rfl
theorem cat8_at (r : Fin 8 → FVec Ideal (D2 1 256) .f32) (qc : Fin 8) (i : Fin 256) :
    allMax r (ix2 0 ⟨256 * qc.val + i.val, by omega⟩) = r qc (ix2 0 i) := by
  unfold allMax
  fin_cases qc <;> pointwise
  all_goals
    repeat rw [dif_neg (by omega)]
    try rw [dif_pos (by omega)]
    try (congr 3; omega)
theorem outF_at (h0 h1 : FVec Ideal (D2 64 2048) .f32) (e : Fin 2) (d : Fin 64) (i : Fin 2048) :
    outF h0 h1 (ix3 0 i ⟨64 * e.val + d.val, by omega⟩) = (![h0, h1] : Fin 2 → FVec Ideal (D2 64 2048) .f32) e (ix2 d i) := by
  fin_cases e <;> pointwise
theorem outHeadF_at (n : FVec Ideal (D3 1 64 2048) .f32) (d : FVec Ideal (D3 1 1 2048) .f32) (r : Fin 64) (i : Fin 2048) :
    outHeadF n d (ix2 r i) = Ideal.div (n (ix3 0 r i)) (d (ix3 0 0 i)) := by
  pointwise

end Att
-- ==== Proof.Online.lean ====
/-
  Sums of weighted values with a running maximum, over extended reals: scores are real, values are any.
-/
module

public import Idealize.ShloMosaic.Lib.IdealHost

@[expose] public section

noncomputable section

namespace Online

open Idealize.ShloMosaic

theorem pos_mul_add (c : ℝ) (hc : 0 ≤ c) (a b : EReal) : (c : EReal) * (a + b) = c * a + c * b :=
  EReal.left_distrib_of_nonneg_of_ne_top (by exact_mod_cast hc) (EReal.coe_ne_top c) a b

theorem pos_mul_sum {ι : Type} (c : ℝ) (hc : 0 ≤ c) (S : Finset ι) (f : ι → EReal) :
    (c : EReal) * ∑ n ∈ S, f n = ∑ n ∈ S, (c : EReal) * f n := by
  classical
  induction S using Finset.induction_on with
  | empty => simp
  | insert a S ha ih => rw [Finset.sum_insert ha, Finset.sum_insert ha, pos_mul_add c hc, ih]

/-- The first `k` values, weighted by powers of two of the scores less `m`. -/
def mass (V : ℕ → EReal) (s : ℕ → ℝ) (m : ℝ) (k : ℕ) : EReal :=
  ∑ n ∈ Finset.range k, V n * (((2 : ℝ) ^ (s n - m) : ℝ) : EReal)

theorem mass_add (V : ℕ → EReal) (s : ℕ → ℝ) (m : ℝ) (k l : ℕ) :
    mass V s m (k + l) = mass V s m k + ∑ n : Fin l, V (k + n.val) * (((2 : ℝ) ^ (s (k + n.val) - m) : ℝ) : EReal) := by
  unfold mass
  rw [Finset.sum_range_add, Finset.sum_range fun n => V (k + n) * (((2 : ℝ) ^ (s (k + n) - m) : ℝ) : EReal)]

/-- Another maximum is a common factor. -/
theorem mass_scale (V : ℕ → EReal) (s : ℕ → ℝ) (m m' : ℝ) (k : ℕ) :
    (((2 : ℝ) ^ (m - m') : ℝ) : EReal) * mass V s m k = mass V s m' k := by
  unfold mass
  rw [pos_mul_sum _ (by positivity)]
  refine Finset.sum_congr rfl fun n _ => ?_
  rw [mul_left_comm, ← EReal.coe_mul, ← Real.rpow_add (by norm_num)]
  congr 3
  ring

theorem coe_sum {ι : Type} (S : Finset ι) (f : ι → ℝ) : ((∑ n ∈ S, f n : ℝ) : EReal) = ∑ n ∈ S, (f n : EReal) := by
  classical
  induction S using Finset.induction_on with
  | empty => simp
  | insert a S ha ih => rw [Finset.sum_insert ha, Finset.sum_insert ha, EReal.coe_add, ih]

theorem div_pos_coe (a : EReal) (d : ℝ) (hd : 0 < d) : Ideal.div a (d : EReal) = ((d⁻¹ : ℝ) : EReal) * a := by
  unfold Ideal.div
  rw [if_neg (by exact_mod_cast hd.ne'), mul_comm, EReal.coe_inv]

/-- The quotient of the weighted sum by the sum of the weights is the sum of the values under the normalized
    exponentials. -/
theorem mass_div (V : ℕ → EReal) (s t : ℕ → ℝ) (hst : ∀ n, s n = t n / Real.log 2) (m M : ℝ) (k : ℕ) (hk : 0 < k) :
    Ideal.div (mass V s m k) (mass (fun _ => 1) s m k) =
      ∑ n ∈ Finset.range k, V n * Ideal.div ((Real.exp (t n - M) : ℝ) : EReal)
        (∑ n' ∈ Finset.range k, ((Real.exp (t n' - M) : ℝ) : EReal)) := by
  have hlog : Real.log 2 ≠ 0 := (Real.log_pos (by norm_num)).ne'
  have hD : 0 < ∑ n ∈ Finset.range k, Real.exp (t n - M) :=
    Finset.sum_pos (fun n _ => Real.exp_pos _) ⟨0, Finset.mem_range.2 hk⟩
  have hD2 : 0 < ∑ n ∈ Finset.range k, (2 : ℝ) ^ (s n - m) :=
    Finset.sum_pos (fun n _ => by positivity) ⟨0, Finset.mem_range.2 hk⟩
  have hw : ∀ n, (2 : ℝ) ^ (s n - m) = Real.exp (M - m * Real.log 2) * Real.exp (t n - M) := fun n => by
    rw [Real.rpow_def_of_pos (by norm_num), ← Real.exp_add, hst]
    congr 1
    field_simp
    ring
  rw [← coe_sum]
  unfold mass
  simp only [one_mul]
  rw [← coe_sum, div_pos_coe _ _ hD2, pos_mul_sum _ (by positivity)]
  refine Finset.sum_congr rfl fun n _ => ?_
  rw [div_pos_coe _ _ hD, mul_left_comm, ← EReal.coe_mul, ← EReal.coe_mul]
  congr 2
  simp only [hw]
  rw [← Finset.mul_sum]
  have := Real.exp_pos (M - m * Real.log 2)
  field_simp

/-- The maximum of finitely many reals is one. -/
theorem fold_real {n : ℕ} (hn : 0 < n) (f : Fin n → EReal) (hf : ∀ k, ∃ r : ℝ, f k = r) :
    ∃ r : ℝ, Finset.univ.fold max (⊥ : EReal) f = r := by
  have h : Finset.univ.fold max (⊥ : EReal) f = Finset.univ.sup f := rfl
  rw [h]
  obtain ⟨k, _, hk⟩ := Finset.exists_mem_eq_sup (Finset.univ : Finset (Fin n)) ⟨⟨0, hn⟩, Finset.mem_univ _⟩ f
  rw [hk]
  exact hf k

theorem max_real {a b : EReal} (ha : ∃ r : ℝ, a = r) (hb : ∃ r : ℝ, b = r) : ∃ r : ℝ, max a b = r := by
  rcases max_choice a b with h | h <;> rw [h] <;> assumption

theorem exp2_sub (a b : ℝ) : Ideal.exp2 ((a : EReal) - b) = (((2 : ℝ) ^ (a - b) : ℝ) : EReal) := by
  rw [← EReal.coe_sub]
  rfl

end Online
-- ==== Proof.Mass.lean ====
/-
  The body on extended reals: after each block the accumulator is the weighted sum of the values so far, and at the
  end the block written is the quotient of two such sums.
-/
module

public import proofs.«01_k».proof.Proof.Read
public import proofs.«01_k».proof.Proof.Online

@[expose] public section

set_option maxRecDepth 16384

noncomputable section

namespace Att

open Idealize.ShloMosaic Idealize.ShloMosaic.Tactic Online

variable {g : Geo}

theorem idx3 {a b c : Nat} {i j : (D3 a b c).Idx} (h0 : (i 0).val = (j 0).val) (h1 : (i 1).val = (j 1).val) (h2 : (i 2).val = (j 2).val) :
    i = j := by
  funext x
  match x with
  | ⟨0, _⟩ => exact Fin.ext h0
  | ⟨1, _⟩ => exact Fin.ext h1
  | ⟨2, _⟩ => exact Fin.ext h2

/-! ### The rectangles -/

theorem unit_val {s : Shape} {off size : Fin s.rank → Nat} (inb : ∀ a, off a + size a ≤ s.size a) (j : (Shape.mk s.rank size).Idx)
    (a : Fin s.rank) : ((Rect.unit off size inb).emb j a).val = off a + (j a).val := by
  simp [Rect.unit, Rect.emb]

theorem split_col (i : Fin 2048) : ∃ (qc : Fin 8) (j : Fin 256), i = ⟨256 * qc.val + j.val, by omega⟩ :=
  ⟨⟨i.val / 256, by omega⟩, ⟨i.val % 256, by omega⟩, Fin.ext (by simp; omega)⟩

theorem spread_at {R : Nat} {V : Type} (G : Fin 2 → Fin 8 → (D3 1 R 256).Idx → V) (e : Fin 2) (r : Fin R) (qc : Fin 8) (j : Fin 256) :
    spread G (ix3 e r ⟨256 * qc.val + j.val, by omega⟩) = G e qc (ix3 0 r j) := by
  unfold spread
  have h : qcOf (R := R) (ix3 e r ⟨256 * qc.val + j.val, by omega⟩) = qc := Fin.ext (by
    change (256 * qc.val + j.val) / 256 = qc.val; omega)
  have h' : inTile (R := R) (ix3 e r ⟨256 * qc.val + j.val, by omega⟩) = ix3 0 r j := by
    refine idx3 rfl rfl ?_
    change (256 * qc.val + j.val) % 256 = j.val
    omega
  rw [h, h']
  rfl

theorem rP_at {V : Type} (p : SS.Idx → V) (e : Fin 2) (qc : Fin 8) (n : Fin 512) (j : Fin 256) :
    rP p e qc (ix3 0 n j) = p (ix3 e n ⟨256 * qc.val + j.val, by omega⟩) := by
  refine congrArg p (idx3 ?_ ?_ ?_) <;> rw [unit_val] <;> first | rfl | exact Nat.zero_add _

theorem rAcc_at (acc : SA.Idx → EReal) (e : Fin 2) (qc : Fin 8) (r : Fin 80) (j : Fin 256) :
    rAcc (F := Ideal) acc e qc (ix3 0 r j) = acc (ix3 e r ⟨256 * qc.val + j.val, by omega⟩) := by
  refine congrArg acc (idx3 ?_ ?_ ?_) <;> rw [unit_val] <;> first | rfl | exact Nat.zero_add _

theorem rNum_at (acc : SA.Idx → EReal) (e : Fin 2) (r : Fin 64) (i : Fin 2048) :
    rNum (F := Ideal) acc e (ix3 0 r i) = acc (ix3 e ⟨r.val, by omega⟩ i) := by
  refine congrArg acc (idx3 ?_ ?_ ?_) <;> rw [unit_val] <;> first | rfl | exact Nat.zero_add _

theorem rDen_at (acc : SA.Idx → EReal) (e : Fin 2) (i : Fin 2048) :
    rDen (F := Ideal) acc e (ix3 0 0 i) = acc (ix3 e ⟨64, by omega⟩ i) := by
  refine congrArg acc (idx3 ?_ ?_ ?_) <;> rw [unit_val] <;> first | rfl | exact Nat.zero_add _

theorem rQ_at (q : (SQ g.w).Idx → EReal) (e : Fin 2) (qc : Fin 8) (j : Fin 256) (l : Fin 128) :
    rQ (F := Ideal) q e qc (ix3 0 j l) = q (ix3 0 ⟨256 * qc.val + j.val, by omega⟩ ⟨g.qo e + l.val, by have := g.hq e; omega⟩) := by
  refine congrArg q (idx3 ?_ ?_ ?_) <;> rw [unit_val] <;> first | rfl | exact Nat.zero_add _

theorem rQw_at (q : (SQ g.w).Idx → EReal) (e : Fin 2) (i : Fin 2048) (l : Fin 128) :
    rQw (F := Ideal) q e (ix3 0 i l) = q (ix3 0 i ⟨g.qo e + l.val, by have := g.hq e; omega⟩) := by
  refine congrArg q (idx3 ?_ ?_ ?_) <;> rw [unit_val] <;> first | rfl | exact Nat.zero_add _

theorem rKc_at (kc : SC.Idx → EReal) (e : Fin 2) (n : Fin 256) (l : Fin 128) :
    rKc (F := Ideal) kc e (ix3 0 n l) = kc (ix3 0 n ⟨128 * e.val + l.val, by omega⟩) := by
  refine congrArg kc (idx3 ?_ ?_ ?_) <;> rw [unit_val] <;> first | rfl | exact Nat.zero_add _

theorem rVc_at (vc : (SVC g.vw).Idx → EReal) (e : Fin 2) (r : Fin 80) (n : Fin 256) :
    rVc (F := Ideal) vc e (ix3 0 r n) = vc (ix3 0 ⟨g.vo e + r.val, by have := g.hv e; omega⟩ n) := by
  refine congrArg vc (idx3 ?_ ?_ ?_) <;> rw [unit_val] <;> first | rfl | exact Nat.zero_add _

/-- The keys a phase reads are those of block `b`; the values likewise. -/
def KOff.Is (K : KOff) (b : Nat) : Prop := ∀ e kr, K.o e kr = ![0, 512 * b + 256 * kr.val, 128 * e.val]

def VOff.Is (V : VOff g) (b : Nat) : Prop := ∀ e, V.o e = ![0, g.vo e, 512 * b]

theorem rKl_at (kl : SL.Idx → EReal) {K : KOff} {b : Nat} (hK : K.Is b) (hb : b < 8) (e kr : Fin 2) (n : Fin 256) (l : Fin 128) :
    rKl (F := Ideal) kl K e kr (ix3 0 n l) = kl (ix3 0 ⟨512 * b + 256 * kr.val + n.val, by omega⟩ ⟨128 * e.val + l.val, by omega⟩) := by
  refine congrArg kl (idx3 ?_ ?_ ?_) <;> rw [unit_val, hK e kr] <;> first | rfl | exact Nat.zero_add _

theorem rVl_at (vl : (SVL g.vw).Idx → EReal) {V : VOff g} {b : Nat} (hV : V.Is b) (hb : b < 8) (e : Fin 2) (r : Fin 80) (n : Fin 512) :
    rVl (F := Ideal) vl V e (ix3 0 r n) = vl (ix3 0 ⟨g.vo e + r.val, by have := g.hv e; omega⟩ ⟨512 * b + n.val, by omega⟩) := by
  refine congrArg vl (idx3 ?_ ?_ ?_) <;> rw [unit_val, hV e] <;> first | rfl | exact Nat.zero_add _

/-! ### Blocks -/

variable (q : (SQ g.w).Idx → EReal) (kc : SC.Idx → EReal) (vc : (SVC g.vw).Idx → EReal) (kl : SL.Idx → EReal)
  (vl : (SVL g.vw).Idx → EReal)

/-- The blocks hold these real scores and these values: context first, then the rest. -/
structure Holds (s : Fin 2 → Fin 2048 → ℕ → ℝ) (V : Fin 2 → ℕ → ℕ → EReal) : Prop where
  sc : ∀ e (i : Fin 2048) (n : Fin 256), ∑ l : Fin 128, kc (ix3 0 n ⟨128 * e.val + l.val, by omega⟩) *
    q (ix3 0 i ⟨g.qo e + l.val, by have := g.hq e; omega⟩) = ((s e i n.val : ℝ) : EReal)
  sl : ∀ e (i : Fin 2048) (n : Fin 4096), ∑ l : Fin 128, kl (ix3 0 n ⟨128 * e.val + l.val, by omega⟩) *
    q (ix3 0 i ⟨g.qo e + l.val, by have := g.hq e; omega⟩) = ((s e i (256 + n.val) : ℝ) : EReal)
  vc : ∀ e (r : Fin 80) (n : Fin 256), vc (ix3 0 ⟨g.vo e + r.val, by have := g.hv e; omega⟩ n) = V e r.val n.val
  vl : ∀ e (r : Fin 80) (n : Fin 4096), vl (ix3 0 ⟨g.vo e + r.val, by have := g.hv e; omega⟩ n) = V e r.val (256 + n.val)

variable {q kc vc kl vl} {s : Fin 2 → Fin 2048 → ℕ → ℝ} {V : Fin 2 → ℕ → ℕ → EReal}

section
variable (H : Holds q kc vc kl vl s V)
include H

theorem scoreF_real {K : KOff} {b : Nat} (hK : K.Is b) (hb : b < 8) (e kr : Fin 2) (qc : Fin 8) (n : Fin 256) (j : Fin 256) :
    scoreF (F := Ideal) (rKl (F := Ideal) kl K e kr) (rQ (F := Ideal) q e qc) (ix2 n j) =
      ((s e ⟨256 * qc.val + j.val, by omega⟩ (256 + (512 * b + 256 * kr.val + n.val)) : ℝ) : EReal) := by
  rw [scoreF_at2, ← H.sl e ⟨256 * qc.val + j.val, by omega⟩ ⟨512 * b + 256 * kr.val + n.val, by omega⟩]
  refine Finset.sum_congr rfl fun l _ => ?_
  rw [rKl_at kl hK hb, rQ_at]

theorem scoreAll_at {K : KOff} {b : Nat} (hK : K.Is b) (hb : b < 8) (e : Fin 2) (n : Fin 512) (i : Fin 2048) :
    scoreAll (F := Ideal) q kl K (ix3 e n i) = ((s e i (256 + 512 * b + n.val) : ℝ) : EReal) := by
  obtain ⟨qc, j, rfl⟩ := split_col i
  unfold scoreAll
  rw [spread_at]
  unfold scoreAt
  have h := scoreF_at (rKl (F := Ideal) kl K e ⟨n.val / 256, by omega⟩) (rQ (F := Ideal) q e qc) ⟨n.val % 256, Nat.mod_lt _ (by decide)⟩ j
  rw [← scoreF_at2, scoreF_real H hK hb] at h
  refine h.trans ?_
  congr 2
  simp only
  omega

theorem tileMax_real {K : KOff} {b : Nat} (hK : K.Is b) (hb : b < 8) (e : Fin 2) (qc : Fin 8) (j : Fin 256) :
    ∃ r : ℝ, tileMax (F := Ideal) q kl K e qc (ix2 0 j) = (r : EReal) := by
  have h : ∀ kr, ∃ r : ℝ, maxF (F := Ideal) (scoreF (F := Ideal) (rKl (F := Ideal) kl K e kr) (rQ (F := Ideal) q e qc)) (ix2 0 j) = (r : EReal) :=
    fun kr => by
      rw [maxF_at]
      exact fold_real (by decide) _ fun n => ⟨_, scoreF_real H hK hb e kr qc n j⟩
  exact max_real (h 0) (h 1)

theorem allMax_real {K : KOff} {b : Nat} (hK : K.Is b) (hb : b < 8) (e : Fin 2) (i : Fin 2048) :
    ∃ r : ℝ, allMax (F := Ideal) (tileMax (F := Ideal) q kl K e) (ix2 0 i) = (r : EReal) := by
  obtain ⟨qc, j, rfl⟩ := split_col i
  rw [cat8_at]
  exact tileMax_real H hK hb e qc j

theorem ctxF_real (e : Fin 2) (n : Fin 256) (i : Fin 2048) :
    ctxF (F := Ideal) (rKc (F := Ideal) kc e) (rQw (F := Ideal) q e) (ix2 n i) = ((s e i n.val : ℝ) : EReal) := by
  rw [ctxF_at, ← H.sc e i n]
  refine Finset.sum_congr rfl fun l _ => ?_
  rw [rKc_at, rQw_at]

theorem low_real : ∃ r : ℝ, (Ideal.ofBits FTy.f32 0xF149F2CA#32 : EReal) = r := by
  simp [Ideal.ofBits, Ideal.ieee]
  exact ⟨_, rfl⟩

theorem ctxM_real (e : Fin 2) (i : Fin 2048) : ∃ r : ℝ, ctxM (F := Ideal) q kc e (ix2 0 i) = (r : EReal) := by
  refine max_real (low_real H) ?_
  have := fold_real (n := 256) (by decide) (fun n => ctxF (F := Ideal) (rKc (F := Ideal) kc e) (rQw (F := Ideal) q e) (ix2 n i))
    fun n => ⟨_, ctxF_real H e n i⟩
  rwa [← ctxMaxF_at] at this

theorem accAll_at {VO : VOff g} {b : Nat} (hV : VO.Is b) (hb : b < 8) {al : Fin 2 → FVec Ideal (D2 1 2048) .f32}
    {p : SS.Idx → EReal} {acc : SA.Idx → EReal} {e : Fin 2} {r : Fin 80} {i : Fin 2048} {μ ν : ℝ}
    (hal : al e (ix2 0 i) = (((2 : ℝ) ^ (μ - ν) : ℝ) : EReal))
    (hp : ∀ n, p (ix3 e n i) = (((2 : ℝ) ^ (s e i (256 + 512 * b + n.val) - ν) : ℝ) : EReal))
    (hacc : acc (ix3 e r i) = mass (V e r.val) (s e i) μ (256 + 512 * b)) :
    accAll (F := Ideal) vl VO al p acc (ix3 e r i) = mass (V e r.val) (s e i) ν (256 + 512 * (b + 1)) := by
  obtain ⟨qc, j, rfl⟩ := split_col i
  unfold accAll
  rw [spread_at, accF_at, hal, rAcc_at, hacc, mass_scale, pvF_at, show 256 + 512 * (b + 1) = 256 + 512 * b + 512 by ring, mass_add _ _ _ (256 + 512 * b)]
  refine congrArg (mass (V e r.val) (s e ⟨256 * qc.val + j.val, by omega⟩) ν (256 + 512 * b) + ·) (Finset.sum_congr rfl fun n _ => ?_)
  rw [rVl_at vl hV hb, rP_at, hp, H.vl e r ⟨512 * b + n.val, by omega⟩, Nat.add_assoc]

theorem accCtx_at {p : Fin 2 → FVec Ideal (D2 256 2048) .bf16} {e : Fin 2} {r : Fin 80} {i : Fin 2048} {ν : ℝ}
    (hp : ∀ n, p e (ix2 n i) = (((2 : ℝ) ^ (s e i n.val - ν) : ℝ) : EReal)) :
    accCtx (F := Ideal) vc onesF p zeroA (ix3 e r i) = mass (V e r.val) (s e i) ν 256 := by
  obtain ⟨qc, j, rfl⟩ := split_col i
  unfold accCtx
  have hz : rAcc (F := Ideal) zeroA e qc (ix3 0 r j) = 0 := by
    rw [rAcc_at]
    exact Ideal.ofBits_zero_f32
  rw [spread_at, accF_at, hz, mul_zero, zero_add, pvCF_at]
  unfold mass
  rw [Finset.sum_range]
  refine Finset.sum_congr rfl fun n _ => ?_
  rw [rVc_at, hp, H.vc e r n]

end

theorem softAll_at {mn : Fin 2 → FVec Ideal (D2 1 2048) .f32} {S : SS.Idx → EReal} {e : Fin 2} {n : Fin 512} {i : Fin 2048} {a ν : ℝ}
    (hm : mn e (ix2 0 i) = (ν : EReal)) (hs : S (ix3 e n i) = (a : EReal)) :
    softAll (F := Ideal) mn S (ix3 e n i) = (((2 : ℝ) ^ (a - ν) : ℝ) : EReal) := by
  obtain ⟨qc, j, rfl⟩ := split_col i
  unfold softAll
  rw [spread_at, softF_at, rP_at, hs, hm, exp2_sub]

/-! ### The state -/

/-- What is carried, by head. -/
def St.m (σ : St Ideal) : Fin 2 → FVec Ideal (D2 1 2048) .f32 := ![σ.c.1, σ.c.2.1]
def St.x (σ : St Ideal) : Fin 2 → FVec Ideal (D2 1 2048) .f32 := ![σ.c.2.2.2.2.1, σ.c.2.2.2.2.2]

theorem St.mn_at (σ : St Ideal) (e : Fin 2) (j : (D2 1 2048).Idx) : σ.mn e j = max (σ.m e j : EReal) (σ.x e j) := by
  match e with
  | 0 => rfl
  | 1 => rfl

theorem St.alNew_at (σ : St Ideal) (e : Fin 2) (j : (D2 1 2048).Idx) :
    σ.alNew e j = Ideal.exp2 ((σ.m e j : EReal) - max (σ.m e j : EReal) (σ.x e j)) := by
  match e with
  | 0 => rfl
  | 1 => rfl

/-- Blocks before `t` are summed, block `t` is weighted, block `t + 1` is scored. -/
structure Inv (s : Fin 2 → Fin 2048 → ℕ → ℝ) (V : Fin 2 → ℕ → ℕ → EReal) (t : Nat) (σ : St Ideal) (e : Fin 2) (i : Fin 2048)
    (μ ν x : ℝ) : Prop where
  m : σ.m e (ix2 0 i) = (ν : EReal)
  al : σ.al e (ix2 0 i) = (((2 : ℝ) ^ (μ - ν) : ℝ) : EReal)
  x : σ.x e (ix2 0 i) = (x : EReal)
  p : ∀ n : Fin 512, σ.p (ix3 e n i) = (((2 : ℝ) ^ (s e i (256 + 512 * t + n.val) - ν) : ℝ) : EReal)
  sc : ∀ n : Fin 512, σ.s (ix3 e n i) = ((s e i (256 + 512 * (t + 1) + n.val) : ℝ) : EReal)
  acc : ∀ r : Fin 80, σ.acc (ix3 e r i) = mass (V e r.val) (s e i) μ (256 + 512 * t)

theorem exp2_subf_at (a b : FVec Ideal (D2 1 2048) .f32) (j : (D2 1 2048).Idx) :
    exp2 (subf a b) j = Ideal.exp2 ((a j : EReal) - b j) := rfl

section
variable (K : KOff) (VO : VOff g) (σ : St Ideal) (e : Fin 2)

theorem step_m : (σ.step q kl vl K VO).m e = σ.mn e := by fin_cases e <;> rfl
theorem step_al : (σ.step q kl vl K VO).al e = σ.alNew e := by fin_cases e <;> rfl
theorem step_x : (σ.step q kl vl K VO).x e = allMax (F := Ideal) (tileMax (F := Ideal) q kl K e) := by fin_cases e <;> rfl
theorem init_m : (St.init (F := Ideal) q kc vc kl).m e =
    maximumf (ctxM (F := Ideal) q kc e) (allMax (F := Ideal) (tileMax (F := Ideal) q kl (kAt 0) e)) := by fin_cases e <;> rfl
theorem init_mn : (![maximumf (ctxM (F := Ideal) q kc 0) (allMax (F := Ideal) (tileMax (F := Ideal) q kl (kAt 0) 0)),
      maximumf (ctxM (F := Ideal) q kc 1) (allMax (F := Ideal) (tileMax (F := Ideal) q kl (kAt 0) 1))] :
      Fin 2 → FVec Ideal (D2 1 2048) .f32) e =
    maximumf (ctxM (F := Ideal) q kc e) (allMax (F := Ideal) (tileMax (F := Ideal) q kl (kAt 0) e)) := by fin_cases e <;> rfl
theorem init_al : (St.init (F := Ideal) q kc vc kl).al e =
    exp2 (subf (ctxM (F := Ideal) q kc e)
      (maximumf (ctxM (F := Ideal) q kc e) (allMax (F := Ideal) (tileMax (F := Ideal) q kl (kAt 0) e)))) := by fin_cases e <;> rfl
theorem init_x : (St.init (F := Ideal) q kc vc kl).x e = allMax (F := Ideal) (tileMax (F := Ideal) q kl (kAt 1) e) := by
  fin_cases e <;> rfl
theorem init_p : (![ctxP (F := Ideal) q kc 0, ctxP (F := Ideal) q kc 1] : Fin 2 → FVec Ideal (D2 256 2048) .bf16) e =
    ctxP (F := Ideal) q kc e := by fin_cases e <;> rfl
end

theorem max_coe (a b : ℝ) : max (a : EReal) (b : EReal) = ((max a b : ℝ) : EReal) := (EReal.coe_strictMono.monotone.map_max).symm

section
variable (H : Holds q kc vc kl vl s V)
include H

theorem inv_step {K : KOff} {VO : VOff g} {t : Nat} (hK : K.Is (t + 2)) (hV : VO.Is t) (ht : t + 2 < 8) {σ : St Ideal} {e : Fin 2}
    {i : Fin 2048} (h : ∃ μ ν x, Inv s V t σ e i μ ν x) : ∃ μ ν x, Inv s V (t + 1) (σ.step q kl vl K VO) e i μ ν x := by
  obtain ⟨μ, ν, x, h⟩ := h
  obtain ⟨x', hx'⟩ := allMax_real H hK ht e i
  have hmn : σ.mn e (ix2 0 i) = ((max ν x : ℝ) : EReal) := by rw [St.mn_at, h.m, h.x, max_coe]
  refine ⟨ν, max ν x, x', ?_, ?_, ?_, ?_, ?_, ?_⟩
  · rw [step_m, hmn]
  · rw [step_al, St.alNew_at, h.m, h.x, max_coe, exp2_sub]
  · rw [step_x, hx']
  · intro n
    exact softAll_at hmn (h.sc n)
  · intro n
    exact scoreAll_at H hK ht e n i
  · intro r
    exact accAll_at H hV (by omega) h.al h.p (h.acc r)

omit H in
theorem kAt_is (b : Fin 8) : (kAt b).Is b.val := fun _ _ => rfl
omit H in
theorem vAt_is (b : Fin 8) : (vAt g b).Is b.val := fun _ => rfl

theorem inv_init (e : Fin 2) (i : Fin 2048) : ∃ μ ν x, Inv s V 0 (St.init q kc vc kl) e i μ ν x := by
  obtain ⟨μ, hμ⟩ := ctxM_real H e i
  obtain ⟨y, hy⟩ := allMax_real H (kAt_is 0) (by decide) e i
  obtain ⟨x, hx⟩ := allMax_real H (kAt_is 1) (by decide) e i
  have hmax : maximumf (ctxM (F := Ideal) q kc e) (allMax (F := Ideal) (tileMax (F := Ideal) q kl (kAt 0) e)) (ix2 0 i)
      = ((max μ y : ℝ) : EReal) := by
    rw [← max_coe, ← hμ, ← hy]
    rfl
  refine ⟨μ, max μ y, x, ?_, ?_, ?_, ?_, ?_, ?_⟩
  · rw [init_m, hmax]
  · rw [init_al, exp2_subf_at, hmax, hμ, exp2_sub]
  · rw [init_x, hx]
  · intro n
    refine softAll_at ?_ (scoreAll_at H (b := 0) (kAt_is 0) (by decide) e n i)
    rw [init_mn, hmax]
  · intro n
    exact scoreAll_at H (b := 1) (kAt_is 1) (by decide) e n i
  · intro r
    refine accCtx_at H fun n => ?_
    rw [init_p]
    unfold ctxP
    rw [ctxSoftF_at, ctxF_real H, hμ, exp2_sub]

theorem last_at {σ : St Ideal} {e : Fin 2} {i : Fin 2048} (h : ∃ μ ν x, Inv s V 6 σ e i μ ν x) :
    ∃ m : ℝ, ∀ r : Fin 80, σ.last (F := Ideal) vl (ix3 e r i) = mass (V e r.val) (s e i) m 4352 := by
  obtain ⟨μ, ν, x, h⟩ := h
  refine ⟨max ν x, fun r => ?_⟩
  have hmn : σ.mn e (ix2 0 i) = ((max ν x : ℝ) : EReal) := by rw [St.mn_at, h.m, h.x, max_coe]
  have h7 : accAll (F := Ideal) vl (vAt g 6) σ.al σ.p σ.acc (ix3 e r i) = mass (V e r.val) (s e i) ν (256 + 512 * 7) :=
    accAll_at H (b := 6) (vAt_is 6) (by decide) h.al h.p (h.acc r)
  have hal : σ.alNew e (ix2 0 i) = (((2 : ℝ) ^ (ν - max ν x) : ℝ) : EReal) := by
    rw [St.alNew_at, h.m, h.x, max_coe, exp2_sub]
  have h8 := accAll_at H (b := 7) (vAt_is 7) (by decide) (p := softAll (F := Ideal) σ.mn σ.s) hal (fun n => softAll_at hmn (h.sc n)) h7
  rw [show 4352 = 256 + 512 * (7 + 1) from rfl]
  exact h8

omit H in
theorem outAcc_at (acc : SA.Idx → EReal) (e : Fin 2) (d : Fin 64) (i : Fin 2048) :
    outAcc (F := Ideal) acc (ix3 0 i ⟨64 * e.val + d.val, by omega⟩) =
      Ideal.div (acc (ix3 e ⟨d.val, by omega⟩ i)) (acc (ix3 e ⟨64, by omega⟩ i)) := by
  unfold outAcc
  rw [outF_at, ← rNum_at acc e d i, ← rDen_at acc e i, ← outHeadF_at]
  match e with
  | 0 => rfl
  | 1 => rfl

/-- The block written. -/
theorem outOf_at {K1 K2 : Fin 3 → KOff} {V1 V2 : Fin 3 → VOff g} (h1 : ∀ t, (K1 t).Is (2 * t.val + 2)) (h2 : ∀ t, (K2 t).Is (2 * t.val + 3))
    (h3 : ∀ t, (V1 t).Is (2 * t.val)) (h4 : ∀ t, (V2 t).Is (2 * t.val + 1)) (e : Fin 2) (d : Fin 64) (i : Fin 2048) :
    ∃ m : ℝ, outOf (F := Ideal) K1 K2 V1 V2 q kc vc kl vl (ix3 0 i ⟨64 * e.val + d.val, by omega⟩) =
      Ideal.div (mass (V e d.val) (s e i) m 4352) (mass (V e 64) (s e i) m 4352) := by
  have h : ∃ μ ν x, Inv s V 6 (loopSt (F := Ideal) q kl vl K1 K2 V1 V2 (List.finRange 3) (St.init q kc vc kl)) e i μ ν x :=
    inv_step H (h2 2) (h4 2) (by decide) <| inv_step H (h1 2) (h3 2) (by decide) <|
    inv_step H (h2 1) (h4 1) (by decide) <| inv_step H (h1 1) (h3 1) (by decide) <|
    inv_step H (h2 0) (h4 0) (by decide) <| inv_step H (h1 0) (h3 0) (by decide) <| inv_init H e i
  obtain ⟨m, hm⟩ := last_at H h
  refine ⟨m, ?_⟩
  exact (outAcc_at _ e d i).trans (congrArg₂ Ideal.div (hm ⟨d.val, by omega⟩) (hm ⟨64, by omega⟩))

end

end Att
-- ==== Proof.Blocks.lean ====
/-
  Where a grid point's blocks lie in their arrays.
-/
module

public import proofs.«01_k».proof.Proof.Pack
public import proofs.«01_k».proof.Proof.Mass
public import Idealize.ShloMosaic.Lib.Pipeline.ValueKit.Geometry

@[expose] public section

set_option maxRecDepth 16384

noncomputable section

namespace Cert.KernelIdeal.Launch

open Idealize.ShloMosaic Idealize.ShloMosaic.TcCoe Idealize.ShloMosaic.Tactic
open Cert.KernelIdeal.Gen

theorem points : cfg0.N = 64 := by decide +kernel

/-- A point is a batch row, a pair of heads and a half of the queries, the half counting fastest. -/
theorem ix0 : ∀ t : Fin cfg0.N, win0_0.index t = ![t.val / 8, t.val % 2, t.val / 2 % 4] := by decide +kernel
theorem ix1 : ∀ t : Fin cfg0.N, win0_1.index t = ![t.val / 8, 0, t.val / 4 % 2] := by decide +kernel
theorem ix2' : ∀ t : Fin cfg0.N, win0_2.index t = ![t.val / 8, t.val / 4 % 2, 0] := by decide +kernel
theorem ix3' : ∀ t : Fin cfg0.N, win0_3.index t = ![t.val / 8, 0, t.val / 4 % 2] := by decide +kernel
theorem ix4' : ∀ t : Fin cfg0.N, win0_4.index t = ![t.val / 8, t.val / 4 % 2, 0] := by decide +kernel
theorem ix5' : ∀ t : Fin cfg0.N, win0_5.index t = ![t.val / 8, t.val % 2, t.val / 2 % 4] := by decide +kernel

variable (m : (ℓ : Loc nD τ sig) → Buf (Elt Ideal) ℓ) (c : Dev nD)

abbrev rowOf (t : Fin cfg0.N) : Fin 8 := ⟨t.val / 8, by have := Nat.lt_of_lt_of_eq t.isLt points; omega⟩

theorem blkQ (t : Fin cfg0.N) (i : Fin 2048) (l : Fin 128) : blk m c 0 t (ix3 0 i l) =
    V m c main_v5 (ix3 (rowOf t) ⟨2048 * (t.val % 2) + i.val, by omega⟩ ⟨128 * (t.val / 2 % 4) + l.val, by omega⟩) := by
  unfold blk
  blk_simp
  refine congrArg (V m c main_v5) (Att.idx3 ?_ ?_ ?_) <;> blk_simp [ix0] <;> simp [ix3] <;> omega

theorem blkKc (t : Fin cfg0.N) (n : Fin 256) (l : Fin 256) : blk m c 1 t (ix3 0 n l) =
    V m c main_v12 (ix3 (rowOf t) n ⟨256 * (t.val / 4 % 2) + l.val, by omega⟩) := by
  unfold blk
  blk_simp
  refine congrArg (V m c main_v12) (Att.idx3 ?_ ?_ ?_) <;> blk_simp [ix1] <;> simp [ix3] <;> omega

theorem blkVc (t : Fin cfg0.N) (r : Fin 128) (n : Fin 256) : blk m c 2 t (ix3 0 r n) =
    V m c main_v18 (ix3 (rowOf t) ⟨128 * (t.val / 4 % 2) + r.val, by omega⟩ n) := by
  unfold blk
  blk_simp
  refine congrArg (V m c main_v18) (Att.idx3 ?_ ?_ ?_) <;> blk_simp [ix2'] <;> simp [ix3] <;> omega

theorem blkKl (t : Fin cfg0.N) (n : Fin 4096) (l : Fin 256) : blk m c 3 t (ix3 0 n l) =
    V m c main_v25 (ix3 (rowOf t) n ⟨256 * (t.val / 4 % 2) + l.val, by omega⟩) := by
  unfold blk
  blk_simp
  refine congrArg (V m c main_v25) (Att.idx3 ?_ ?_ ?_) <;> blk_simp [ix3'] <;> simp [ix3] <;> omega

theorem blkVl (t : Fin cfg0.N) (r : Fin 128) (n : Fin 4096) : blk m c 4 t (ix3 0 r n) =
    V m c main_v31 (ix3 (rowOf t) ⟨128 * (t.val / 4 % 2) + r.val, by omega⟩ n) := by
  unfold blk
  blk_simp
  refine congrArg (V m c main_v31) (Att.idx3 ?_ ?_ ?_) <;> blk_simp [ix4'] <;> simp [ix3] <;> omega

/-- Where the output's block lies. -/
theorem placeO (t : Fin cfg0.N) (i : Fin 2048) (l : Fin 128) : ((cfg0.win 5).blk t).view.emb (ix3 0 i l) =
    ix3 (rowOf t) ⟨2048 * (t.val % 2) + i.val, by omega⟩ ⟨128 * (t.val / 2 % 4) + l.val, by omega⟩ := by
  refine Att.idx3 ?_ ?_ ?_ <;> blk_simp [ix5'] <;> simp [ix3] <;> omega

theorem coverO : (cfg0.win 5).Covers := by decide +kernel

/-! ### Where the loop's keys and values begin -/

theorem kLoop_is (p : Fin 2) (t : Fin 3) : (kLoop p t).Is (2 * t.val + 2 + p.val) := by
  intro e kr
  show (![k0_off1 t _ _, k0_off3 t _ _] : Fin 2 → Fin 3 → Nat) e = _
  rw [k0_off1_eq t p kr, k0_off3_eq t p kr, show 1024 * t.val + 512 * p.val + 256 * kr.val + 1024 =
    512 * (2 * t.val + 2 + p.val) + 256 * kr.val by omega]
  fin_cases e <;> rfl

theorem vLoop_is (p : Fin 2) (t : Fin 3) : (vLoop p t).Is (2 * t.val + p.val) := by
  intro e
  show (![k0_off2 t, k0_off4 t] : Fin 2 → Fin 3 → Nat) p = _
  rw [k0_off2_eq t, k0_off4_eq t]
  fin_cases p
  · show ![0, 0, 1024 * t.val] = ![0, 0, 512 * (2 * t.val + 0)]
    rw [show 1024 * t.val = 512 * (2 * t.val + 0) by omega]
  · show ![0, 0, 1024 * t.val + 512] = ![0, 0, 512 * (2 * t.val + 1)]
    rw [show 1024 * t.val + 512 = 512 * (2 * t.val + 1) by omega]

end Cert.KernelIdeal.Launch
-- ==== Proof.Ref.lean ====
/-
  The reference on extended reals, element by element: the sum of the values under normalized exponentials.
-/
module

public import proofs.«01_k».proof.Defs
public import proofs.«01_k».proof.Proof.Gen.ReferenceIdeal
public import proofs.«01_k».proof.Proof.Online
public import Idealize.ShloMosaic.Lib.Pointwise
public import Idealize.ShloMosaic.Lib.KernelVsHost

@[expose] public section

set_option maxRecDepth 16384

noncomputable section

namespace Cert.ReferenceIdeal.Read

open Idealize.ShloMosaic Idealize.ShloMosaic.Tactic
open Cert.ReferenceIdeal Cert.ReferenceIdeal.Gen

abbrev scoreV (q : FVec Ideal S8x4096x8x64 .f32) (k : FVec Ideal S8x4352x2x64 .f32) : FVec Ideal S8x2x4x4096x4352 .f32 :=
  mulf (transpose S8x2x4x4096x4352 [0, 1, 4, 3, 2]
    (Host.dotGeneral dot_S8x4352x2x64_S8x4096x2x4x64_S8x2x4352x4096x4_3_4_1_13_02_02 none k
      (shapeCast _ q shapeCasts_S8x4096x8x64_S8x4096x2x4x64)) transposes_S8x2x4352x4096x4_S8x2x4x4096x4352_0_1_4_3_2)
    (broadcastInDim S8x2x4x4096x4352 ![] bcast_S_S8x2x4x4096x4352 (constant S_ .f32 0x3E000000#32))

abbrev catV (a : FVec Ideal S8x256x2x64 .f32) (b : FVec Ideal S8x4096x2x64 .f32) : FVec Ideal S8x4352x2x64 .f32 :=
  concatenate S8x4352x2x64 1 [⟨S8x256x2x64, a⟩, ⟨S8x4096x2x64, b⟩] concatenates_S8x256x2x64_S8x4096x2x64_S8x4352x2x64_d1

abbrev maxV (s : FVec Ideal S8x2x4x4096x4352 .f32) : FVec Ideal S8x2x4x4096 .f32 :=
  maximumf (broadcastInDim S8x2x4x4096 ![] bcast_S_S8x2x4x4096 (constant S_ .f32 0xFF800000#32))
    (Host.reduce FloatOps.maximumf s (constant S_ .f32 0xFF800000#32) reducesTo_S8x2x4x4096x4352_S8x2x4x4096_d4 h_S_)

abbrev spreadV (x : FVec Ideal S8x2x4x4096 .f32) : FVec Ideal S8x2x4x4096x4352 .f32 :=
  broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3 x)

abbrev expV (s : FVec Ideal S8x2x4x4096x4352 .f32) (x : FVec Ideal S8x2x4x4096 .f32) : FVec Ideal S8x2x4x4096x4352 .f32 :=
  Host.exp (subf s (spreadV x))

abbrev sumV (p : FVec Ideal S8x2x4x4096x4352 .f32) : FVec Ideal S8x2x4x4096 .f32 :=
  Host.reduceAdd p (constant S_ .f32 0x00000000#32) reducesTo_S8x2x4x4096x4352_S8x2x4x4096_d4 h_S_

abbrev outV (v : FVec Ideal S8x4352x2x64 .f32) (p : FVec Ideal S8x2x4x4096x4352 .f32) : FVec Ideal S8x4096x512 .bf16 :=
  truncf .bf16 (shapeCast _ (transpose S8x4096x2x4x64 [0, 4, 1, 3, 2]
    (Host.dotGeneral dot_S8x4352x2x64_S8x2x4x4096x4352_S8x2x64x4x4096_1_4_3_23_02_01 none v p)
    transposes_S8x2x64x4x4096_S8x4096x2x4x64_0_4_1_3_2) shapeCasts_S8x4096x2x4x64_S8x4096x512) bitsLt_bf16_f32

theorem scoreV_at (q : FVec Ideal S8x4096x8x64 .f32) (k : FVec Ideal S8x4352x2x64 .f32) (b : Fin 8) (g : Fin 2) (h : Fin 4) (i : Fin 4096)
    (n : Fin 4352) :
    scoreV q k (ix5 b g h i n) = (∑ d : Fin 64, (k (ix4 b n g d) : EReal) * q (ix4 b i ⟨g.val * 4 + h.val, by omega⟩ d)) *
      Ideal.ofBits .f32 0x3E000000#32 := by
  pointwise

theorem catV_at (x : FVec Ideal S8x256x2x64 .f32) (y : FVec Ideal S8x4096x2x64 .f32) (b : Fin 8) (g : Fin 2) (n : Fin 4352) (d : Fin 64) :
    catV x y (ix4 b n g d) = if h : n.val < 256 then x (ix4 b ⟨n.val, h⟩ g d) else y (ix4 b ⟨n.val - 256, by omega⟩ g d) := by
  pointwise

theorem low_bits : (FloatOps.ofBits (F := Ideal) FTy.f32 0xFF800000#32 : EReal) = ⊥ := by
  show (Ideal.ofBits FTy.f32 0xFF800000#32 : EReal) = ⊥
  simp [Ideal.ofBits, Ideal.ieee]

/-- The maximum over one axis of real elements is real. -/
theorem hostMax_real {s t u : Shape} {a : Fin s.rank} (x : FVec Ideal s .f32) (h : s.ReducesTo [a] t) (h' : s.Reduces [a] t)
    (hu : 0 < u.numel) (hn : 0 < s.size a) (hx : ∀ j, ∃ r : ℝ, x j = (r : EReal)) (acc : BitVec FTy.f32.bits)
    (hφ : FKind.Formats .f32) (hacc : acc = FKind.maximumf.neutral .f32 hφ) (hlow : (FloatOps.ofBits (F := Ideal) FTy.f32 acc : EReal) = ⊥)
    (j : t.Idx) : ∃ r : ℝ, Host.reduce FloatOps.maximumf x (constant u .f32 acc) h hu j = (r : EReal) := by
  rw [hostReduce_maximumf_eq_multiReduction x acc h hu h' hφ hacc, Ideal.multiReduction_maximumf_single, hlow]
  exact Online.fold_real hn _ fun k => hx _

theorem max_low {s t : Shape} (dims : Fin s.rank → Fin t.rank) (hb : s.BroadcastsInDim t dims) (y : FVec Ideal t .f32) (j : t.Idx) :
    maximumf (broadcastInDim t dims hb (constant s .f32 0xFF800000#32)) y j = y j := by
  have h : broadcastInDim t dims hb (constant (F := Ideal) s .f32 0xFF800000#32) j = (⊥ : EReal) := low_bits
  show max (broadcastInDim t dims hb (constant (F := Ideal) s .f32 0xFF800000#32) j : EReal) (y j) = y j
  rw [h]
  exact max_eq_right bot_le

theorem maxV_real (s : FVec Ideal S8x2x4x4096x4352 .f32) (hs : ∀ j, ∃ r : ℝ, s j = (r : EReal)) (b : Fin 8) (g : Fin 2) (h : Fin 4)
    (i : Fin 4096) : ∃ r : ℝ, maxV s (ix4 b g h i) = (r : EReal) := by
  obtain ⟨r, hr⟩ := hostMax_real s reducesTo_S8x2x4x4096x4352_S8x2x4x4096_d4 (by decide) h_S_ (by decide) hs 0xFF800000#32 (.inl rfl) rfl low_bits (ix4 b g h i)
  refine ⟨r, ?_⟩
  unfold maxV
  rw [max_low, hr]

theorem expV_at (s : FVec Ideal S8x2x4x4096x4352 .f32) (x : FVec Ideal S8x2x4x4096 .f32) (b : Fin 8) (g : Fin 2) (h : Fin 4) (i : Fin 4096)
    (n : Fin 4352) : expV s x (ix5 b g h i n) = Ideal.exp ((s (ix5 b g h i n) : EReal) - x (ix4 b g h i)) := by
  pointwise

theorem sumV_at (s : FVec Ideal S8x2x4x4096x4352 .f32) (b : Fin 8) (g : Fin 2) (h : Fin 4) (i : Fin 4096) :
    sumV s (ix4 b g h i) = ∑ n : Fin 4352, (s (ix5 b g h i n) : EReal) := by
  pointwise

theorem divV_at (s : FVec Ideal S8x2x4x4096x4352 .f32) (x : FVec Ideal S8x2x4x4096 .f32) (b : Fin 8) (g : Fin 2) (h : Fin 4) (i : Fin 4096)
    (n : Fin 4352) : Host.divf s (spreadV x) (ix5 b g h i n) = Ideal.div (s (ix5 b g h i n) : EReal) (x (ix4 b g h i)) := by
  pointwise

theorem outV_at (v : FVec Ideal S8x4352x2x64 .f32) (p : FVec Ideal S8x2x4x4096x4352 .f32) (b : Fin 8) (g : Fin 2) (h : Fin 4) (i : Fin 4096)
    (d : Fin 64) :
    outV v p (ix3 b i ⟨256 * g.val + 64 * h.val + d.val, by omega⟩) = ∑ n : Fin 4352, (v (ix4 b n g d) : EReal) * p (ix5 b g h i n) := by
  pointwise

theorem eighth : (Ideal.ofBits .f32 0x3E000000#32 : EReal) = ((1 / 8 : ℝ) : EReal) := by
  simp [Ideal.ofBits, Ideal.ieee]
  norm_num
  rw [← EReal.coe_mul]
  norm_num

/-- A score, of real queries and keys. -/
def score (q : S8x4096x8x64.Idx → ℝ) (k : S8x4352x2x64.Idx → ℝ) (b : Fin 8) (g : Fin 2) (h : Fin 4) (i : Fin 4096) (n : Fin 4352) : ℝ :=
  (∑ d : Fin 64, k (ix4 b n g d) * q (ix4 b i ⟨g.val * 4 + h.val, by omega⟩ d)) * (1 / 8)

section
variable {q : FVec Ideal S8x4096x8x64 .f32} {k : FVec Ideal S8x4352x2x64 .f32} {qr : S8x4096x8x64.Idx → ℝ} {kr : S8x4352x2x64.Idx → ℝ}
  (hq : ∀ j, q j = ((qr j : ℝ) : EReal)) (hk : ∀ j, k j = ((kr j : ℝ) : EReal))
include hq hk

theorem scoreV_real (b : Fin 8) (g : Fin 2) (h : Fin 4) (i : Fin 4096) (n : Fin 4352) :
    scoreV q k (ix5 b g h i n) = ((score qr kr b g h i n : ℝ) : EReal) := by
  rw [scoreV_at, eighth]
  unfold score
  rw [EReal.coe_mul, Online.coe_sum]
  congr 1
  refine Finset.sum_congr rfl fun d _ => ?_
  rw [hq, hk, EReal.coe_mul]

/-- An element of the reference's result. -/
theorem result_at (v : FVec Ideal S8x4352x2x64 .f32) (b : Fin 8) (g : Fin 2) (h : Fin 4) (i : Fin 4096) (d : Fin 64) :
    ∃ M : ℝ, outV v (Host.divf (expV (scoreV q k) (maxV (scoreV q k))) (spreadV (sumV (expV (scoreV q k) (maxV (scoreV q k))))))
        (ix3 b i ⟨256 * g.val + 64 * h.val + d.val, by omega⟩) =
      ∑ n : Fin 4352, (v (ix4 b n g d) : EReal) * Ideal.div ((Real.exp (score qr kr b g h i n - M) : ℝ) : EReal)
        (∑ n' : Fin 4352, ((Real.exp (score qr kr b g h i n' - M) : ℝ) : EReal)) := by
  obtain ⟨M, hM⟩ := maxV_real (scoreV q k) (fun j => by
    have hj : j = ix5 (j 0) (j 1) (j 2) (j 3) (j 4) := by
      funext x
      match x with
      | ⟨0, _⟩ => rfl
      | ⟨1, _⟩ => rfl
      | ⟨2, _⟩ => rfl
      | ⟨3, _⟩ => rfl
      | ⟨4, _⟩ => rfl
    rw [hj]
    exact ⟨_, scoreV_real hq hk (j 0) (j 1) (j 2) (j 3) (j 4)⟩) b g h i
  have he : ∀ n, expV (scoreV q k) (maxV (scoreV q k)) (ix5 b g h i n) = ((Real.exp (score qr kr b g h i n - M) : ℝ) : EReal) := fun n => by
    rw [expV_at, scoreV_real hq hk, hM, ← EReal.coe_sub]
    rfl
  refine ⟨M, ?_⟩
  rw [outV_at]
  refine Finset.sum_congr rfl fun n _ => ?_
  rw [divV_at, sumV_at, he]
  simp only [he]

end

end Cert.ReferenceIdeal.Read
-- ==== Proof.Point.lean ====
/-
  One element of the output: the body's blocks hold the reference's scores, divided by log 2, and its values.
-/
module

public import proofs.«01_k».proof.Proof.Blocks
public import proofs.«01_k».proof.Proof.Ref

@[expose] public section

set_option maxRecDepth 16384

noncomputable section

namespace Cert.KernelIdeal.Launch

open Idealize.ShloMosaic Idealize.ShloMosaic.TcCoe Idealize.ShloMosaic.Tactic
open Cert.KernelIdeal.Gen Online
open Cert.ReferenceIdeal.Read (scoreV catV maxV spreadV expV sumV outV score result_at catV_at eighth)

/-- Of 128 lanes only one half holds a key's elements. -/
theorem pick (e : Fin 2) (k : Fin 64 → EReal) (q : Fin 128 → EReal) :
    ∑ l : Fin 128, (if l.val / 64 = e.val then k ⟨l.val % 64, by omega⟩ else 0) * q l =
      ∑ d : Fin 64, k d * q ⟨64 * e.val + d.val, by omega⟩ := by
  have h := Fin.sum_univ_add (a := 64) (b := 64) fun l : Fin (64 + 64) =>
    (if l.val / 64 = e.val then k ⟨l.val % 64, by omega⟩ else 0) * q l
  refine h.trans ?_
  have h0 : ∀ d : Fin 64, (Fin.castAdd 64 d).val / 64 = 0 := fun d => by simp
  have h1 : ∀ d : Fin 64, (Fin.natAdd 64 d).val / 64 = 1 := fun d => by simp
  have m0 : ∀ d : Fin 64, (Fin.castAdd 64 d).val % 64 = d.val := fun d => by simp
  have m1 : ∀ d : Fin 64, (Fin.natAdd 64 d).val % 64 = d.val := fun d => by simp
  simp only [h0, h1, m0, m1]
  match e with
  | ⟨0, _⟩ =>
    simp only [if_pos, one_ne_zero, if_false, zero_mul, Finset.sum_const_zero, add_zero]
    refine Finset.sum_congr rfl fun d _ => congrArg (k d * q ·) (Fin.ext ?_)
    simp
  | ⟨1, _⟩ =>
    simp only [if_pos, zero_ne_one, if_false, zero_mul, Finset.sum_const_zero, zero_add]
    exact Finset.sum_congr rfl fun d _ => congrArg (k d * q ·) (Fin.ext rfl)

theorem two : (Ideal.ofBits .f32 0x40000000#32 : EReal) = ((2 : ℝ) : EReal) := by
  simp [Ideal.ofBits, Ideal.ieee]
  norm_num
  try (rw [← EReal.coe_mul]; norm_num)

/-- The queries' scale. -/
theorem scale : Ideal.div (Ideal.ofBits .f32 0x3E000000#32) (Ideal.log (Ideal.ofBits .f32 0x40000000#32)) =
    ((1 / 8 / Real.log 2 : ℝ) : EReal) := by
  have hl : 0 < Real.log 2 := Real.log_pos (by norm_num)
  rw [two, show Ideal.log ((2 : ℝ) : EReal) = ((Real.log 2 : ℝ) : EReal) from if_neg (by norm_num), div_pos_coe _ _ hl, eighth, ← EReal.coe_mul]
  congr 1
  field_simp

/-- A sum of real keys against real scaled queries is the score divided by log 2. -/
theorem dot_scaled (k q : Fin 64 → ℝ) :
    ∑ d : Fin 64, ((k d : ℝ) : EReal) * (((q d : ℝ) : EReal) * ((1 / 8 / Real.log 2 : ℝ) : EReal)) =
      (((∑ d : Fin 64, k d * q d) * (1 / 8) / Real.log 2 : ℝ) : EReal) := by
  rw [show (∑ d : Fin 64, k d * q d) * (1 / 8) / Real.log 2 = ∑ d : Fin 64, k d * (q d * (1 / 8 / Real.log 2)) by
    rw [mul_div_assoc, Finset.sum_mul]; exact Finset.sum_congr rfl fun d _ => by ring, coe_sum]
  exact Finset.sum_congr rfl fun d _ => by rw [EReal.coe_mul, EReal.coe_mul]

variable (m : (ℓ : Loc nD τ sig) → Buf (Elt Ideal) ℓ) (c : Dev nD)

/-- A point's group of queries, a head's place in it, and the query of a row of the block. -/
abbrev grp (t : Fin cfg0.N) : Fin 2 := ⟨t.val / 4 % 2, by omega⟩
abbrev hd (t : Fin cfg0.N) (e : Fin 2) : Fin 4 := ⟨2 * (t.val / 2 % 2) + e.val, by omega⟩
abbrev qry (t : Fin cfg0.N) (i : Fin 2048) : Fin 4096 := ⟨2048 * (t.val % 2) + i.val, by omega⟩

/-- The reference's score, on all numbers. -/
def scoreN (qr : Cert.ReferenceIdeal.S8x4096x8x64.Idx → ℝ) (kr : Cert.ReferenceIdeal.S8x4352x2x64.Idx → ℝ) (t : Fin cfg0.N) (e : Fin 2) (i : Fin 2048) (n : ℕ) : ℝ :=
  if h : n < 4352 then score qr kr (rowOf t) (grp t) (hd t e) (qry t i) ⟨n, h⟩ else 0

/-- A row of the values, on all numbers: the values, then ones, then nothing. -/
def valN (v : Cert.ReferenceIdeal.S8x4352x2x64.Idx → EReal) (t : Fin cfg0.N) (r n : ℕ) : EReal :=
  if hr : r < 64 then if h : n < 4352 then v (ix4 (rowOf t) ⟨n, h⟩ (grp t) ⟨r, hr⟩) else 0 else if r = 64 then 1 else 0

section
variable {qr : Cert.ReferenceIdeal.S8x4096x8x64.Idx → ℝ} {kr : Cert.ReferenceIdeal.S8x4352x2x64.Idx → ℝ}
  (hq : ∀ j, argQ m c j = ((qr j : ℝ) : EReal)) (hk : ∀ j, catV (argCk m c) (argLk m c) j = ((kr j : ℝ) : EReal))
include hq hk

theorem scores (t : Fin cfg0.N) (e : Fin 2) (i : Fin 2048) (n : Fin 4352) (k : Fin 64 → EReal)
    (hkn : ∀ d, k d = catV (argCk m c) (argLk m c) (ix4 (rowOf t) n (grp t) d)) (kb : Fin 128 → EReal)
    (hkb : ∀ l : Fin 128, kb l = if l.val / 64 = e.val then k ⟨l.val % 64, by omega⟩ else 0) :
    ∑ l : Fin 128, kb l * (blk m c 0 t (ix3 0 i l) : EReal) = ((scoreN qr kr t e i n.val / Real.log 2 : ℝ) : EReal) := by
  simp only [hkb]
  rw [pick e k fun l => blk m c 0 t (ix3 0 i l)]
  unfold scoreN
  rw [dif_pos n.isLt]
  unfold score
  rw [← dot_scaled (fun d => kr (ix4 (rowOf t) n (grp t) d)) (fun d => qr (ix4 (rowOf t) (qry t i) ⟨(grp t).val * 4 + (hd t e).val, by omega⟩ d))]
  refine Finset.sum_congr rfl fun d _ => ?_
  rw [hkn, hk]
  congr 1
  refine (blkQ m c t i _).trans ((packQ m c _ _ _).trans ?_)
  rw [scale, ← hq]
  congr 2
  have e1 : (128 * (t.val / 2 % 4) + (64 * e.val + d.val)) / 64 = t.val / 4 % 2 * 4 + (2 * (t.val / 2 % 2) + e.val) := by omega
  have e2 : (128 * (t.val / 2 % 4) + (64 * e.val + d.val)) % 64 = d.val := by omega
  funext x
  match x with
  | ⟨0, _⟩ => rfl
  | ⟨1, _⟩ => rfl
  | ⟨2, _⟩ => exact Fin.ext e1
  | ⟨3, _⟩ => exact Fin.ext e2

theorem holds (t : Fin cfg0.N) : Att.Holds (g := geo) (blk m c 0 t) (blk m c 1 t) (blk m c 2 t) (blk m c 3 t) (blk m c 4 t)
    (fun e i n => scoreN qr kr t e i n / Real.log 2) (fun _ r n => valN (catV (argCv m c) (argLv m c)) t r n) where
  sc e i n := by
    have h := scores m c hq hk t e i ⟨n.val, by omega⟩ (fun d => argCk m c (ix4 (rowOf t) n (grp t) d))
      (fun d => by rw [catV_at, dif_pos n.isLt]) (fun l => blk m c 1 t (ix3 0 n ⟨128 * e.val + l.val, by omega⟩))
      (fun l => (blkKc m c t n _).trans (by
        have := packKc m c (rowOf t) n (grp t) e l
        rw [← this]
        refine congrArg (V m c main_v12) (Att.idx3 rfl rfl ?_)
        exact (Nat.add_assoc _ _ _).symm))
    refine Eq.trans (Finset.sum_congr rfl fun l _ => ?_) h
    congr 2
    exact Att.idx3 rfl rfl (Nat.zero_add _)
  sl e i n := by
    have h := scores m c hq hk t e i ⟨256 + n.val, by omega⟩ (fun d => argLk m c (ix4 (rowOf t) n (grp t) d))
      (fun d => by
        rw [catV_at, dif_neg (by simp)]
        refine congrArg (argLk m c) (congrArg (fun n => ix4 _ n _ _) (Fin.ext ?_))
        simp) (fun l => blk m c 3 t (ix3 0 n ⟨128 * e.val + l.val, by omega⟩))
      (fun l => (blkKl m c t n _).trans (by
        have := packKl m c (rowOf t) n (grp t) e l
        rw [← this]
        refine congrArg (V m c main_v25) (Att.idx3 rfl rfl ?_)
        exact (Nat.add_assoc _ _ _).symm))
    refine Eq.trans (Finset.sum_congr rfl fun l _ => ?_) h
    congr 2
    exact Att.idx3 rfl rfl (Nat.zero_add _)
  vc e r n := by
    refine (blkVc m c t _ n).trans ?_
    have h := packVc m c (rowOf t) n (grp t) r
    have hi : V m c main_v18 (ix3 (rowOf t) ⟨128 * (t.val / 4 % 2) + (0 + r.val), by omega⟩ n) =
      V m c main_v18 (ix3 (rowOf t) ⟨128 * (grp t).val + r.val, by omega⟩ n) :=
      congrArg (V m c main_v18) (Att.idx3 rfl (by show _ + (0 + _) = _; rw [Nat.zero_add]; rfl) rfl)
    refine hi.trans (h.trans ?_)
    unfold valN
    split
    · rw [dif_pos (by omega), catV_at, dif_pos n.isLt]
    · rfl
  vl e r n := by
    refine (blkVl m c t _ n).trans ?_
    have h := packVl m c (rowOf t) n (grp t) r
    have hi : V m c main_v31 (ix3 (rowOf t) ⟨128 * (t.val / 4 % 2) + (0 + r.val), by omega⟩ n) =
      V m c main_v31 (ix3 (rowOf t) ⟨128 * (grp t).val + r.val, by omega⟩ n) :=
      congrArg (V m c main_v31) (Att.idx3 rfl (by show _ + (0 + _) = _; rw [Nat.zero_add]; rfl) rfl)
    refine hi.trans (h.trans ?_)
    unfold valN
    split
    · rw [dif_pos (by omega), catV_at, dif_neg (by simp)]
      refine congrArg (argLv m c) (congrArg (fun n => ix4 _ n _ _) (Fin.ext ?_))
      simp
    · rfl

/-- The reference's result. -/
abbrev result (c : Dev nD) : Cert.ReferenceIdeal.S8x4096x512.Idx → EReal :=
  outV (catV (argCv m c) (argLv m c)) (Host.divf (expV (scoreV (argQ m c) (catV (argCk m c) (argLk m c))) (maxV (scoreV (argQ m c) (catV (argCk m c) (argLk m c)))))
    (spreadV (sumV (expV (scoreV (argQ m c) (catV (argCk m c) (argLk m c))) (maxV (scoreV (argQ m c) (catV (argCk m c) (argLk m c))))))))

theorem outBlk_at (t : Fin cfg0.N) (e : Fin 2) (d : Fin 64) (i : Fin 2048) :
    outBlk m c t (ix3 0 i ⟨64 * e.val + d.val, by omega⟩) =
      result m c (ix3 (rowOf t) (qry t i) ⟨256 * (grp t).val + 64 * (hd t e).val + d.val, by omega⟩) := by
  obtain ⟨M, hM⟩ := result_at hq hk (catV (argCv m c) (argLv m c)) (rowOf t) (grp t) (hd t e) (qry t i) d
  obtain ⟨μ, hμ⟩ := Att.outOf_at (holds m c hq hk t) (K1 := kLoop 0) (K2 := kLoop 1) (V1 := vLoop 0) (V2 := vLoop 1)
    (kLoop_is 0) (kLoop_is 1) (vLoop_is 0) (vLoop_is 1) e d i
  refine hμ.trans (Eq.trans ?_ hM.symm)
  have hone : (fun n => valN (catV (argCv m c) (argLv m c)) t 64 n) = fun _ => (1 : EReal) := funext fun n => by
    unfold valN
    rw [dif_neg (by decide), if_pos rfl]
  rw [hone, mass_div _ _ (scoreN qr kr t e i) (fun _ => rfl) μ M 4352 (by decide), Finset.sum_range, Finset.sum_range]
  have hs : ∀ n : Fin 4352, scoreN qr kr t e i n.val = score qr kr (rowOf t) (grp t) (hd t e) (qry t i) n := fun n => dif_pos n.isLt
  simp only [hs]
  refine Finset.sum_congr rfl fun n _ => ?_
  congr 1
  unfold valN
  rw [dif_pos d.isLt, dif_pos n.isLt]

end

end Cert.KernelIdeal.Launch
-- ==== Proof.Finite.lean ====
/-
  The precondition read: the queries and the keys are real numbers.
-/
module

public import proofs.«01_k».proof.Defs
public import proofs.«01_k».proof.Proof.Ref

@[expose] public section

set_option maxRecDepth 16384

noncomputable section

namespace Cert.Finite

open Idealize.ShloMosaic

instance facts : Cert.Pre_finite.Facts where
  bcast_S_S8x4096x8x64 := by decide
  bcast_S_S8x256x2x64 := by decide
  bcast_S_S8x4096x2x64 := by decide

theorem high : (FloatOps.ofBits (F := Ideal) FTy.f32 0x7F800000#32 : EReal) = ⊤ := by
  show (Ideal.ofBits FTy.f32 0x7F800000#32 : EReal) = ⊤
  simp [Ideal.ofBits, Ideal.ieee]

theorem real_of_abs (x : EReal) (h : max x (-x) < ⊤) : ∃ r : ℝ, x = (r : EReal) := by
  induction x using EReal.rec with
  | bot => simp at h
  | top => simp at h
  | coe r => exact ⟨r, rfl⟩

/-- An array whose magnitudes all compare below the highest number is real. -/
theorem real_of_cmp {s t : Shape} (dims : Fin s.rank → Fin t.rank) (hb : s.BroadcastsInDim t dims) (x : FVec Ideal t .f32)
    (h : cmpf .olt (Host.absf x) (broadcastInDim t dims hb (constant s .f32 0x7F800000#32)) = fun _ => 1#1) :
    ∃ r : t.Idx → ℝ, ∀ j, x j = ((r j : ℝ) : EReal) := by
  have h' : ∀ j, ∃ r : ℝ, x j = (r : EReal) := fun j => by
    have hj : BitVec.ofBool (decide ((max (x j) (-(x j)) : EReal) < FloatOps.ofBits (F := Ideal) FTy.f32 0x7F800000#32)) = 1#1 := congrFun h j
    rw [high] at hj
    refine real_of_abs _ (by_contra fun hn => ?_)
    rw [decide_eq_false hn] at hj
    exact absurd hj (by decide)
  exact ⟨fun j => (h' j).choose, fun j => (h' j).choose_spec⟩

theorem cat_real {a : FVec Ideal Cert.ReferenceIdeal.S8x256x2x64 .f32} {b : FVec Ideal Cert.ReferenceIdeal.S8x4096x2x64 .f32}
    (ha : ∃ r : _ → ℝ, ∀ j, a j = ((r j : ℝ) : EReal)) (hb : ∃ r : _ → ℝ, ∀ j, b j = ((r j : ℝ) : EReal)) :
    ∃ r : _ → ℝ, ∀ j, Cert.ReferenceIdeal.Read.catV a b j = ((r j : ℝ) : EReal) := by
  obtain ⟨ra, ha⟩ := ha
  obtain ⟨rb, hb⟩ := hb
  have h' : ∀ j, ∃ r : ℝ, Cert.ReferenceIdeal.Read.catV a b j = (r : EReal) := fun j => by
    have hj : j = ix4 (j 0) (j 1) (j 2) (j 3) := by
      funext x
      match x with
      | ⟨0, _⟩ => rfl
      | ⟨1, _⟩ => rfl
      | ⟨2, _⟩ => rfl
      | ⟨3, _⟩ => rfl
    have hc := Cert.ReferenceIdeal.Read.catV_at a b (j 0) (j 2) (j 1) (j 3)
    by_cases hn : (j 1).val < 256
    · rw [dif_pos hn] at hc
      exact ⟨_, (congrArg _ hj).trans (hc.trans (ha _))⟩
    · rw [dif_neg hn] at hc
      exact ⟨_, (congrArg _ hj).trans (hc.trans (hb _))⟩
  exact ⟨fun j => (h' j).choose, fun j => (h' j).choose_spec⟩

end Cert.Finite
-- ==== Proof.Value.lean ====
/-
  The output array after the run is the reference's result.
-/
module

public import proofs.«01_k».proof.Proof.Point
public import proofs.«01_k».proof.Proof.Finite

@[expose] public section

set_option maxRecDepth 16384

noncomputable section

namespace Cert.KernelIdeal.Launch

open Idealize.ShloMosaic Idealize.ShloMosaic.TcCoe Idealize.ShloMosaic.Tactic Idealize.SL.Sem
open Cert.KernelIdeal.Gen

variable (m : (ℓ : Loc nD τ sig) → Buf (Elt Ideal) ℓ)

/-- A head's element lies in the block where the reference has it. -/
theorem place (t : Fin cfg0.N) (e : Fin 2) (d : Fin 64) (i : Fin 2048) :
    ((cfg0.win 5).blk t).view.emb (ix3 0 i ⟨64 * e.val + d.val, by omega⟩) =
      ix3 (rowOf t) (qry t i) ⟨256 * (grp t).val + 64 * (hd t e).val + d.val, by omega⟩ := by
  refine (placeO t i _).trans (Att.idx3 rfl rfl ?_)
  show 128 * (t.val / 2 % 4) + (64 * e.val + d.val) = 256 * (t.val / 4 % 2) + 64 * (2 * (t.val / 2 % 2) + e.val) + d.val
  omega

theorem lane (y : S1x2048x128.Idx) : ∃ (e : Fin 2) (d : Fin 64) (i : Fin 2048), y = ix3 0 i ⟨64 * e.val + d.val, by omega⟩ := by
  have h0 : (y 0).val < 1 := (y 0).isLt
  have h2 : (y 2).val < 128 := (y 2).isLt
  refine ⟨⟨(y 2).val / 64, by omega⟩, ⟨(y 2).val % 64, by omega⟩, y 1, Att.idx3 ?_ rfl ?_⟩
  · show (y 0).val = 0
    omega
  · show (y 2).val = 64 * ((y 2).val / 64) + (y 2).val % 64
    omega

theorem final_at (c : Dev nD) (hpre : Cert.Pre_KernelIdeal_finite m) (t : Fin cfg0.N) (y : S1x2048x128.Idx) :
    outBlk m c t y = result m c (((cfg0.win 5).blk t).view.emb y) := by
  obtain ⟨qr, hq⟩ := Cert.Finite.real_of_cmp _ _ _ (hpre c).1
  obtain ⟨kr, hk⟩ := Cert.Finite.cat_real (Cert.Finite.real_of_cmp _ _ _ (hpre c).2.1) (Cert.Finite.real_of_cmp _ _ _ (hpre c).2.2)
  obtain ⟨e, d, i, rfl⟩ := lane y
  exact (outBlk_at m c hq hk t e d i).trans (congrArg (result m c) (place t e d i).symm)

theorem final (c : Dev nD) (hpre : Cert.Pre_KernelIdeal_finite m) : (dats m 0 c).arrAt 5 cfg0.N = result m c := by
  refine (dats m 0 c).arrAt_eq_of_covers 5 _ coverO fun t _ y => ?_
  blk_simp
  rw [after5]
  exact final_at m c hpre t y

/-- The run: the output holds the reference's result and the arguments are unchanged. -/
theorem run_value (ρ : Dev nD → PrngReg) (hpre : Cert.Pre_KernelIdeal_finite m) :
    θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final m c hpre),
      ((h.1 c).2 main_arg0 (Pipeline.mem_restRefs_of main_arg0 (by decide) (by decide))).trans (kept0 m c),
      ((h.1 c).2 main_arg1 (Pipeline.mem_restRefs_of main_arg1 (by decide) (by decide))).trans (kept1 m c),
      ((h.1 c).2 main_arg2 (Pipeline.mem_restRefs_of main_arg2 (by decide) (by decide))).trans (kept2 m c),
      ((h.1 c).2 main_arg3 (Pipeline.mem_restRefs_of main_arg3 (by decide) (by decide))).trans (kept3 m c),
      ((h.1 c).2 main_arg4 (Pipeline.mem_restRefs_of main_arg4 (by decide) (by decide))).trans (kept4 m c)⟩)
    (run m ρ)

end Cert.KernelIdeal.Launch
-- ==== Proof.LatentBody.lean ====
/-
  The printed body of the latent call is the program of tiles.
-/
module

public import Idealize.ShloMosaic.Lib.Tactic
public import proofs.«01_k».proof.Proof.Tiles
public import proofs.«01_k».proof.Proof.Gen.LatentKernelIdeal

@[expose] public section

set_option maxRecDepth 16384

noncomputable section

namespace Cert.LatentKernelIdeal

open Idealize.ShloMosaic Idealize.SL.Sem
open Cert.LatentKernelIdeal.Gen Idealize.ShloMosaic.Tactic

variable {F : FTy → Type} [FloatOps F]

/-- Each head has its own lanes of the queries and its own rows of the values. -/
abbrev geo : Att.Geo where
  w := 256
  vw := 256
  qo e := 128 * e.val
  vo e := 128 * e.val
  hq e := by omega
  hv e := by omega

def kLoop (c : Fin 2) (t : Fin k0_t1_loop.trips) : Att.KOff where
  o e kr := (![k0_off1 t (BitVec.ofNat 32 (1024 + 512 * c.val)) (BitVec.ofNat 32 (256 * kr.val)),
    k0_off3 t (BitVec.ofNat 32 (1024 + 512 * c.val)) (BitVec.ofNat 32 (256 * kr.val))] : Fin 2 → Fin 3 → Nat) e
  inb e kr := by
    fin_cases e
    · exact k0_off1_inb t c kr
    · exact k0_off3_inb t c kr

def vLoop (c : Fin 2) (t : Fin k0_t1_loop.trips) : Att.VOff geo where
  o e := (![![k0_off2 t, k0_off4 t], ![k0_off5 t, k0_off6 t]] : Fin 2 → Fin 2 → Fin 3 → Nat) c e
  inb e := by
    fin_cases c <;> fin_cases e
    · exact k0_off2_inb t
    · exact k0_off4_inb t
    · exact k0_off5_inb t
    · exact k0_off6_inb t

abbrev mems (arg3 : Memref sig .tc .vmem S1x2048x256 .bf16) (arg4 : Memref sig .tc .vmem S1x256x256 .bf16) (arg5 : Memref sig .tc .vmem S1x256x256 .bf16) (arg6 : Memref sig .tc .vmem S1x4096x256 .bf16) (arg7 : Memref sig .tc .vmem S1x256x4096 .bf16) (arg8 : Memref sig .tc .vmem S1x2048x128 .bf16) (harg8 : arg8.IsWhole) (arg9 : Memref sig .tc .vmem S2x512x2048 .f32) (arg10 : Memref sig .tc .vmem S2x512x2048 .f32) (arg11 : Memref sig .tc .vmem S2x512x2048 .bf16) (harg11 : arg11.IsWhole) (arg12 : Memref sig .tc .vmem S2x512x2048 .bf16) (harg12 : arg12.IsWhole) (arg13 : Memref sig .tc .vmem S2x80x2048 .f32) :
    Att.Mems sig geo :=
  ⟨arg3, arg4, arg5, arg6, arg7, arg8, arg9, arg10, arg11, arg12, arg13, harg8, harg11, harg12⟩

theorem body_eq (i : grid0.Coords) (arg3 : Memref sig .tc .vmem S1x2048x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S1x256x4096 .bf16) (harg7 : arg7.IsWhole) (arg8 : Memref sig .tc .vmem S1x2048x128 .bf16) (harg8 : arg8.IsWhole) (arg9 : Memref sig .tc .vmem S2x512x2048 .f32) (harg9 : arg9.IsWhole) (arg10 : Memref sig .tc .vmem S2x512x2048 .f32) (harg10 : arg10.IsWhole) (arg11 : Memref sig .tc .vmem S2x512x2048 .bf16) (harg11 : arg11.IsWhole) (arg12 : Memref sig .tc .vmem S2x512x2048 .bf16) (harg12 : arg12.IsWhole) (arg13 : Memref sig .tc .vmem S2x80x2048 .f32) (harg13 : arg13.IsWhole) :
    cc0_attn_mla (F := F) i arg3 harg3 arg4 harg4 arg5 harg5 arg6 harg6 arg7 harg7 arg8 harg8 arg9 harg9 arg10 harg10 arg11 harg11 arg12 harg12 arg13 harg13 =
    Att.body (mems arg3 arg4 arg5 arg6 arg7 arg8 harg8 arg9 arg10 arg11 harg11 arg12 harg12 arg13) (n := k0_t1_loop.trips)
      (kLoop 0) (kLoop 1) (vLoop 0) (vLoop 1) := by
  delta cc0_attn_mla k0_part113 k0_part92
  simp -zeta only [Scf.for_eq]
  sl_kernel_rfl

end Cert.LatentKernelIdeal
-- ==== Proof.LatentRun.lean ====
/-
  The launch of the latent call: the body at a grid point over the blocks it is given, then the whole program. Stated for any values, so
  that it serves the compiled program and the ideal one alike.
-/
module

public import proofs.«01_k».proof.Proof.LatentBody
public import proofs.«01_k».proof.Proof.Hoare
public import proofs.«01_k».proof.Proof.Gen.LatentKernelIdeal.Launch
public import proofs.«01_k».proof.Proof.Gen.LatentKernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.LatentKernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch finds in a buffer: what the host operations left there. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem toLaunch (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-! The host operations leave the arguments alone. -/

theorem kept0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

theorem kept4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block written at point `t`. -/
def outBlk (c : Dev nD) (t : Fin cfg0.N) : Vec F S1x2048x128 .bf16 :=
  Att.outOf (kLoop 0) (kLoop 1) (vLoop 0) (vLoop 1) (blk m c 0 t) (blk m c 1 t) (blk m c 2 t) (blk m c 3 t) (blk m c 4 t)

/-- The windows' data: inputs keep their blocks, the output gets `outBlk`. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => outBlk m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = outBlk m c t := by dsimp only [dats]

theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [dats_A]; try rfl) t d).trans
    (by unfold Dat.fetched Dat.blockOf blk; rw [dats_A]; try rfl)
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [dats_A]; try rfl) t d).trans
    (by unfold Dat.fetched Dat.blockOf blk; rw [dats_A]; try rfl)
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [dats_A]; try rfl) t d).trans
    (by unfold Dat.fetched Dat.blockOf blk; rw [dats_A]; try rfl)
theorem before3 (c : Dev nD) (t : Fin cfg0.N) (d) : (dats m 0 c).before 3 t d = blk m c 3 t :=
  ((dats m 0 c).before_in_eq_fetched 3 rfl (fun _ => rfl) (fun _ _ _ => rfl)
    (fun t => by rw [after3]; unfold Dat.blockOf blk; rw [dats_A]; try rfl) t d).trans
    (by unfold Dat.fetched Dat.blockOf blk; rw [dats_A]; try rfl)
theorem before4 (c : Dev nD) (t : Fin cfg0.N) (d) : (dats m 0 c).before 4 t d = blk m c 4 t :=
  ((dats m 0 c).before_in_eq_fetched 4 rfl (fun _ => rfl) (fun _ _ _ => rfl)
    (fun t => by rw [after4]; unfold Dat.blockOf blk; rw [dats_A]; try rfl) t d).trans
    (by unfold Dat.fetched Dat.blockOf blk; rw [dats_A]; try rfl)

abbrev stg0 (t : Fin cfg0.N) : Memref sig .tc .vmem S1x2048x256 .bf16 := win0_0.stage (cfg0.slots t 0)
abbrev stg1 (t : Fin cfg0.N) : Memref sig .tc .vmem S1x256x256 .bf16 := win0_1.stage (cfg0.slots t 1)
abbrev stg2 (t : Fin cfg0.N) : Memref sig .tc .vmem S1x256x256 .bf16 := win0_2.stage (cfg0.slots t 2)
abbrev stg3 (t : Fin cfg0.N) : Memref sig .tc .vmem S1x4096x256 .bf16 := win0_3.stage (cfg0.slots t 3)
abbrev stg4 (t : Fin cfg0.N) : Memref sig .tc .vmem S1x256x4096 .bf16 := win0_4.stage (cfg0.slots t 4)
abbrev stg5 (t : Fin cfg0.N) : Memref sig .tc .vmem S1x2048x128 .bf16 := win0_5.stage (cfg0.slots t 5)
abbrev scr0 : Memref sig .tc .vmem S2x512x2048 .f32 := Memref.whole cc0_scratch0
abbrev scr1 : Memref sig .tc .vmem S2x512x2048 .f32 := Memref.whole cc0_scratch1
abbrev scr2 : Memref sig .tc .vmem S2x512x2048 .bf16 := Memref.whole cc0_scratch2
abbrev scr3 : Memref sig .tc .vmem S2x512x2048 .bf16 := Memref.whole cc0_scratch3
abbrev scr4 : Memref sig .tc .vmem S2x80x2048 .f32 := Memref.whole cc0_scratch4

theorem phi_eq (c : Dev nD) :
    (Pipeline.ΦA spec0 c : sProp 𝕄)
      = iprop(iprop((∃ d, owns (c : Thread nD τ) scr0 fullShare d) ∗
          (∃ d, owns (c : Thread nD τ) scr1 fullShare d) ∗
          (∃ d, owns (c : Thread nD τ) scr2 fullShare d) ∗
          (∃ d, owns (c : Thread nD τ) scr3 fullShare d) ∗
          (∃ d, owns (c : Thread nD τ) scr4 fullShare d)) ∗ (∃ r, prngReg c r)) := by
  unfold Pipeline.ΦA; rw [scopedRest0_eq]; simp only [scr0, scr1, scr2, scr3, scr4, owns_whole]; try rfl

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it gives back. -/
def back (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 800000 in
theorem at_point (c : Dev nD) (t : Fin cfg0.N) :
    given m c t ⊢ wp frame (wpE (defs₀ (F := F)) Variants.none c none) Set.univ (bodyAt0 t) (fun _ => back m c t) := by
  unfold given back bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, phi_eq, body_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩⟩
  iapply (Att.body_ok _ (q := blk m c 0 t) (kc := blk m c 1 t) (vc := blk m c 2 t) (kl := blk m c 3 t) (vl := blk m c 4 t)) $$ [H0 H1 H2 H3 H4 H5 S0 S1 S2 S3 S4]
  · unfold Att.Buf
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    isplitl [S2]; · iexact S2
    isplitl [S3]; · iexact S3
    iexact S4
  unfold Att.Buf
  iintro ⟨H0, H1, H2, H3, H4, H5, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
/-- The whole program: the arrays end as the windows' data say, and no semaphore is left raised. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := toLaunch m Variants.none) (hA := dats_A m) (hΦ := fun _ _ => rfl)

/-- The arguments end as they began. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (kept0 m c),
      ((h.1 c).2 main_arg1 (Pipeline.mem_restRefs_of main_arg1 (by decide) (by decide))).trans (kept1 m c),
      ((h.1 c).2 main_arg2 (Pipeline.mem_restRefs_of main_arg2 (by decide) (by decide))).trans (kept2 m c),
      ((h.1 c).2 main_arg3 (Pipeline.mem_restRefs_of main_arg3 (by decide) (by decide))).trans (kept3 m c),
      ((h.1 c).2 main_arg4 (Pipeline.mem_restRefs_of main_arg4 (by decide) (by decide))).trans (kept4 m c)⟩, h.2⟩)
    (run m ρ)

end Cert.LatentKernelIdeal.Launch
-- ==== Proof.LatentPack.lean ====
/-
  What the latent launch finds in the windows' arrays, element by element, on extended reals.
-/
module

public import proofs.«01_k».proof.Proof.LatentRun
public import Idealize.ShloMosaic.Lib.StableHlo.ReadAt

@[expose] public section

set_option maxRecDepth 16384

noncomputable section

namespace Cert.LatentKernelIdeal.Launch

open Idealize.ShloMosaic Idealize.ShloMosaic.TcCoe Idealize.ShloMosaic.Tactic
open Cert.LatentKernelIdeal.Gen

variable (m : (ℓ : Loc nD τ sig) → Buf (Elt Ideal) ℓ) (c : Dev nD)

/-- The arguments' elements. -/
abbrev argQ (c : Dev nD) : S8x4096x8x96.Idx → EReal := m ((c : Thread nD τ).loc main_arg0)
abbrev argCk (c : Dev nD) : S8x256x8x96.Idx → EReal := m ((c : Thread nD τ).loc main_arg1)
abbrev argCv (c : Dev nD) : S8x256x8x64.Idx → EReal := m ((c : Thread nD τ).loc main_arg2)
abbrev argLk (c : Dev nD) : S8x4096x8x96.Idx → EReal := m ((c : Thread nD τ).loc main_arg3)
abbrev argLv (c : Dev nD) : S8x4096x8x64.Idx → EReal := m ((c : Thread nD τ).loc main_arg4)

/-- Ninety-six lanes of each head, then thirty-two zeros. -/
def lanes (f : Fin 8 → Fin 96 → EReal) (l : Fin 1024) : EReal :=
  if h : l.val % 128 < 96 then f ⟨l.val / 128, by omega⟩ ⟨l.val % 128, h⟩ else 0

theorem lanes_at (f : Fin 8 → Fin 96 → EReal) (h : Fin 8) (l : Fin 128) :
    lanes f ⟨128 * h.val + l.val, by omega⟩ = if hl : l.val < 96 then f h ⟨l.val, hl⟩ else 0 := by
  unfold lanes
  dsimp only
  split_ifs <;>
    first
    | rfl
    | (exfalso; omega)
    | (exact congrArg₂ f (Fin.ext (by dsimp only; omega)) (Fin.ext (by dsimp only; omega)))

/-- Sixty-four rows of each head's values, a row of ones, rows of zeros. -/
def rows (f : Fin 8 → Fin 64 → EReal) (r : Fin 1024) : EReal :=
  if h : r.val % 128 < 64 then f ⟨r.val / 128, by omega⟩ ⟨r.val % 128, h⟩ else if h : r.val % 128 - 64 < 1 then 1 else 0

theorem rows_at (f : Fin 8 → Fin 64 → EReal) (g : Fin 8) (r : Fin 80) :
    rows f ⟨128 * g.val + r.val, by omega⟩ = if h : r.val < 64 then f g ⟨r.val, h⟩ else if r.val = 64 then 1 else 0 := by
  unfold rows
  dsimp only
  split_ifs <;>
    first
    | rfl
    | (exfalso; omega)
    | (exact congrArg₂ f (Fin.ext (by dsimp only; omega)) (Fin.ext (by dsimp only; omega)))

/-- The factor the queries carry. -/
abbrev factor : EReal := Ideal.div (Ideal.ofBits .f32 0x3DD105EC#32) (Ideal.log (Ideal.ofBits .f32 0x40000000#32))

theorem packQ (b : Fin 8) (i : Fin 4096) (l : Fin 1024) :
    V m c main_v7 (ix3 b i l) = lanes (fun h d => argQ m c (ix4 b i h d) * factor) l := by
  unfold V lanes factor
  after_reads_at
  after_reads_at

theorem packKc (b : Fin 8) (n : Fin 256) (l : Fin 1024) :
    V m c main_v11 (ix3 b n l) = lanes (fun h d => argCk m c (ix4 b n h d)) l := by
  unfold V lanes
  after_reads_at
  after_reads_at

theorem packKl (b : Fin 8) (n : Fin 4096) (l : Fin 1024) :
    V m c main_v21 (ix3 b n l) = lanes (fun h d => argLk m c (ix4 b n h d)) l := by
  unfold V lanes
  after_reads_at
  after_reads_at

theorem packVc (b : Fin 8) (r : Fin 1024) (n : Fin 256) :
    V m c main_v17 (ix3 b r n) = rows (fun h d => argCv m c (ix4 b n h d)) r := by
  unfold V rows
  after_reads_at
  after_reads_at

theorem packVl (b : Fin 8) (r : Fin 1024) (n : Fin 4096) :
    V m c main_v27 (ix3 b r n) = rows (fun h d => argLv m c (ix4 b n h d)) r := by
  unfold V rows
  after_reads_at
  after_reads_at

end Cert.LatentKernelIdeal.Launch
-- ==== Proof.LatentBlocks.lean ====
/-
  Where a grid point of the latent call's blocks lie in their arrays.
-/
module

public import proofs.«01_k».proof.Proof.LatentPack
public import proofs.«01_k».proof.Proof.Mass
public import Idealize.ShloMosaic.Lib.Pipeline.ValueKit.Geometry

@[expose] public section

set_option maxRecDepth 16384

noncomputable section

namespace Cert.LatentKernelIdeal.Launch

open Idealize.ShloMosaic Idealize.ShloMosaic.TcCoe Idealize.ShloMosaic.Tactic
open Cert.LatentKernelIdeal.Gen

theorem points : cfg0.N = 64 := by decide +kernel

/-- A point is a batch row, a pair of heads and a half of the queries, the half counting fastest. -/
theorem ix0 : ∀ t : Fin cfg0.N, win0_0.index t = ![t.val / 8, t.val % 2, t.val / 2 % 4] := by decide +kernel
theorem ix1 : ∀ t : Fin cfg0.N, win0_1.index t = ![t.val / 8, 0, t.val / 2 % 4] := by decide +kernel
theorem ix2' : ∀ t : Fin cfg0.N, win0_2.index t = ![t.val / 8, t.val / 2 % 4, 0] := by decide +kernel
theorem ix3' : ∀ t : Fin cfg0.N, win0_3.index t = ![t.val / 8, 0, t.val / 2 % 4] := by decide +kernel
theorem ix4' : ∀ t : Fin cfg0.N, win0_4.index t = ![t.val / 8, t.val / 2 % 4, 0] := by decide +kernel
theorem ix5' : ∀ t : Fin cfg0.N, win0_5.index t = ![t.val / 8, t.val % 2, t.val / 2 % 4] := by decide +kernel

variable (m : (ℓ : Loc nD τ sig) → Buf (Elt Ideal) ℓ) (c : Dev nD)

abbrev rowOf (t : Fin cfg0.N) : Fin 8 := ⟨t.val / 8, by have := Nat.lt_of_lt_of_eq t.isLt points; omega⟩

/-! A block's element is the array's, where the block puts it. -/

theorem at0 (f : (b : Ref sig .tc) → Buf (Elt Ideal) ((c : Thread nD τ).loc b)) (t : Fin cfg0.N)
    (y : ((cfg0.win 0).xblock (cfg0.grid.coords t)).Idx) :
    ((cfg0.win 0).blk t).view.read (Elt Ideal) (f (Pipeline.arrRef spec0 0)) y = f main_v7 ((win0_0.blk t).view.emb y) := rfl

theorem at1 (f : (b : Ref sig .tc) → Buf (Elt Ideal) ((c : Thread nD τ).loc b)) (t : Fin cfg0.N)
    (y : ((cfg0.win 1).xblock (cfg0.grid.coords t)).Idx) :
    ((cfg0.win 1).blk t).view.read (Elt Ideal) (f (Pipeline.arrRef spec0 1)) y = f main_v11 ((win0_1.blk t).view.emb y) := rfl

theorem at2 (f : (b : Ref sig .tc) → Buf (Elt Ideal) ((c : Thread nD τ).loc b)) (t : Fin cfg0.N)
    (y : ((cfg0.win 2).xblock (cfg0.grid.coords t)).Idx) :
    ((cfg0.win 2).blk t).view.read (Elt Ideal) (f (Pipeline.arrRef spec0 2)) y = f main_v17 ((win0_2.blk t).view.emb y) := rfl

theorem at3 (f : (b : Ref sig .tc) → Buf (Elt Ideal) ((c : Thread nD τ).loc b)) (t : Fin cfg0.N)
    (y : ((cfg0.win 3).xblock (cfg0.grid.coords t)).Idx) :
    ((cfg0.win 3).blk t).view.read (Elt Ideal) (f (Pipeline.arrRef spec0 3)) y = f main_v21 ((win0_3.blk t).view.emb y) := rfl

theorem at4 (f : (b : Ref sig .tc) → Buf (Elt Ideal) ((c : Thread nD τ).loc b)) (t : Fin cfg0.N)
    (y : ((cfg0.win 4).xblock (cfg0.grid.coords t)).Idx) :
    ((cfg0.win 4).blk t).view.read (Elt Ideal) (f (Pipeline.arrRef spec0 4)) y = f main_v27 ((win0_4.blk t).view.emb y) := rfl

theorem blkQ (t : Fin cfg0.N) (i : Fin 2048) (l : Fin 256) : blk m c 0 t (ix3 0 i l) =
    V m c main_v7 (ix3 (rowOf t) ⟨2048 * (t.val % 2) + i.val, by omega⟩ ⟨256 * (t.val / 2 % 4) + l.val, by omega⟩) := by
  refine (at0 c (V m c) t _).trans (congrArg (V m c main_v7) (Att.idx3 ?_ ?_ ?_)) <;> blk_simp [ix0] <;> simp [ix3] <;> omega

theorem blkKc (t : Fin cfg0.N) (n : Fin 256) (l : Fin 256) : blk m c 1 t (ix3 0 n l) =
    V m c main_v11 (ix3 (rowOf t) n ⟨256 * (t.val / 2 % 4) + l.val, by omega⟩) := by
  refine (at1 c (V m c) t _).trans (congrArg (V m c main_v11) (Att.idx3 ?_ ?_ ?_)) <;> blk_simp [ix1] <;> simp [ix3] <;> omega

theorem blkVc (t : Fin cfg0.N) (r : Fin 256) (n : Fin 256) : blk m c 2 t (ix3 0 r n) =
    V m c main_v17 (ix3 (rowOf t) ⟨256 * (t.val / 2 % 4) + r.val, by omega⟩ n) := by
  refine (at2 c (V m c) t _).trans (congrArg (V m c main_v17) (Att.idx3 ?_ ?_ ?_)) <;> blk_simp [ix2'] <;> simp [ix3] <;> omega

theorem blkKl (t : Fin cfg0.N) (n : Fin 4096) (l : Fin 256) : blk m c 3 t (ix3 0 n l) =
    V m c main_v21 (ix3 (rowOf t) n ⟨256 * (t.val / 2 % 4) + l.val, by omega⟩) := by
  refine (at3 c (V m c) t _).trans (congrArg (V m c main_v21) (Att.idx3 ?_ ?_ ?_)) <;> blk_simp [ix3'] <;> simp [ix3] <;> omega

theorem blkVl (t : Fin cfg0.N) (r : Fin 256) (n : Fin 4096) : blk m c 4 t (ix3 0 r n) =
    V m c main_v27 (ix3 (rowOf t) ⟨256 * (t.val / 2 % 4) + r.val, by omega⟩ n) := by
  refine (at4 c (V m c) t _).trans (congrArg (V m c main_v27) (Att.idx3 ?_ ?_ ?_)) <;> blk_simp [ix4'] <;> simp [ix3] <;> omega

/-- Where the output's block lies. -/
theorem placeO (t : Fin cfg0.N) (i : Fin 2048) (l : Fin 128) : ((cfg0.win 5).blk t).view.emb (ix3 0 i l) =
    ix3 (rowOf t) ⟨2048 * (t.val % 2) + i.val, by omega⟩ ⟨128 * (t.val / 2 % 4) + l.val, by omega⟩ := by
  refine Att.idx3 ?_ ?_ ?_ <;> blk_simp [ix5'] <;> simp [ix3] <;> omega

theorem coverO : (cfg0.win 5).Covers := by decide +kernel

/-! ### Where the loop's keys and values begin -/

theorem kLoop_is (p : Fin 2) (t : Fin 3) : (kLoop p t).Is (2 * t.val + 2 + p.val) := by
  intro e kr
  show (![k0_off1 t _ _, k0_off3 t _ _] : Fin 2 → Fin 3 → Nat) e = _
  rw [k0_off1_eq t p kr, k0_off3_eq t p kr, show 1024 * t.val + 512 * p.val + 256 * kr.val + 1024 =
    512 * (2 * t.val + 2 + p.val) + 256 * kr.val by omega]
  fin_cases e <;> rfl

theorem vLoop_is (p : Fin 2) (t : Fin 3) : (vLoop p t).Is (2 * t.val + p.val) := by
  intro e
  show (![![k0_off2 t, k0_off4 t], ![k0_off5 t, k0_off6 t]] : Fin 2 → Fin 2 → Fin 3 → Nat) p e = ![0, 128 * e.val, 512 * (2 * t.val + p.val)]
  rw [k0_off2_eq t, k0_off4_eq t, k0_off5_eq t, k0_off6_eq t, show 1024 * t.val + 512 = 512 * (2 * t.val + 1) by omega,
    show 1024 * t.val = 512 * (2 * t.val + 0) by omega]
  fin_cases p <;> fin_cases e <;> rfl

end Cert.LatentKernelIdeal.Launch
-- ==== Proof.LatentRef.lean ====
/-
  The latent reference on extended reals, element by element: the sum of the values under normalized exponentials.
-/
module

public import proofs.«01_k».proof.Defs
public import proofs.«01_k».proof.Proof.Gen.LatentReferenceIdeal
public import proofs.«01_k».proof.Proof.Ref
public import Idealize.ShloMosaic.Lib.Pointwise
public import Idealize.ShloMosaic.Lib.KernelVsHost

@[expose] public section

set_option maxRecDepth 16384

noncomputable section

namespace Cert.LatentReferenceIdeal.Read

open Idealize.ShloMosaic Idealize.ShloMosaic.Tactic
open Cert.ReferenceIdeal.Read (low_bits hostMax_real max_low)
open Cert.LatentReferenceIdeal Cert.LatentReferenceIdeal.Gen

abbrev scoreV (q : FVec Ideal S8x4096x8x96 .f32) (k : FVec Ideal S8x4352x8x96 .f32) : FVec Ideal S8x8x1x4096x4352 .f32 :=
  mulf (transpose S8x8x1x4096x4352 [0, 1, 4, 3, 2]
    (Host.dotGeneral dot_S8x4352x8x96_S8x4096x8x1x96_S8x8x4352x4096x1_3_4_1_13_02_02 none k
      (broadcastInDim S8x4096x8x1x96 ![0, 1, 2, 4] bcast_S8x4096x8x96_S8x4096x8x1x96_0_1_2_4 q)) transposes_S8x8x4352x4096x1_S8x8x1x4096x4352_0_1_4_3_2)
    (broadcastInDim S8x8x1x4096x4352 ![] bcast_S_S8x8x1x4096x4352 (constant S_ .f32 0x3DD105EC#32))

abbrev catK (a : FVec Ideal S8x256x8x96 .f32) (b : FVec Ideal S8x4096x8x96 .f32) : FVec Ideal S8x4352x8x96 .f32 :=
  concatenate S8x4352x8x96 1 [⟨S8x256x8x96, a⟩, ⟨S8x4096x8x96, b⟩] concatenates_S8x256x8x96_S8x4096x8x96_S8x4352x8x96_d1

abbrev catV (a : FVec Ideal S8x256x8x64 .f32) (b : FVec Ideal S8x4096x8x64 .f32) : FVec Ideal S8x4352x8x64 .f32 :=
  concatenate S8x4352x8x64 1 [⟨S8x256x8x64, a⟩, ⟨S8x4096x8x64, b⟩] concatenates_S8x256x8x64_S8x4096x8x64_S8x4352x8x64_d1

abbrev maxV (s : FVec Ideal S8x8x1x4096x4352 .f32) : FVec Ideal S8x8x1x4096 .f32 :=
  maximumf (broadcastInDim S8x8x1x4096 ![] bcast_S_S8x8x1x4096 (constant S_ .f32 0xFF800000#32))
    (Host.reduce FloatOps.maximumf s (constant S_ .f32 0xFF800000#32) reducesTo_S8x8x1x4096x4352_S8x8x1x4096_d4 h_S_)

abbrev spreadV (x : FVec Ideal S8x8x1x4096 .f32) : FVec Ideal S8x8x1x4096x4352 .f32 :=
  broadcastInDim S8x8x1x4096x4352 ![0, 1, 2, 3, 4] bcast_S8x8x1x4096x1_S8x8x1x4096x4352_0_1_2_3_4
    (broadcastInDim S8x8x1x4096x1 ![0, 1, 2, 3] bcast_S8x8x1x4096_S8x8x1x4096x1_0_1_2_3 x)

abbrev expV (s : FVec Ideal S8x8x1x4096x4352 .f32) (x : FVec Ideal S8x8x1x4096 .f32) : FVec Ideal S8x8x1x4096x4352 .f32 :=
  Host.exp (subf s (spreadV x))

abbrev sumV (p : FVec Ideal S8x8x1x4096x4352 .f32) : FVec Ideal S8x8x1x4096 .f32 :=
  Host.reduceAdd p (constant S_ .f32 0x00000000#32) reducesTo_S8x8x1x4096x4352_S8x8x1x4096_d4 h_S_

abbrev outV (v : FVec Ideal S8x4352x8x64 .f32) (p : FVec Ideal S8x8x1x4096x4352 .f32) : FVec Ideal S8x4096x512 .bf16 :=
  truncf .bf16 (shapeCast _ (transpose S8x4096x8x1x64 [0, 4, 1, 3, 2]
    (Host.dotGeneral dot_S8x4352x8x64_S8x8x1x4096x4352_S8x8x64x1x4096_1_4_3_23_02_01 none v p)
    transposes_S8x8x64x1x4096_S8x4096x8x1x64_0_4_1_3_2) shapeCasts_S8x4096x8x1x64_S8x4096x512) bitsLt_bf16_f32

theorem scoreV_at (q : FVec Ideal S8x4096x8x96 .f32) (k : FVec Ideal S8x4352x8x96 .f32) (b : Fin 8) (h : Fin 8) (i : Fin 4096)
    (n : Fin 4352) :
    scoreV q k (ix5 b h 0 i n) = (∑ d : Fin 96, (k (ix4 b n h d) : EReal) * q (ix4 b i h d)) *
      Ideal.ofBits .f32 0x3DD105EC#32 := by
  pointwise

theorem catK_at (x : FVec Ideal S8x256x8x96 .f32) (y : FVec Ideal S8x4096x8x96 .f32) (b : Fin 8) (h : Fin 8) (n : Fin 4352) (d : Fin 96) :
    catK x y (ix4 b n h d) = if hn : n.val < 256 then x (ix4 b ⟨n.val, hn⟩ h d) else y (ix4 b ⟨n.val - 256, by omega⟩ h d) := by
  pointwise

theorem catV_at (x : FVec Ideal S8x256x8x64 .f32) (y : FVec Ideal S8x4096x8x64 .f32) (b : Fin 8) (h : Fin 8) (n : Fin 4352) (d : Fin 64) :
    catV x y (ix4 b n h d) = if hn : n.val < 256 then x (ix4 b ⟨n.val, hn⟩ h d) else y (ix4 b ⟨n.val - 256, by omega⟩ h d) := by
  pointwise

theorem maxV_real (s : FVec Ideal S8x8x1x4096x4352 .f32) (hs : ∀ j, ∃ r : ℝ, s j = (r : EReal)) (b : Fin 8) (h : Fin 8)
    (i : Fin 4096) : ∃ r : ℝ, maxV s (ix4 b h 0 i) = (r : EReal) := by
  obtain ⟨r, hr⟩ := hostMax_real s reducesTo_S8x8x1x4096x4352_S8x8x1x4096_d4 (by decide) h_S_ (by decide) hs 0xFF800000#32 (.inl rfl) rfl low_bits (ix4 b h 0 i)
  refine ⟨r, ?_⟩
  unfold maxV
  rw [max_low, hr]

theorem expV_at (s : FVec Ideal S8x8x1x4096x4352 .f32) (x : FVec Ideal S8x8x1x4096 .f32) (b : Fin 8) (h : Fin 8) (i : Fin 4096)
    (n : Fin 4352) : expV s x (ix5 b h 0 i n) = Ideal.exp ((s (ix5 b h 0 i n) : EReal) - x (ix4 b h 0 i)) := by
  pointwise

theorem sumV_at (s : FVec Ideal S8x8x1x4096x4352 .f32) (b : Fin 8) (h : Fin 8) (i : Fin 4096) :
    sumV s (ix4 b h 0 i) = ∑ n : Fin 4352, (s (ix5 b h 0 i n) : EReal) := by
  pointwise

theorem divV_at (s : FVec Ideal S8x8x1x4096x4352 .f32) (x : FVec Ideal S8x8x1x4096 .f32) (b : Fin 8) (h : Fin 8) (i : Fin 4096)
    (n : Fin 4352) : Host.divf s (spreadV x) (ix5 b h 0 i n) = Ideal.div (s (ix5 b h 0 i n) : EReal) (x (ix4 b h 0 i)) := by
  pointwise

theorem outV_at (v : FVec Ideal S8x4352x8x64 .f32) (p : FVec Ideal S8x8x1x4096x4352 .f32) (b : Fin 8) (h : Fin 8) (i : Fin 4096)
    (d : Fin 64) :
    outV v p (ix3 b i ⟨64 * h.val + d.val, by omega⟩) = ∑ n : Fin 4352, (v (ix4 b n h d) : EReal) * p (ix5 b h 0 i n) := by
  pointwise

/-- The scale of the scores: the float closest to the inverse square root of 96. -/
def root : ℝ := 3424635 / 33554432

theorem root_bits : (Ideal.ofBits .f32 0x3DD105EC#32 : EReal) = (root : EReal) := by
  unfold root
  simp [Ideal.ofBits, Ideal.ieee]
  norm_num
  rw [← EReal.coe_mul]
  norm_num

/-- A score, of real queries and keys. -/
def score (q : S8x4096x8x96.Idx → ℝ) (k : S8x4352x8x96.Idx → ℝ) (b : Fin 8) (h : Fin 8) (i : Fin 4096) (n : Fin 4352) : ℝ :=
  (∑ d : Fin 96, k (ix4 b n h d) * q (ix4 b i h d)) * root

section
variable {q : FVec Ideal S8x4096x8x96 .f32} {k : FVec Ideal S8x4352x8x96 .f32} {qr : S8x4096x8x96.Idx → ℝ} {kr : S8x4352x8x96.Idx → ℝ}
  (hq : ∀ j, q j = ((qr j : ℝ) : EReal)) (hk : ∀ j, k j = ((kr j : ℝ) : EReal))
include hq hk

theorem scoreV_real (b : Fin 8) (h : Fin 8) (i : Fin 4096) (n : Fin 4352) :
    scoreV q k (ix5 b h 0 i n) = ((score qr kr b h i n : ℝ) : EReal) := by
  rw [scoreV_at, root_bits]
  unfold score
  rw [EReal.coe_mul, Online.coe_sum]
  congr 1
  refine Finset.sum_congr rfl fun d _ => ?_
  rw [hq, hk, EReal.coe_mul]

/-- An element of the reference's result. -/
theorem result_at (v : FVec Ideal S8x4352x8x64 .f32) (b : Fin 8) (h : Fin 8) (i : Fin 4096) (d : Fin 64) :
    ∃ M : ℝ, outV v (Host.divf (expV (scoreV q k) (maxV (scoreV q k))) (spreadV (sumV (expV (scoreV q k) (maxV (scoreV q k))))))
        (ix3 b i ⟨64 * h.val + d.val, by omega⟩) =
      ∑ n : Fin 4352, (v (ix4 b n h d) : EReal) * Ideal.div ((Real.exp (score qr kr b h i n - M) : ℝ) : EReal)
        (∑ n' : Fin 4352, ((Real.exp (score qr kr b h i n' - M) : ℝ) : EReal)) := by
  obtain ⟨M, hM⟩ := maxV_real (scoreV q k) (fun j => by
    have hj : j = ix5 (j 0) (j 1) 0 (j 3) (j 4) := by
      funext x
      match x with
      | ⟨0, _⟩ => rfl
      | ⟨1, _⟩ => rfl
      | ⟨2, _⟩ => exact Subsingleton.elim (α := Fin 1) _ _
      | ⟨3, _⟩ => rfl
      | ⟨4, _⟩ => rfl
    rw [hj]
    exact ⟨_, scoreV_real hq hk (j 0) (j 1) (j 3) (j 4)⟩) b h i
  have he : ∀ n, expV (scoreV q k) (maxV (scoreV q k)) (ix5 b h 0 i n) = ((Real.exp (score qr kr b h i n - M) : ℝ) : EReal) := fun n => by
    rw [expV_at, scoreV_real hq hk, hM, ← EReal.coe_sub]
    rfl
  refine ⟨M, ?_⟩
  rw [outV_at]
  refine Finset.sum_congr rfl fun n _ => ?_
  rw [divV_at, sumV_at, he]
  simp only [he]

end

end Cert.LatentReferenceIdeal.Read
-- ==== Proof.LatentPoint.lean ====
/-
  One element of the latent call's output: the body's blocks hold the reference's scores, divided by log 2, and its values.
-/
module

public import proofs.«01_k».proof.Proof.LatentBlocks
public import proofs.«01_k».proof.Proof.LatentRef
public import proofs.«01_k».proof.Proof.Point

@[expose] public section

set_option maxRecDepth 16384

noncomputable section

namespace Cert.LatentKernelIdeal.Launch

open Idealize.ShloMosaic Idealize.ShloMosaic.TcCoe Idealize.ShloMosaic.Tactic
open Cert.LatentKernelIdeal.Gen Online
open Cert.KernelIdeal.Launch (two)
open Cert.LatentReferenceIdeal.Read (scoreV catK catV maxV spreadV expV sumV outV score result_at catK_at catV_at root root_bits)

/-- Of a head's 128 lanes the first 96 hold a key's elements. -/
theorem pick (k : Fin 96 → EReal) (q : Fin 128 → EReal) :
    ∑ l : Fin 128, (if h : l.val < 96 then k ⟨l.val, h⟩ else 0) * q l = ∑ d : Fin 96, k d * q ⟨d.val, by omega⟩ := by
  have h := Fin.sum_univ_add (a := 96) (b := 32) fun l : Fin (96 + 32) => (if h : l.val < 96 then k ⟨l.val, h⟩ else 0) * q l
  refine h.trans ?_
  have h0 : ∀ d : Fin 96, (if h : (Fin.castAdd 32 d).val < 96 then k ⟨(Fin.castAdd 32 d).val, h⟩ else 0) = k d := fun d => dif_pos d.isLt
  have h1 : ∀ d : Fin 32, (if h : (Fin.natAdd 96 d).val < 96 then k ⟨(Fin.natAdd 96 d).val, h⟩ else 0) = 0 := fun d => dif_neg (by simp)
  simp only [h0, h1, zero_mul, Finset.sum_const_zero, add_zero]
  rfl

/-- The queries' scale. -/
theorem scale : factor = ((root / Real.log 2 : ℝ) : EReal) := by
  have hl : 0 < Real.log 2 := Real.log_pos (by norm_num)
  unfold factor
  rw [two, show Ideal.log ((2 : ℝ) : EReal) = ((Real.log 2 : ℝ) : EReal) from if_neg (by norm_num), div_pos_coe _ _ hl, root_bits, ← EReal.coe_mul]
  congr 1
  field_simp

/-- A sum of real keys against real scaled queries is the score divided by log 2. -/
theorem dot_scaled (k q : Fin 96 → ℝ) :
    ∑ d : Fin 96, ((k d : ℝ) : EReal) * (((q d : ℝ) : EReal) * ((root / Real.log 2 : ℝ) : EReal)) =
      (((∑ d : Fin 96, k d * q d) * root / Real.log 2 : ℝ) : EReal) := by
  rw [show (∑ d : Fin 96, k d * q d) * root / Real.log 2 = ∑ d : Fin 96, k d * (q d * (root / Real.log 2)) by
    rw [mul_div_assoc, Finset.sum_mul]; exact Finset.sum_congr rfl fun d _ => by ring, coe_sum]
  exact Finset.sum_congr rfl fun d _ => by rw [EReal.coe_mul, EReal.coe_mul]

variable (m : (ℓ : Loc nD τ sig) → Buf (Elt Ideal) ℓ) (c : Dev nD)

/-- A point's head, and the query of a row of the block. -/
abbrev hd (t : Fin cfg0.N) (e : Fin 2) : Fin 8 := ⟨2 * (t.val / 2 % 4) + e.val, by omega⟩
abbrev qry (t : Fin cfg0.N) (i : Fin 2048) : Fin 4096 := ⟨2048 * (t.val % 2) + i.val, by omega⟩

/-- The reference's score, on all numbers. -/
def scoreN (qr : Cert.LatentReferenceIdeal.S8x4096x8x96.Idx → ℝ) (kr : Cert.LatentReferenceIdeal.S8x4352x8x96.Idx → ℝ) (t : Fin cfg0.N) (e : Fin 2) (i : Fin 2048) (n : ℕ) : ℝ :=
  if h : n < 4352 then score qr kr (rowOf t) (hd t e) (qry t i) ⟨n, h⟩ else 0

/-- A row of the values, on all numbers: the values, then ones, then nothing. -/
def valN (v : Cert.LatentReferenceIdeal.S8x4352x8x64.Idx → EReal) (t : Fin cfg0.N) (e : Fin 2) (r n : ℕ) : EReal :=
  if hr : r < 64 then if h : n < 4352 then v (ix4 (rowOf t) ⟨n, h⟩ (hd t e) ⟨r, hr⟩) else 0 else if r = 64 then 1 else 0

/-- Column `l` of head `e` of a point's pair, among all heads' columns. -/
theorem col (t : Fin cfg0.N) (e : Fin 2) (l : Fin 128) : (⟨256 * (t.val / 2 % 4) + (128 * e.val + l.val), by omega⟩ : Fin 1024) =
    ⟨128 * (hd t e).val + l.val, by omega⟩ := by
  refine Fin.ext ?_
  show _ = 128 * (2 * (t.val / 2 % 4) + e.val) + l.val
  dsimp only
  omega

theorem colV (t : Fin cfg0.N) (e : Fin 2) (r : Fin 80) : (⟨256 * (t.val / 2 % 4) + (128 * e.val + r.val), by omega⟩ : Fin 1024) =
    ⟨128 * (hd t e).val + r.val, by omega⟩ := col t e ⟨r.val, by omega⟩

theorem headQ (t : Fin cfg0.N) (e : Fin 2) (i : Fin 2048) (l : Fin 128) : blk m c 0 t (ix3 0 i ⟨128 * e.val + l.val, by omega⟩) =
    if hl : l.val < 96 then argQ m c (ix4 (rowOf t) (qry t i) (hd t e) ⟨l.val, hl⟩) * factor else (0 : EReal) := by
  have h := blkQ m c t i ⟨128 * e.val + l.val, by omega⟩
  rw [col t e l] at h
  rw [h, packQ, lanes_at]

theorem headKc (t : Fin cfg0.N) (e : Fin 2) (n : Fin 256) (l : Fin 128) : blk m c 1 t (ix3 0 n ⟨128 * e.val + l.val, by omega⟩) =
    if hl : l.val < 96 then argCk m c (ix4 (rowOf t) n (hd t e) ⟨l.val, hl⟩) else (0 : EReal) := by
  have h := blkKc m c t n ⟨128 * e.val + l.val, by omega⟩
  rw [col t e l] at h
  rw [h, packKc, lanes_at]

theorem headKl (t : Fin cfg0.N) (e : Fin 2) (n : Fin 4096) (l : Fin 128) : blk m c 3 t (ix3 0 n ⟨128 * e.val + l.val, by omega⟩) =
    if hl : l.val < 96 then argLk m c (ix4 (rowOf t) n (hd t e) ⟨l.val, hl⟩) else (0 : EReal) := by
  have h := blkKl m c t n ⟨128 * e.val + l.val, by omega⟩
  rw [col t e l] at h
  rw [h, packKl, lanes_at]

theorem headVc (t : Fin cfg0.N) (e : Fin 2) (r : Fin 80) (n : Fin 256) : blk m c 2 t (ix3 0 ⟨128 * e.val + r.val, by omega⟩ n) =
    if hr : r.val < 64 then argCv m c (ix4 (rowOf t) n (hd t e) ⟨r.val, hr⟩) else if r.val = 64 then (1 : EReal) else 0 := by
  have h := blkVc m c t ⟨128 * e.val + r.val, by omega⟩ n
  rw [colV t e r] at h
  rw [h, packVc, rows_at]

theorem headVl (t : Fin cfg0.N) (e : Fin 2) (r : Fin 80) (n : Fin 4096) : blk m c 4 t (ix3 0 ⟨128 * e.val + r.val, by omega⟩ n) =
    if hr : r.val < 64 then argLv m c (ix4 (rowOf t) n (hd t e) ⟨r.val, hr⟩) else if r.val = 64 then (1 : EReal) else 0 := by
  have h := blkVl m c t ⟨128 * e.val + r.val, by omega⟩ n
  rw [colV t e r] at h
  rw [h, packVl, rows_at]

section
variable {qr : Cert.LatentReferenceIdeal.S8x4096x8x96.Idx → ℝ} {kr : Cert.LatentReferenceIdeal.S8x4352x8x96.Idx → ℝ}
  (hq : ∀ j, argQ m c j = ((qr j : ℝ) : EReal)) (hk : ∀ j, catK (argCk m c) (argLk m c) j = ((kr j : ℝ) : EReal))
include hq hk

theorem scores (t : Fin cfg0.N) (e : Fin 2) (i : Fin 2048) (n : Fin 4352) (k : Fin 96 → EReal)
    (hkn : ∀ d, k d = catK (argCk m c) (argLk m c) (ix4 (rowOf t) n (hd t e) d)) (kb : Fin 128 → EReal)
    (hkb : ∀ l : Fin 128, kb l = if hl : l.val < 96 then k ⟨l.val, hl⟩ else 0) :
    ∑ l : Fin 128, kb l * (blk m c 0 t (ix3 0 i ⟨128 * e.val + l.val, by omega⟩) : EReal) =
      ((scoreN qr kr t e i n.val / Real.log 2 : ℝ) : EReal) := by
  simp only [hkb]
  rw [pick k fun l => blk m c 0 t (ix3 0 i ⟨128 * e.val + l.val, by omega⟩)]
  unfold scoreN
  rw [dif_pos n.isLt]
  unfold score
  rw [← dot_scaled (fun d => kr (ix4 (rowOf t) n (hd t e) d)) (fun d => qr (ix4 (rowOf t) (qry t i) (hd t e) d))]
  refine Finset.sum_congr rfl fun d _ => ?_
  rw [hkn, hk]
  congr 1
  refine (headQ m c t e i ⟨d.val, by omega⟩).trans ((dif_pos d.isLt).trans ?_)
  rw [scale, ← hq]

theorem holds (t : Fin cfg0.N) : Att.Holds (g := geo) (blk m c 0 t) (blk m c 1 t) (blk m c 2 t) (blk m c 3 t) (blk m c 4 t)
    (fun e i n => scoreN qr kr t e i n / Real.log 2) (fun e r n => valN (catV (argCv m c) (argLv m c)) t e r n) where
  sc e i n := scores m c hq hk t e i ⟨n.val, by omega⟩ (fun d => argCk m c (ix4 (rowOf t) n (hd t e) d))
    (fun d => by rw [catK_at, dif_pos n.isLt]) (fun l => blk m c 1 t (ix3 0 n ⟨128 * e.val + l.val, by omega⟩))
    (fun l => headKc m c t e n l)
  sl e i n := scores m c hq hk t e i ⟨256 + n.val, by omega⟩ (fun d => argLk m c (ix4 (rowOf t) n (hd t e) d))
    (fun d => by
      rw [catK_at, dif_neg (by simp)]
      refine congrArg (argLk m c) (congrArg (fun n => ix4 _ n _ _) (Fin.ext ?_))
      simp) (fun l => blk m c 3 t (ix3 0 n ⟨128 * e.val + l.val, by omega⟩))
    (fun l => headKl m c t e n l)
  vc e r n := by
    refine (headVc m c t e r n).trans ?_
    unfold valN
    split
    · rw [dif_pos (by omega), catV_at, dif_pos n.isLt]
    · rfl
  vl e r n := by
    refine (headVl m c t e r n).trans ?_
    unfold valN
    split
    · rw [dif_pos (by omega), catV_at, dif_neg (by simp)]
      refine congrArg (argLv m c) (congrArg (fun n => ix4 _ n _ _) (Fin.ext ?_))
      simp
    · rfl

/-- The reference's result. -/
abbrev result (c : Dev nD) : Cert.LatentReferenceIdeal.S8x4096x512.Idx → EReal :=
  outV (catV (argCv m c) (argLv m c)) (Host.divf (expV (scoreV (argQ m c) (catK (argCk m c) (argLk m c))) (maxV (scoreV (argQ m c) (catK (argCk m c) (argLk m c)))))
    (spreadV (sumV (expV (scoreV (argQ m c) (catK (argCk m c) (argLk m c))) (maxV (scoreV (argQ m c) (catK (argCk m c) (argLk m c))))))))

theorem outBlk_at (t : Fin cfg0.N) (e : Fin 2) (d : Fin 64) (i : Fin 2048) :
    outBlk m c t (ix3 0 i ⟨64 * e.val + d.val, by omega⟩) =
      result m c (ix3 (rowOf t) (qry t i) ⟨64 * (hd t e).val + d.val, by omega⟩) := by
  obtain ⟨M, hM⟩ := result_at hq hk (catV (argCv m c) (argLv m c)) (rowOf t) (hd t e) (qry t i) d
  obtain ⟨μ, hμ⟩ := Att.outOf_at (holds m c hq hk t) (K1 := kLoop 0) (K2 := kLoop 1) (V1 := vLoop 0) (V2 := vLoop 1)
    (kLoop_is 0) (kLoop_is 1) (vLoop_is 0) (vLoop_is 1) e d i
  refine hμ.trans (Eq.trans ?_ hM.symm)
  have hone : (fun n => valN (catV (argCv m c) (argLv m c)) t e 64 n) = fun _ => (1 : EReal) := funext fun n => by
    unfold valN
    rw [dif_neg (by decide), if_pos rfl]
  rw [hone, mass_div _ _ (scoreN qr kr t e i) (fun _ => rfl) μ M 4352 (by decide), Finset.sum_range, Finset.sum_range]
  have hs : ∀ n : Fin 4352, scoreN qr kr t e i n.val = score qr kr (rowOf t) (hd t e) (qry t i) n := fun n => dif_pos n.isLt
  simp only [hs]
  refine Finset.sum_congr rfl fun n _ => ?_
  congr 1
  unfold valN
  rw [dif_pos d.isLt, dif_pos n.isLt]

end

end Cert.LatentKernelIdeal.Launch
-- ==== Proof.LatentFinite.lean ====
/-
  The latent call's precondition read: the queries and the keys are real numbers.
-/
module

public import proofs.«01_k».proof.Proof.Finite
public import proofs.«01_k».proof.Proof.LatentRef

@[expose] public section

set_option maxRecDepth 16384

noncomputable section

namespace Cert.FiniteLatent

open Idealize.ShloMosaic

instance facts : Cert.Pre_finite_latent.Facts where
  bcast_S_S8x4096x8x96 := by decide
  bcast_S_S8x256x8x96 := by decide

theorem cat_real {a : FVec Ideal Cert.LatentReferenceIdeal.S8x256x8x96 .f32} {b : FVec Ideal Cert.LatentReferenceIdeal.S8x4096x8x96 .f32}
    (ha : ∃ r : _ → ℝ, ∀ j, a j = ((r j : ℝ) : EReal)) (hb : ∃ r : _ → ℝ, ∀ j, b j = ((r j : ℝ) : EReal)) :
    ∃ r : _ → ℝ, ∀ j, Cert.LatentReferenceIdeal.Read.catK a b j = ((r j : ℝ) : EReal) := by
  obtain ⟨ra, ha⟩ := ha
  obtain ⟨rb, hb⟩ := hb
  have h' : ∀ j, ∃ r : ℝ, Cert.LatentReferenceIdeal.Read.catK a b j = (r : EReal) := fun j => by
    have hj : j = ix4 (j 0) (j 1) (j 2) (j 3) := by
      funext x
      match x with
      | ⟨0, _⟩ => rfl
      | ⟨1, _⟩ => rfl
      | ⟨2, _⟩ => rfl
      | ⟨3, _⟩ => rfl
    have hc := Cert.LatentReferenceIdeal.Read.catK_at a b (j 0) (j 2) (j 1) (j 3)
    by_cases hn : (j 1).val < 256
    · rw [dif_pos hn] at hc
      exact ⟨_, (congrArg _ hj).trans (hc.trans (ha _))⟩
    · rw [dif_neg hn] at hc
      exact ⟨_, (congrArg _ hj).trans (hc.trans (hb _))⟩
  exact ⟨fun j => (h' j).choose, fun j => (h' j).choose_spec⟩

end Cert.FiniteLatent
-- ==== Proof.LatentValue.lean ====
/-
  The latent call's output array after the run is the reference's result.
-/
module

public import proofs.«01_k».proof.Proof.LatentPoint
public import proofs.«01_k».proof.Proof.LatentFinite

@[expose] public section

set_option maxRecDepth 16384

noncomputable section

namespace Cert.LatentKernelIdeal.Launch

open Idealize.ShloMosaic Idealize.ShloMosaic.TcCoe Idealize.ShloMosaic.Tactic Idealize.SL.Sem
open Cert.LatentKernelIdeal.Gen

variable (m : (ℓ : Loc nD τ sig) → Buf (Elt Ideal) ℓ)

/-- A head's element lies in the block where the reference has it. -/
theorem place (t : Fin cfg0.N) (e : Fin 2) (d : Fin 64) (i : Fin 2048) :
    ((cfg0.win 5).blk t).view.emb (ix3 0 i ⟨64 * e.val + d.val, by omega⟩) =
      ix3 (rowOf t) (qry t i) ⟨64 * (hd t e).val + d.val, by omega⟩ := by
  refine (placeO t i _).trans (Att.idx3 rfl rfl ?_)
  show 128 * (t.val / 2 % 4) + (64 * e.val + d.val) = 64 * (2 * (t.val / 2 % 4) + e.val) + d.val
  omega

theorem lane (y : S1x2048x128.Idx) : ∃ (e : Fin 2) (d : Fin 64) (i : Fin 2048), y = ix3 0 i ⟨64 * e.val + d.val, by omega⟩ := by
  have h0 : (y 0).val < 1 := (y 0).isLt
  have h2 : (y 2).val < 128 := (y 2).isLt
  refine ⟨⟨(y 2).val / 64, by omega⟩, ⟨(y 2).val % 64, by omega⟩, y 1, Att.idx3 ?_ rfl ?_⟩
  · show (y 0).val = 0
    omega
  · show (y 2).val = 64 * ((y 2).val / 64) + (y 2).val % 64
    omega

theorem final_at (c : Dev nD) (hpre : Cert.Pre_LatentKernelIdeal_finite_latent m) (t : Fin cfg0.N) (y : S1x2048x128.Idx) :
    outBlk m c t y = result m c (((cfg0.win 5).blk t).view.emb y) := by
  obtain ⟨qr, hq⟩ := Cert.Finite.real_of_cmp _ _ _ (hpre c).1
  obtain ⟨kr, hk⟩ := Cert.FiniteLatent.cat_real (Cert.Finite.real_of_cmp _ _ _ (hpre c).2.1) (Cert.Finite.real_of_cmp _ _ _ (hpre c).2.2)
  obtain ⟨e, d, i, rfl⟩ := lane y
  exact (outBlk_at m c hq hk t e d i).trans (congrArg (result m c) (place t e d i).symm)

theorem final (c : Dev nD) (hpre : Cert.Pre_LatentKernelIdeal_finite_latent m) : (dats m 0 c).arrAt 5 cfg0.N = result m c := by
  refine (dats m 0 c).arrAt_eq_of_covers 5 _ coverO fun t _ y => ?_
  blk_simp
  rw [after5]
  exact final_at m c hpre t y

/-- The run: the output holds the reference's result and the arguments are unchanged. -/
theorem run_value (ρ : Dev nD → PrngReg) (hpre : Cert.Pre_LatentKernelIdeal_finite_latent m) :
    θ_run defs (onTc (τ := τ) (main (F := Ideal))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final m c hpre),
      ((h.1 c).2 main_arg0 (Pipeline.mem_restRefs_of main_arg0 (by decide) (by decide))).trans (kept0 m c),
      ((h.1 c).2 main_arg1 (Pipeline.mem_restRefs_of main_arg1 (by decide) (by decide))).trans (kept1 m c),
      ((h.1 c).2 main_arg2 (Pipeline.mem_restRefs_of main_arg2 (by decide) (by decide))).trans (kept2 m c),
      ((h.1 c).2 main_arg3 (Pipeline.mem_restRefs_of main_arg3 (by decide) (by decide))).trans (kept3 m c),
      ((h.1 c).2 main_arg4 (Pipeline.mem_restRefs_of main_arg4 (by decide) (by decide))).trans (kept4 m c)⟩)
    (run m ρ)

end Cert.LatentKernelIdeal.Launch
-- ==== Proof.MixValue.lean ====
/-
  The attention's output projection: the output array after the run is the reference's result, element by element.
-/
module

public import proofs.«01_k».proof.Proof.Gen.MixKernelIdeal.Value
public import proofs.«01_k».proof.Proof.Gen.MixReferenceIdeal.Run
public import proofs.«01_k».proof.Proof.Mass
public import Idealize.ShloMosaic.Lib.Pointwise
public import Idealize.ShloMosaic.Lib.StableHlo.ReadAt
public import Idealize.ShloMosaic.Lib.Pipeline.ValueKit.Geometry

@[expose] public section

set_option maxRecDepth 16384

noncomputable section

namespace Cert.MixKernelIdeal.Elems

open Idealize.ShloMosaic Idealize.ShloMosaic.TcCoe Idealize.ShloMosaic.Tactic Idealize.SL.Sem
open Cert.MixKernelIdeal Cert.MixKernelIdeal.Gen

/-- The two attentions' lanes side by side. -/
def both (a o : Fin 512 → EReal) (k : Fin 1024) : EReal :=
  if h : k.val < 512 then a ⟨k.val, h⟩ else o ⟨k.val - 512, by omega⟩

/-- The element a program leaves: the residual plus the gate times the projection of the gated lanes. -/
def elem (x gate : EReal) (a o : Fin 512 → EReal) (s w : Fin 1024 → EReal) : EReal :=
  x + gate * ∑ k : Fin 1024, both a o k * s k * w k

/-! ## The body's block -/

theorem pay_at (a o : Vec Ideal S1x256x512 .bf16) (s : Vec Ideal S1x256x1024 .bf16) (w : Vec Ideal S1024x1024 .bf16)
    (x : Vec Ideal S1x256x1024 .f32) (g : Vec Ideal S1x1x3072 .f32) (i : Fin 256) (j : Fin 1024) :
    k0_pay1 a o s w x g (ix3 0 i j) = elem (x (ix3 0 i j)) (g (ix3 0 0 ⟨2048 + j.val, by omega⟩))
      (fun k => a (ix3 0 i k)) (fun k => o (ix3 0 i k)) (fun k => s (ix3 0 i k)) (fun k => w (ix2 k j)) := by
  unfold k0_pay1 elem both
  pointwise

/-! A block read or written whole is itself. -/

theorem whole0 (y : S1x256x512.Idx) : r0_0.idx y = y := Att.idx3 (by show 0 + 1 * _ = _; omega) (by show 0 + 1 * _ = _; omega) (by show 0 + 1 * _ = _; omega)

theorem whole1 (y : S1x256x1024.Idx) : r0_1.idx y = y := Att.idx3 (by show 0 + 1 * _ = _; omega) (by show 0 + 1 * _ = _; omega) (by show 0 + 1 * _ = _; omega)

theorem whole2 (y : S1024x1024.Idx) : r0_2.idx y = y := by
  funext a
  match a with
  | ⟨0, _⟩ => exact Fin.ext (by show 0 + 1 * _ = _; omega)
  | ⟨1, _⟩ => exact Fin.ext (by show 0 + 1 * _ = _; omega)

theorem whole3 (y : S1x1x3072.Idx) : r0_3.idx y = y := Att.idx3 (by show 0 + 1 * _ = _; omega) (by show 0 + 1 * _ = _; omega) (by show 0 + 1 * _ = _; omega)

theorem out_at (x : Vec Ideal S1x256x1024 .f32) (a o : Vec Ideal S1x256x512 .bf16) (s : Vec Ideal S1x256x1024 .bf16)
    (w : Vec Ideal S1024x1024 .bf16) (g : Vec Ideal S1x1x3072 .f32) (i : Fin 256) (j : Fin 1024) :
    out0_6 x a o s w g (ix3 0 i j) = elem (x (ix3 0 i j)) (g (ix3 0 0 ⟨2048 + j.val, by omega⟩))
      (fun k => a (ix3 0 i k)) (fun k => o (ix3 0 i k)) (fun k => s (ix3 0 i k)) (fun k => w (ix2 k j)) := by
  have ha : View.ld a r0_0 = a := funext fun y => congrArg a (whole0 y)
  have ho : View.ld o r0_0 = o := funext fun y => congrArg o (whole0 y)
  have hs : View.ld s r0_1 = s := funext fun y => congrArg s (whole1 y)
  have hx : View.ld x r0_1 = x := funext fun y => congrArg x (whole1 y)
  have hw : View.ld w r0_2 = w := funext fun y => congrArg w (whole2 y)
  have hg : View.ld g r0_3 = g := funext fun y => congrArg g (whole3 y)
  unfold out0_6
  rw [ha, ho, hs, hx, hw, hg, ← pay_at]
  refine View.canon_apply_of_pieces (Val := Elt Ideal) (k0_pay1 a o s w x g) _ ?_ _ (cover0_6 _ _)
  intro pc hpc
  rcases List.mem_cons.mp hpc with rfl | hpc
  · exact fun y => congrArg (k0_pay1 a o s w x g) (whole1 y).symm
  nomatch hpc

/-! ## Where a grid point's blocks lie in their arrays -/

theorem points : cfg0.N = 128 := by decide +kernel

/-- A point is a batch row and a tile of rows, the tile counting fastest. -/
theorem at0 : ∀ t : Fin cfg0.N, win0_0.index t = ![t.val / 16, t.val % 16, 0] := by decide +kernel
theorem at1 : ∀ t : Fin cfg0.N, win0_1.index t = ![t.val / 16, t.val % 16, 0] := by decide +kernel
theorem at2 : ∀ t : Fin cfg0.N, win0_2.index t = ![t.val / 16, t.val % 16, 0] := by decide +kernel
theorem at3 : ∀ t : Fin cfg0.N, win0_3.index t = ![t.val / 16, t.val % 16, 0] := by decide +kernel
theorem at4 : ∀ t : Fin cfg0.N, win0_4.index t = ![0, 0] := by decide +kernel
theorem at5 : ∀ t : Fin cfg0.N, win0_5.index t = ![t.val / 16, 0, 0] := by decide +kernel
theorem at6 : ∀ t : Fin cfg0.N, win0_6.index t = ![t.val / 16, t.val % 16, 0] := by decide +kernel

variable (m : (ℓ : Loc nD τ sig) → Buf (Elt Ideal) ℓ) (c : Dev nD)

abbrev batch (t : Fin cfg0.N) : Fin 8 := ⟨t.val / 16, by have := Nat.lt_of_lt_of_eq t.isLt points; omega⟩

abbrev line (t : Fin cfg0.N) (i : Fin 256) : Fin 4096 := ⟨256 * (t.val % 16) + i.val, by omega⟩

section
variable (f : (b : Ref sig .tc) → Buf (Elt Ideal) ((c : Thread nD τ).loc b))

/-! A block's element is the array's, where the block puts it. -/

theorem blk0 (t : Fin cfg0.N) (i : Fin 256) (j : Fin 1024) :
    ((cfg0.win 0).blk t).view.read (Elt Ideal) (f (Pipeline.arrRef spec0 0)) (ix3 0 i j) = f main_arg0 (ix3 (batch t) (line t i) j) := by
  refine congrArg (f main_arg0) (Att.idx3 ?_ ?_ ?_) <;> blk_simp [at0] <;> simp [ix3] <;> omega

theorem blk1 (t : Fin cfg0.N) (i : Fin 256) (j : Fin 512) :
    ((cfg0.win 1).blk t).view.read (Elt Ideal) (f (Pipeline.arrRef spec0 1)) (ix3 0 i j) = f main_v0 (ix3 (batch t) (line t i) j) := by
  refine congrArg (f main_v0) (Att.idx3 ?_ ?_ ?_) <;> blk_simp [at1] <;> simp [ix3] <;> omega

theorem blk2 (t : Fin cfg0.N) (i : Fin 256) (j : Fin 512) :
    ((cfg0.win 2).blk t).view.read (Elt Ideal) (f (Pipeline.arrRef spec0 2)) (ix3 0 i j) = f main_v1 (ix3 (batch t) (line t i) j) := by
  refine congrArg (f main_v1) (Att.idx3 ?_ ?_ ?_) <;> blk_simp [at2] <;> simp [ix3] <;> omega

theorem blk3 (t : Fin cfg0.N) (i : Fin 256) (j : Fin 1024) :
    ((cfg0.win 3).blk t).view.read (Elt Ideal) (f (Pipeline.arrRef spec0 3)) (ix3 0 i j) = f main_v2 (ix3 (batch t) (line t i) j) := by
  refine congrArg (f main_v2) (Att.idx3 ?_ ?_ ?_) <;> blk_simp [at3] <;> simp [ix3] <;> omega

theorem blk4 (t : Fin cfg0.N) (k j : Fin 1024) :
    ((cfg0.win 4).blk t).view.read (Elt Ideal) (f (Pipeline.arrRef spec0 4)) (ix2 k j) = f main_v3 (ix2 k j) := by
  refine congrArg (f main_v3) (funext fun a => ?_)
  match a with
  | ⟨0, _⟩ => refine Fin.ext ?_; blk_simp [at4]
  | ⟨1, _⟩ => refine Fin.ext ?_; blk_simp [at4]

theorem blk5 (t : Fin cfg0.N) (j : Fin 3072) :
    ((cfg0.win 5).blk t).view.read (Elt Ideal) (f (Pipeline.arrRef spec0 5)) (ix3 0 0 j) = f main_v4 (ix3 (batch t) 0 j) := by
  refine congrArg (f main_v4) (Att.idx3 ?_ ?_ ?_) <;> blk_simp [at5] <;> simp [ix3] <;> omega

end

theorem place (t : Fin cfg0.N) (i : Fin 256) (j : Fin 1024) :
    ((cfg0.win 6).blk t).view.emb (ix3 0 i j) = ix3 (batch t) (line t i) j := by
  refine Att.idx3 ?_ ?_ ?_ <;> blk_simp [at6] <;> simp [ix3] <;> omega

theorem cover : (cfg0.win 6).Covers := by decide +kernel

/-! ## What the host code puts in the arrays -/

abbrev argX : S8x4096x1024.Idx → EReal := m ((c : Thread nD τ).loc main_arg0)
abbrev argA : S8x4096x512.Idx → EReal := m ((c : Thread nD τ).loc main_arg1)
abbrev argO : S8x4096x512.Idx → EReal := m ((c : Thread nD τ).loc main_arg2)
abbrev argS : S8x4096x1024.Idx → EReal := m ((c : Thread nD τ).loc main_arg3)
abbrev argW : S1024x1024.Idx → EReal := m ((c : Thread nD τ).loc main_arg4)
abbrev argG : S8x3072.Idx → EReal := m ((c : Thread nD τ).loc main_arg5)

theorem hostA (b : Fin 8) (i : Fin 4096) (j : Fin 512) : V m c main_v0 (ix3 b i j) = argA m c (ix3 b i j) := by
  unfold V
  after_reads_at

theorem hostO (b : Fin 8) (i : Fin 4096) (j : Fin 512) : V m c main_v1 (ix3 b i j) = argO m c (ix3 b i j) := by
  unfold V
  after_reads_at

theorem hostS (b : Fin 8) (i : Fin 4096) (j : Fin 1024) : V m c main_v2 (ix3 b i j) = argS m c (ix3 b i j) := by
  unfold V
  after_reads_at

theorem hostW (k j : Fin 1024) : V m c main_v3 (ix2 k j) = argW m c (ix2 k j) := by
  unfold V
  after_reads_at

theorem hostG (b : Fin 8) (j : Fin 3072) : V m c main_v4 (ix3 b 0 j) = argG m c (ix2 b j) := by
  unfold V
  after_reads_at

/-! ## The output -/

/-- The reference's result (`Cert.MixReferenceIdeal.Elems.ref_is`). -/
abbrev result : S8x4096x1024.Idx → EReal := fun y => elem (argX m c y) (argG m c (ix2 (y 0) ⟨2048 + (y 2).val, by have : (y 2).val < 1024 := (y 2).isLt; omega⟩))
  (fun k => argA m c (ix3 (y 0) (y 1) k)) (fun k => argO m c (ix3 (y 0) (y 1) k)) (fun k => argS m c (ix3 (y 0) (y 1) k)) (fun k => argW m c (ix2 k (y 2)))

theorem final_at (t : Fin cfg0.N) (i : Fin 256) (j : Fin 1024) :
    out0_6 (iblk m c 0 t) (iblk m c 1 t) (iblk m c 2 t) (iblk m c 3 t) (iblk m c 4 t) (iblk m c 5 t) (ix3 0 i j) =
      result m c (ix3 (batch t) (line t i) j) := by
  refine (out_at _ _ _ _ _ _ i j).trans ?_
  have h0 : iblk m c 0 t (ix3 0 i j) = argX m c (ix3 (batch t) (line t i) j) :=
    (blk0 c (V m c) t i j).trans (congrFun (V_main_arg0 m c) _)
  have h1 : ∀ k : Fin 512, iblk m c 1 t (ix3 0 i k) = argA m c (ix3 (batch t) (line t i) k) := fun k =>
    (blk1 c (V m c) t i k).trans (hostA m c _ _ _)
  have h2 : ∀ k : Fin 512, iblk m c 2 t (ix3 0 i k) = argO m c (ix3 (batch t) (line t i) k) := fun k =>
    (blk2 c (V m c) t i k).trans (hostO m c _ _ _)
  have h3 : ∀ k : Fin 1024, iblk m c 3 t (ix3 0 i k) = argS m c (ix3 (batch t) (line t i) k) := fun k =>
    (blk3 c (V m c) t i k).trans (hostS m c _ _ _)
  have h4 : ∀ k : Fin 1024, iblk m c 4 t (ix2 k j) = argW m c (ix2 k j) := fun k =>
    (blk4 c (V m c) t k j).trans (hostW m c _ _)
  have h5 : iblk m c 5 t (ix3 0 0 ⟨2048 + j.val, by omega⟩) = argG m c (ix2 (batch t) ⟨2048 + j.val, by omega⟩) :=
    (blk5 c (V m c) t _).trans (hostG m c _ _)
  rw [h0, h5, funext h1, funext h2, funext h3, funext h4]
  rfl

theorem lane (y : S1x256x1024.Idx) : ∃ (i : Fin 256) (j : Fin 1024), y = ix3 0 i j := by
  have h0 : (y 0).val < 1 := (y 0).isLt
  exact ⟨y 1, y 2, Att.idx3 (by show (y 0).val = 0; omega) rfl rfl⟩

theorem final : (dats m 0 c).arrAt 6 cfg0.N = result m c := by
  refine (dats m 0 c).arrAt_eq_of_covers 6 _ cover fun t _ y => ?_
  blk_simp
  rw [after0_6]
  obtain ⟨i, j, rfl⟩ := lane y
  exact (final_at m c t i j).trans (congrArg (result m c) (place t i j).symm)

end Cert.MixKernelIdeal.Elems

namespace Cert.MixReferenceIdeal.Elems

open Idealize.ShloMosaic Idealize.ShloMosaic.TcCoe Idealize.ShloMosaic.Tactic
open Cert.MixReferenceIdeal Cert.MixReferenceIdeal.Gen

abbrev refV (x : FVec Ideal S8x4096x1024 .f32) (a o : FVec Ideal S8x4096x512 .f32) (s : FVec Ideal S8x4096x1024 .f32)
    (w : FVec Ideal S1024x1024 .f32) (g : FVec Ideal S8x3072 .f32) : FVec Ideal S8x4096x1024 .f32 :=
  addf x (mulf (broadcastInDim S8x4096x1024 ![0, 1, 2] bcast_S8x1x1024_S8x4096x1024_0_1_2
      (broadcastInDim S8x1x1024 ![0, 2] bcast_S8x1024_S8x1x1024_0_2 (extractStridedSlice S8x1024 ![0, 2048] g slices_S8x3072_S8x1024_0_2048)))
    (Host.dotGeneral dot_S8x4096x1024_S1024x1024_S8x4096x1024_2_0_01_1_n_n none
      (mulf (concatenate S8x4096x1024 2 [⟨S8x4096x512, a⟩, ⟨S8x4096x512, o⟩] concatenates_S8x4096x512_S8x4096x512_S8x4096x1024_d2) s) w))

theorem ref_at (x : FVec Ideal S8x4096x1024 .f32) (a o : FVec Ideal S8x4096x512 .f32) (s : FVec Ideal S8x4096x1024 .f32)
    (w : FVec Ideal S1024x1024 .f32) (g : FVec Ideal S8x3072 .f32) (b : Fin 8) (i : Fin 4096) (j : Fin 1024) :
    refV x a o s w g (ix3 b i j) = Cert.MixKernelIdeal.Elems.elem (x (ix3 b i j)) (g (ix2 b ⟨2048 + j.val, by omega⟩))
      (fun k => a (ix3 b i k)) (fun k => o (ix3 b i k)) (fun k => s (ix3 b i k)) (fun k => w (ix2 k j)) := by
  unfold refV Cert.MixKernelIdeal.Elems.elem Cert.MixKernelIdeal.Elems.both
  pointwise

/-- The reference's output, of the kernel's arguments, is the array the kernel leaves. -/
theorem ref_is (m : (ℓ : Loc Cert.MixKernelIdeal.nD Cert.MixKernelIdeal.τ Cert.MixKernelIdeal.sig) → Buf (Elt Ideal) ℓ)
    (c : Dev Cert.MixKernelIdeal.nD) :
    refV (Cert.MixKernelIdeal.Elems.argX m c) (Cert.MixKernelIdeal.Elems.argA m c) (Cert.MixKernelIdeal.Elems.argO m c)
      (Cert.MixKernelIdeal.Elems.argS m c) (Cert.MixKernelIdeal.Elems.argW m c) (Cert.MixKernelIdeal.Elems.argG m c) =
      Cert.MixKernelIdeal.Elems.result m c := by
  funext y
  obtain ⟨b, i, j, rfl⟩ : ∃ (b : Fin 8) (i : Fin 4096) (j : Fin 1024), y = ix3 b i j := ⟨y 0, y 1, y 2, Att.idx3 rfl rfl rfl⟩
  exact ref_at _ _ _ _ _ _ b i j

end Cert.MixReferenceIdeal.Elems
-- ==== Proof.LastValue.lean ====
/-
  The Hyena's output projection and the last norm: the output array after the run is the reference's result, element by element.
-/
module

public import proofs.«01_k».proof.Proof.Gen.LastKernelIdeal.Value
public import proofs.«01_k».proof.Proof.Gen.LastReferenceIdeal.Run
public import proofs.«01_k».proof.Proof.Mass
public import Idealize.ShloMosaic.Lib.Pointwise
public import Idealize.ShloMosaic.Lib.StableHlo.ReadAt
public import Idealize.ShloMosaic.Lib.Pipeline.ValueKit.Geometry

@[expose] public section

set_option maxRecDepth 16384

noncomputable section

namespace Cert.LastKernelIdeal.Elems

open Idealize.ShloMosaic Idealize.ShloMosaic.TcCoe Idealize.ShloMosaic.Tactic Idealize.SL.Sem
open Cert.LastKernelIdeal Cert.LastKernelIdeal.Gen

/-- An element after the residual: the residual plus the gate times the projection of the gated lanes. -/
def mixed (x gate : Fin 1024 → EReal) (z s : Fin 1024 → EReal) (w : Fin 1024 → Fin 1024 → EReal) (j : Fin 1024) : EReal :=
  x j + gate j * ∑ k : Fin 1024, z k * s k * w k j

/-- The element a program leaves: of the row after the residual, the element over the root of the row's mean square. -/
def elem (r f : Fin 1024 → EReal) (j : Fin 1024) : EReal :=
  r j * Ideal.rsqrt (Ideal.div (∑ k : Fin 1024, r k * r k) (Ideal.ofBits .f32 0x44800000#32) + Ideal.ofBits .f32 0x358637BD#32) * f j

/-! ## The body's block -/

theorem pay_at (z s : Vec Ideal S1x256x1024 .bf16) (w : Vec Ideal S1024x1024 .bf16)
    (x : Vec Ideal S1x256x1024 .f32) (g : Vec Ideal S1x1x3072 .f32) (f : Vec Ideal S1x1024 .f32) (i : Fin 256) (j : Fin 1024) :
    k0_pay1 (k0_pay2 z s w x g f) (ix3 0 i j) =
      elem (mixed (fun j => x (ix3 0 i j)) (fun j => g (ix3 0 0 ⟨2048 + j.val, by omega⟩))
        (fun k => z (ix3 0 i k)) (fun k => s (ix3 0 i k)) (fun k j => w (ix2 k j))) (fun j => f (ix2 0 j)) j := by
  unfold k0_pay1 k0_pay2 elem mixed
  pointwise

/-! A block read or written whole is itself. -/

theorem whole0 (y : S1x256x1024.Idx) : r0_0.idx y = y := Att.idx3 (by show 0 + 1 * _ = _; omega) (by show 0 + 1 * _ = _; omega) (by show 0 + 1 * _ = _; omega)

theorem whole1 (y : S1024x1024.Idx) : r0_1.idx y = y := by
  funext a
  match a with
  | ⟨0, _⟩ => exact Fin.ext (by show 0 + 1 * _ = _; omega)
  | ⟨1, _⟩ => exact Fin.ext (by show 0 + 1 * _ = _; omega)

theorem whole2 (y : S1x1x3072.Idx) : r0_2.idx y = y := Att.idx3 (by show 0 + 1 * _ = _; omega) (by show 0 + 1 * _ = _; omega) (by show 0 + 1 * _ = _; omega)

theorem whole3 (y : S1x1024.Idx) : r0_3.idx y = y := by
  funext a
  match a with
  | ⟨0, _⟩ => exact Fin.ext (by show 0 + 1 * _ = _; omega)
  | ⟨1, _⟩ => exact Fin.ext (by show 0 + 1 * _ = _; omega)

theorem out_at (x : Vec Ideal S1x256x1024 .f32) (z s : Vec Ideal S1x256x1024 .bf16)
    (w : Vec Ideal S1024x1024 .bf16) (g : Vec Ideal S1x1x3072 .f32) (f : Vec Ideal S1x1024 .f32) (i : Fin 256) (j : Fin 1024) :
    out0_6 x z s w g f (ix3 0 i j) =
      elem (mixed (fun j => x (ix3 0 i j)) (fun j => g (ix3 0 0 ⟨2048 + j.val, by omega⟩))
        (fun k => z (ix3 0 i k)) (fun k => s (ix3 0 i k)) (fun k j => w (ix2 k j))) (fun j => f (ix2 0 j)) j := by
  have hz : View.ld z r0_0 = z := funext fun y => congrArg z (whole0 y)
  have hs : View.ld s r0_0 = s := funext fun y => congrArg s (whole0 y)
  have hx : View.ld x r0_0 = x := funext fun y => congrArg x (whole0 y)
  have hw : View.ld w r0_1 = w := funext fun y => congrArg w (whole1 y)
  have hg : View.ld g r0_2 = g := funext fun y => congrArg g (whole2 y)
  have hf : View.ld f r0_3 = f := funext fun y => congrArg f (whole3 y)
  unfold out0_6
  rw [hz, hs, hx, hw, hg, hf, ← pay_at]
  refine View.canon_apply_of_pieces (Val := Elt Ideal) (k0_pay1 (k0_pay2 z s w x g f)) _ ?_ _ (cover0_6 _ _)
  intro pc hpc
  rcases List.mem_cons.mp hpc with rfl | hpc
  · exact fun y => congrArg (k0_pay1 (k0_pay2 z s w x g f)) (whole0 y).symm
  nomatch hpc

/-! ## Where a grid point's blocks lie in their arrays -/

theorem points : cfg0.N = 128 := by decide +kernel

/-- A point is a batch row and a tile of rows, the tile counting fastest. -/
theorem at0 : ∀ t : Fin cfg0.N, win0_0.index t = ![t.val / 16, t.val % 16, 0] := by decide +kernel
theorem at1 : ∀ t : Fin cfg0.N, win0_1.index t = ![t.val / 16, t.val % 16, 0] := by decide +kernel
theorem at2 : ∀ t : Fin cfg0.N, win0_2.index t = ![t.val / 16, t.val % 16, 0] := by decide +kernel
theorem at3 : ∀ t : Fin cfg0.N, win0_3.index t = ![0, 0] := by decide +kernel
theorem at4 : ∀ t : Fin cfg0.N, win0_4.index t = ![t.val / 16, 0, 0] := by decide +kernel
theorem at5 : ∀ t : Fin cfg0.N, win0_5.index t = ![0, 0] := by decide +kernel
theorem at6 : ∀ t : Fin cfg0.N, win0_6.index t = ![t.val / 16, t.val % 16, 0] := by decide +kernel

variable (m : (ℓ : Loc nD τ sig) → Buf (Elt Ideal) ℓ) (c : Dev nD)

abbrev batch (t : Fin cfg0.N) : Fin 8 := ⟨t.val / 16, by have := Nat.lt_of_lt_of_eq t.isLt points; omega⟩

abbrev line (t : Fin cfg0.N) (i : Fin 256) : Fin 4096 := ⟨256 * (t.val % 16) + i.val, by omega⟩

section
variable (f : (b : Ref sig .tc) → Buf (Elt Ideal) ((c : Thread nD τ).loc b))

/-! A block's element is the array's, where the block puts it. -/

theorem blk0 (t : Fin cfg0.N) (i : Fin 256) (j : Fin 1024) :
    ((cfg0.win 0).blk t).view.read (Elt Ideal) (f (Pipeline.arrRef spec0 0)) (ix3 0 i j) = f main_arg0 (ix3 (batch t) (line t i) j) := by
  refine congrArg (f main_arg0) (Att.idx3 ?_ ?_ ?_) <;> blk_simp [at0] <;> simp [ix3] <;> omega

theorem blk1 (t : Fin cfg0.N) (i : Fin 256) (j : Fin 1024) :
    ((cfg0.win 1).blk t).view.read (Elt Ideal) (f (Pipeline.arrRef spec0 1)) (ix3 0 i j) = f main_v0 (ix3 (batch t) (line t i) j) := by
  refine congrArg (f main_v0) (Att.idx3 ?_ ?_ ?_) <;> blk_simp [at1] <;> simp [ix3] <;> omega

theorem blk2 (t : Fin cfg0.N) (i : Fin 256) (j : Fin 1024) :
    ((cfg0.win 2).blk t).view.read (Elt Ideal) (f (Pipeline.arrRef spec0 2)) (ix3 0 i j) = f main_v1 (ix3 (batch t) (line t i) j) := by
  refine congrArg (f main_v1) (Att.idx3 ?_ ?_ ?_) <;> blk_simp [at2] <;> simp [ix3] <;> omega

theorem blk3 (t : Fin cfg0.N) (k j : Fin 1024) :
    ((cfg0.win 3).blk t).view.read (Elt Ideal) (f (Pipeline.arrRef spec0 3)) (ix2 k j) = f main_v2 (ix2 k j) := by
  refine congrArg (f main_v2) (funext fun a => ?_)
  match a with
  | ⟨0, _⟩ => refine Fin.ext ?_; blk_simp [at3]
  | ⟨1, _⟩ => refine Fin.ext ?_; blk_simp [at3]

theorem blk4 (t : Fin cfg0.N) (j : Fin 3072) :
    ((cfg0.win 4).blk t).view.read (Elt Ideal) (f (Pipeline.arrRef spec0 4)) (ix3 0 0 j) = f main_v3 (ix3 (batch t) 0 j) := by
  refine congrArg (f main_v3) (Att.idx3 ?_ ?_ ?_) <;> blk_simp [at4] <;> simp [ix3] <;> omega

theorem blk5 (t : Fin cfg0.N) (j : Fin 1024) :
    ((cfg0.win 5).blk t).view.read (Elt Ideal) (f (Pipeline.arrRef spec0 5)) (ix2 0 j) = f main_v4 (ix2 0 j) := by
  refine congrArg (f main_v4) (funext fun a => ?_)
  match a with
  | ⟨0, _⟩ => refine Fin.ext ?_; blk_simp [at5]
  | ⟨1, _⟩ => refine Fin.ext ?_; blk_simp [at5]

end

theorem place (t : Fin cfg0.N) (i : Fin 256) (j : Fin 1024) :
    ((cfg0.win 6).blk t).view.emb (ix3 0 i j) = ix3 (batch t) (line t i) j := by
  refine Att.idx3 ?_ ?_ ?_ <;> blk_simp [at6] <;> simp [ix3] <;> omega

theorem cover : (cfg0.win 6).Covers := by decide +kernel

/-! ## What the host code puts in the arrays -/

abbrev argX : S8x4096x1024.Idx → EReal := m ((c : Thread nD τ).loc main_arg0)
abbrev argZ : S8x4096x1024.Idx → EReal := m ((c : Thread nD τ).loc main_arg1)
abbrev argS : S8x4096x1024.Idx → EReal := m ((c : Thread nD τ).loc main_arg2)
abbrev argW : S1024x1024.Idx → EReal := m ((c : Thread nD τ).loc main_arg3)
abbrev argG : S8x3072.Idx → EReal := m ((c : Thread nD τ).loc main_arg4)
abbrev argF : S1024.Idx → EReal := m ((c : Thread nD τ).loc main_arg5)

theorem hostZ (b : Fin 8) (i : Fin 4096) (j : Fin 1024) : V m c main_v0 (ix3 b i j) = argZ m c (ix3 b i j) := by
  unfold V
  after_reads_at

theorem hostS (b : Fin 8) (i : Fin 4096) (j : Fin 1024) : V m c main_v1 (ix3 b i j) = argS m c (ix3 b i j) := by
  unfold V
  after_reads_at

theorem hostW (k j : Fin 1024) : V m c main_v2 (ix2 k j) = argW m c (ix2 k j) := by
  unfold V
  after_reads_at

theorem hostG (b : Fin 8) (j : Fin 3072) : V m c main_v3 (ix3 b 0 j) = argG m c (ix2 b j) := by
  unfold V
  after_reads_at

theorem hostF (j : Fin 1024) : V m c main_v4 (ix2 0 j) = argF m c (ix1 j) := by
  unfold V
  after_reads_at

/-! ## The output -/

/-- A row after the residual. -/
abbrev row (b : Fin 8) (i : Fin 4096) : Fin 1024 → EReal :=
  mixed (fun j => argX m c (ix3 b i j)) (fun j => argG m c (ix2 b ⟨2048 + j.val, by omega⟩))
    (fun k => argZ m c (ix3 b i k)) (fun k => argS m c (ix3 b i k)) (fun k j => argW m c (ix2 k j))

/-- The reference's result (`Cert.LastReferenceIdeal.Elems.ref_is`). -/
abbrev result : S8x4096x1024.Idx → EReal := fun y => elem (row m c (y 0) (y 1)) (fun j => argF m c (ix1 j)) (y 2)

theorem final_at (t : Fin cfg0.N) (i : Fin 256) (j : Fin 1024) :
    out0_6 (iblk m c 0 t) (iblk m c 1 t) (iblk m c 2 t) (iblk m c 3 t) (iblk m c 4 t) (iblk m c 5 t) (ix3 0 i j) =
      result m c (ix3 (batch t) (line t i) j) := by
  refine (out_at _ _ _ _ _ _ i j).trans ?_
  have h0 : ∀ j : Fin 1024, iblk m c 0 t (ix3 0 i j) = argX m c (ix3 (batch t) (line t i) j) := fun j =>
    (blk0 c (V m c) t i j).trans (congrFun (V_main_arg0 m c) _)
  have h1 : ∀ k : Fin 1024, iblk m c 1 t (ix3 0 i k) = argZ m c (ix3 (batch t) (line t i) k) := fun k =>
    (blk1 c (V m c) t i k).trans (hostZ m c _ _ _)
  have h2 : ∀ k : Fin 1024, iblk m c 2 t (ix3 0 i k) = argS m c (ix3 (batch t) (line t i) k) := fun k =>
    (blk2 c (V m c) t i k).trans (hostS m c _ _ _)
  have h3 : ∀ k j : Fin 1024, iblk m c 3 t (ix2 k j) = argW m c (ix2 k j) := fun k j =>
    (blk3 c (V m c) t k j).trans (hostW m c _ _)
  have h4 : ∀ j : Fin 1024, iblk m c 4 t (ix3 0 0 ⟨2048 + j.val, by omega⟩) = argG m c (ix2 (batch t) ⟨2048 + j.val, by omega⟩) := fun j =>
    (blk4 c (V m c) t _).trans (hostG m c _ _)
  have h5 : ∀ j : Fin 1024, iblk m c 5 t (ix2 0 j) = argF m c (ix1 j) := fun j =>
    (blk5 c (V m c) t j).trans (hostF m c _)
  rw [funext h0, funext h1, funext h2, funext h4, funext h5, funext fun k => funext (h3 k)]
  rfl

theorem lane (y : S1x256x1024.Idx) : ∃ (i : Fin 256) (j : Fin 1024), y = ix3 0 i j := by
  have h0 : (y 0).val < 1 := (y 0).isLt
  exact ⟨y 1, y 2, Att.idx3 (by show (y 0).val = 0; omega) rfl rfl⟩

theorem final : (dats m 0 c).arrAt 6 cfg0.N = result m c := by
  refine (dats m 0 c).arrAt_eq_of_covers 6 _ cover fun t _ y => ?_
  blk_simp
  rw [after0_6]
  obtain ⟨i, j, rfl⟩ := lane y
  exact (final_at m c t i j).trans (congrArg (result m c) (place t i j).symm)

end Cert.LastKernelIdeal.Elems

namespace Cert.LastReferenceIdeal.Elems

open Idealize.ShloMosaic Idealize.ShloMosaic.TcCoe Idealize.ShloMosaic.Tactic
open Cert.LastReferenceIdeal Cert.LastReferenceIdeal.Gen

/-- The array after the residual. -/
abbrev mixV (x z s : FVec Ideal S8x4096x1024 .f32) (w : FVec Ideal S1024x1024 .f32) (g : FVec Ideal S8x3072 .f32) : FVec Ideal S8x4096x1024 .f32 :=
  addf x (mulf (broadcastInDim S8x4096x1024 ![0, 1, 2] bcast_S8x1x1024_S8x4096x1024_0_1_2
      (broadcastInDim S8x1x1024 ![0, 2] bcast_S8x1024_S8x1x1024_0_2 (extractStridedSlice S8x1024 ![0, 2048] g slices_S8x3072_S8x1024_0_2048)))
    (Host.dotGeneral dot_S8x4096x1024_S1024x1024_S8x4096x1024_2_0_01_1_n_n none (mulf z s) w))

/-- The norm of its rows. -/
abbrev normV (x : FVec Ideal S8x4096x1024 .f32) (f : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 f))

theorem mixV_at (x z s : FVec Ideal S8x4096x1024 .f32) (w : FVec Ideal S1024x1024 .f32) (g : FVec Ideal S8x3072 .f32)
    (b : Fin 8) (i : Fin 4096) (j : Fin 1024) :
    mixV x z s w g (ix3 b i j) = Cert.LastKernelIdeal.Elems.mixed (fun j => x (ix3 b i j)) (fun j => g (ix2 b ⟨2048 + j.val, by omega⟩))
      (fun k => z (ix3 b i k)) (fun k => s (ix3 b i k)) (fun k j => w (ix2 k j)) j := by
  unfold mixV Cert.LastKernelIdeal.Elems.mixed
  pointwise

theorem normV_at (x : FVec Ideal S8x4096x1024 .f32) (f : FVec Ideal S1024 .f32) (b : Fin 8) (i : Fin 4096) (j : Fin 1024) :
    normV x f (ix3 b i j) = Cert.LastKernelIdeal.Elems.elem (fun j => x (ix3 b i j)) (fun j => f (ix1 j)) j := by
  unfold normV Cert.LastKernelIdeal.Elems.elem
  pointwise

/-- The reference's output, of the kernel's arguments, is the array the kernel leaves. -/
theorem ref_is (m : (ℓ : Loc Cert.LastKernelIdeal.nD Cert.LastKernelIdeal.τ Cert.LastKernelIdeal.sig) → Buf (Elt Ideal) ℓ)
    (c : Dev Cert.LastKernelIdeal.nD) :
    normV (mixV (Cert.LastKernelIdeal.Elems.argX m c) (Cert.LastKernelIdeal.Elems.argZ m c) (Cert.LastKernelIdeal.Elems.argS m c) (Cert.LastKernelIdeal.Elems.argW m c) (Cert.LastKernelIdeal.Elems.argG m c)) (Cert.LastKernelIdeal.Elems.argF m c) = Cert.LastKernelIdeal.Elems.result m c := by
  funext y
  obtain ⟨b, i, j, rfl⟩ : ∃ (b : Fin 8) (i : Fin 4096) (j : Fin 1024), y = ix3 b i j := ⟨y 0, y 1, y 2, Att.idx3 rfl rfl rfl⟩
  refine (normV_at _ _ b i j).trans ?_
  rw [funext fun k => mixV_at _ _ _ _ _ b i k]
  rfl

end Cert.LastReferenceIdeal.Elems
-- ==== Proof.HyenaBody.lean ====
/-
  The Hyena's input call: what the body leaves in its four blocks, element by element.
-/
module

public import proofs.«01_k».proof.Proof.Gen.HyenaKernelIdeal.Value
public import proofs.«01_k».proof.Proof.Mass
public import Idealize.ShloMosaic.Lib.Pointwise

@[expose] public section

set_option maxRecDepth 16384

noncomputable section

namespace Cert.HyenaKernelIdeal.Elems

open Idealize.ShloMosaic Idealize.ShloMosaic.TcCoe Idealize.ShloMosaic.Tactic
open Cert.HyenaKernelIdeal Cert.HyenaKernelIdeal.Gen

/-- A row's norm under the modulation. -/
def modulated (x f s h : Fin 1024 → EReal) (k : Fin 1024) : EReal :=
  x k * Ideal.rsqrt (Ideal.div (∑ j : Fin 1024, x j * x j) (Ideal.ofBits .f32 0x44800000#32) + Ideal.ofBits .f32 0x358637BD#32) * f k *
    (Ideal.ofBits .f32 0x3F800000#32 + s k) + h k

/-- An element of a row's projection. -/
def proj (r w : Fin 1024 → EReal) : EReal := ∑ k : Fin 1024, r k * w k

/-- Three neighbours under the short convolution. -/
def conv3 (p q r c0 c1 c2 b : EReal) : EReal := p * c0 + q * c1 + r * c2 + b

def silu (x : EReal) : EReal := x * Ideal.div (Ideal.ofBits .f32 0x3F800000#32) (Ideal.ofBits .f32 0x3F800000#32 + Ideal.exp (-x))

/-! ## The convolution of one group of lanes -/

abbrev prevV (g : FVec Ideal S528x1024 .f32) : FVec Ideal S512x1024 .f32 :=
  select (cmpi .eq (iota .tc S512x1024 32 [0] iota_S512x1024_d0_w32) (broadcast S512x1024 0#32))
    (broadcastTo S512x1024 (shapeCast S1x1024 (extractStridedSlice S1x1024 ![519, 0] g slices_S528x1024_o519_0_S1x1024) shapeCasts_S1x1024_S1x1024) broadcasts_S1x1024_S512x1024)
    (dynamicRotate 0 1#32 none (extractStridedSlice S512x1024 ![0, 0] g slices_S528x1024_o0_0_S512x1024) rotates_S512x1024_d0)

abbrev nextV (g : FVec Ideal S528x1024 .f32) : FVec Ideal S512x1024 .f32 :=
  select (cmpi .eq (iota .tc S512x1024 32 [0] iota_S512x1024_d0_w32) (broadcast S512x1024 511#32))
    (broadcastTo S512x1024 (shapeCast S1x1024 (extractStridedSlice S1x1024 ![520, 0] g slices_S528x1024_o520_0_S1x1024) shapeCasts_S1x1024_S1x1024) broadcasts_S1x1024_S512x1024)
    (dynamicRotate 0 511#32 none (extractStridedSlice S512x1024 ![0, 0] g slices_S528x1024_o0_0_S512x1024) rotates_S512x1024_d0)

abbrev convV (g : FVec Ideal S528x1024 .f32) (c0 c1 c2 b : FVec Ideal S1x1024 .f32) : FVec Ideal S1x512x1024 .bf16 :=
  shapeCast S1x512x1024 (truncf .bf16 (addf (addf (addf (mulf (prevV g) (broadcastTo S512x1024 c0 broadcasts_S1x1024_S512x1024))
      (mulf (extractStridedSlice S512x1024 ![0, 0] g slices_S528x1024_o0_0_S512x1024) (broadcastTo S512x1024 c1 broadcasts_S1x1024_S512x1024)))
      (mulf (nextV g) (broadcastTo S512x1024 c2 broadcasts_S1x1024_S512x1024)))
      (broadcastTo S512x1024 (shapeCast S1x1024 b shapeCasts_S1x1024_S1x1024) broadcasts_S1x1024_S512x1024)) bitsLt_bf16_f32) shapeCasts_S512x1024_S1x512x1024

/-- A choice by a row's number. -/
theorem pick_at (i n : Nat) (x y : EReal) (hi : i < 2 ^ 32) (hn : n < 2 ^ 32) :
    Scalar.select (IntOp.cmpi .eq (BitVec.ofNat 32 i) (BitVec.ofNat 32 n)) x y = if i = n then x else y := by
  have h : (BitVec.ofNat 32 i == BitVec.ofNat 32 n) = decide (i = n) := by
    refine Bool.eq_iff_iff.mpr ?_
    rw [beq_iff_eq, decide_eq_true_iff]
    refine ⟨fun h => ?_, fun h => by rw [h]⟩
    have := congrArg BitVec.toNat h
    rw [BitVec.toNat_ofNat, BitVec.toNat_ofNat, Nat.mod_eq_of_lt hi, Nat.mod_eq_of_lt hn] at this
    exact this
  unfold IntOp.cmpi
  rw [h, Scalar.select_decide]

theorem prevV_at (g : FVec Ideal S528x1024 .f32) (i : Fin 512) (j : Fin 1024) :
    prevV g (ix2 i j) = if i.val = 0 then g (ix2 ⟨519, by omega⟩ j) else g (ix2 ⟨i.val - 1, by omega⟩ j) := by
  pointwise
  rw [pick_at _ _ _ _ (by omega) (by omega)]
  by_cases h : i.val = 0
  · rw [if_pos h, if_pos h]
  · rw [if_neg h, if_neg h]
    exact congrArg (fun r => g (ix2 r j)) (Fin.ext (by show (i.val + 512 - 1) % 512 = i.val - 1; omega))

theorem nextV_at (g : FVec Ideal S528x1024 .f32) (i : Fin 512) (j : Fin 1024) :
    nextV g (ix2 i j) = if i.val = 511 then g (ix2 ⟨520, by omega⟩ j) else g (ix2 ⟨i.val + 1, by omega⟩ j) := by
  pointwise
  rw [pick_at _ _ _ _ (by omega) (by omega)]
  by_cases h : i.val = 511
  · rw [if_pos h, if_pos h]
  · rw [if_neg h, if_neg h]
    exact congrArg (fun r => g (ix2 r j)) (Fin.ext (by show (i.val + 512 - 511) % 512 = i.val + 1; omega))

theorem convV_at (g : FVec Ideal S528x1024 .f32) (c0 c1 c2 b : FVec Ideal S1x1024 .f32) (i : Fin 512) (j : Fin 1024) :
    convV g c0 c1 c2 b (ix3 0 i j) = conv3 (prevV g (ix2 i j)) (g (ix2 ⟨i.val, by omega⟩ j)) (nextV g (ix2 i j))
      (c0 (ix2 0 j)) (c1 (ix2 0 j)) (c2 (ix2 0 j)) (b (ix2 0 j)) := by
  have h : ∀ p r : FVec Ideal S512x1024 .f32, shapeCast S1x512x1024 (truncf .bf16 (addf (addf (addf (mulf p (broadcastTo S512x1024 c0 broadcasts_S1x1024_S512x1024))
      (mulf (extractStridedSlice S512x1024 ![0, 0] g slices_S528x1024_o0_0_S512x1024) (broadcastTo S512x1024 c1 broadcasts_S1x1024_S512x1024)))
      (mulf r (broadcastTo S512x1024 c2 broadcasts_S1x1024_S512x1024)))
      (broadcastTo S512x1024 (shapeCast S1x1024 b shapeCasts_S1x1024_S1x1024) broadcasts_S1x1024_S512x1024)) bitsLt_bf16_f32 : FVec Ideal S512x1024 .bf16)
        shapeCasts_S512x1024_S1x512x1024 (ix3 0 i j) = conv3 (p (ix2 i j)) (g (ix2 ⟨i.val, by omega⟩ j)) (r (ix2 i j))
      (c0 (ix2 0 j)) (c1 (ix2 0 j)) (c2 (ix2 0 j)) (b (ix2 0 j)) := by
    intro p r
    unfold conv3
    pointwise
  exact h (prevV g) (nextV g)

abbrev dotV (v : FVec Ideal S528x1024 .bf16) (w : FVec Ideal S1024x1024 .bf16) : FVec Ideal S528x1024 .f32 :=
  matmul dot_S528x1024_S1024x1024_S528x1024_1_0_0_1_n_n none v (shapeCast S1024x1024 w shapeCasts_S1024x1024_S1024x1024) (constant S528x1024 .f32 0x00000000#32)

theorem dotV_at (v : FVec Ideal S528x1024 .bf16) (w : FVec Ideal S1024x1024 .bf16) (i : Fin 528) (j : Fin 1024) :
    dotV v w (ix2 i j) = proj (fun k => v (ix2 i k)) (fun k => w (ix2 k j)) := by
  unfold proj
  pointwise

theorem pay8_own (a : BitVec 32) (v2 v3 : FVec Ideal S1x1024 .f32) (v30 v32 : FVec Ideal S8x1024 .f32) (v37 v38 : FVec Ideal S8x1 .f32)
    (v43 : Vec Ideal S1x1024 .f32) (x : Vec Ideal S1x512x1024 .f32) (f : Vec Ideal S1x1024 .f32) (r : Fin 512) (k : Fin 1024) :
    k0_pay8 a v2 v3 v30 v32 v37 v38 v43 x f (ix2 ⟨r.val, by omega⟩ k) =
      modulated (fun k => x (ix3 0 r k)) (fun k => f (ix2 0 k)) (fun k => v3 (ix2 0 k)) (fun k => v2 (ix2 0 k)) k := by
  unfold k0_pay8 modulated
  pointwise

theorem pay8_prev (a : BitVec 32) (v2 v3 : FVec Ideal S1x1024 .f32) (v30 v32 : FVec Ideal S8x1024 .f32) (v37 v38 : FVec Ideal S8x1 .f32)
    (v43 : Vec Ideal S1x1024 .f32) (x : Vec Ideal S1x512x1024 .f32) (f : Vec Ideal S1x1024 .f32) (k : Fin 1024) :
    k0_pay8 a v2 v3 v30 v32 v37 v38 v43 x f (ix2 ⟨519, by omega⟩ k) = v30 (ix2 7 k) := by
  unfold k0_pay8
  pointwise

/-- One where a program has a block before its own, zero where it has none. -/
abbrev flagPrev (a : BitVec 32) : EReal := Scalar.sitofp (F := Ideal) .f32 (Scalar.extui (Scalar.cmpi .sgt a 0#32) : BitVec 32)

/-- One where a program has a block after its own, zero where it has none. -/
abbrev flagNext (a : BitVec 32) : EReal := Scalar.sitofp (F := Ideal) .f32 (Scalar.extui (Scalar.cmpi .slt a 7#32) : BitVec 32)

theorem flagPrev_at (n : Fin 8) : flagPrev (BitVec.ofNat 32 n.val) = if 0 < n.val then 1 else 0 := by
  have h : ∀ n : Fin 8, (Scalar.extui (Scalar.cmpi .sgt (BitVec.ofNat 32 n.val) 0#32) : BitVec 32) = if 0 < n.val then 1#32 else 0#32 := by decide +kernel
  unfold flagPrev
  rw [h n]
  split
  · pointwise
    rw [show (1#32 : BitVec 32).toInt = 1 by decide]
    norm_num
  · pointwise
    rw [show (0#32 : BitVec 32).toInt = 0 by decide]
    norm_num

theorem flagNext_at (n : Fin 8) : flagNext (BitVec.ofNat 32 n.val) = if n.val < 7 then 1 else 0 := by
  have h : ∀ n : Fin 8, (Scalar.extui (Scalar.cmpi .slt (BitVec.ofNat 32 n.val) 7#32) : BitVec 32) = if n.val < 7 then 1#32 else 0#32 := by decide +kernel
  unfold flagNext
  rw [h n]
  split
  · pointwise
    rw [show (1#32 : BitVec 32).toInt = 1 by decide]
    norm_num
  · pointwise
    rw [show (0#32 : BitVec 32).toInt = 0 by decide]
    norm_num

/-- A row's norm under the modulation a batch row's parameters give. -/
def modRow (x f : Fin 1024 → EReal) (g : Fin 3072 → EReal) : Fin 1024 → EReal :=
  modulated x f (fun k => g ⟨1024 + k.val, by omega⟩) (fun k => g ⟨k.val, by omega⟩)

theorem pay4_at (i : grid0.Coords) (g : Vec Ideal S1x1x3072 .f32) (x : Vec Ideal S1x8x1024 .f32) (f : Vec Ideal S1x1024 .f32) (k : Fin 1024) :
    k0_pay4 i g x f (ix2 7 k) = modRow (fun k => x (ix3 0 7 k)) (fun k => f (ix2 0 k)) (fun k => g (ix3 0 0 k)) k * flagPrev (BitVec.ofNat 32 (i 1).val) := by
  unfold k0_pay4 k0_pay3 k0_pay2 k0_pay1 modRow modulated
  pointwise

theorem pay8_next (a : BitVec 32) (g : Vec Ideal S1x1x3072 .f32) (v30 : FVec Ideal S8x1024 .f32) (z : Vec Ideal S1x8x1024 .f32)
    (v43 : Vec Ideal S1x1024 .f32) (x : Vec Ideal S1x512x1024 .f32) (f : Vec Ideal S1x1024 .f32) (k : Fin 1024) :
    k0_pay8 a (k0_pay2 g) (k0_pay3 g) v30 (k0_pay5 z) (k0_pay6 z) k0_pay7 v43 x f (ix2 ⟨520, by omega⟩ k) =
      modRow (fun k => z (ix3 0 0 k)) (fun k => v43 (ix2 0 k)) (fun k => g (ix3 0 0 k)) k * flagNext a := by
  unfold k0_pay8 k0_pay7 k0_pay6 k0_pay5 k0_pay3 k0_pay2 k0_pay1 modRow modulated
  pointwise

/-- An element of the projection of a row's modulated norm. -/
def rowP (x f : Fin 1024 → EReal) (g : Fin 3072 → EReal) (w : Fin 1024 → EReal) : EReal := proj (modRow x f g) w

theorem proj_flag (r w : Fin 1024 → EReal) (p : Prop) [Decidable p] :
    proj (fun k => r k * (if p then 1 else 0)) w = if p then proj r w else 0 := by
  unfold proj
  split
  · exact Finset.sum_congr rfl fun k _ => by show r k * 1 * w k = _; rw [mul_one]
  · exact Finset.sum_eq_zero fun k _ => by show r k * 0 * w k = _; rw [mul_zero, zero_mul]

section
variable (i : grid0.Coords) (x0 : Vec Ideal S1x512x1024 .f32) (x1 x2 : Vec Ideal S1x8x1024 .f32) (x3 : Vec Ideal S1x1x3072 .f32)
  (x4 : Vec Ideal S1x1024 .f32) (x5 : Vec Ideal S1024x4096 .bf16) (x6 : Vec Ideal S3x3072 .f32) (x7 : Vec Ideal S1x3072 .f32)

/-- The modulated rows a program projects: its own, the block's before, the block's after. -/
abbrev rowsV : FVec Ideal S528x1024 .bf16 :=
  k0_pay8 (BitVec.ofNat 32 (i 1).val) (k0_pay2 x3) (k0_pay3 x3) (k0_pay4 i x3 x1 x4) (k0_pay5 x2) (k0_pay6 x2) k0_pay7 x4 x0 x4

/-- An element of the projection of a block's row, by the program's own norm and modulation. -/
abbrev blockP (w : Fin 1024 → EReal) (x : Fin 1024 → EReal) : EReal := rowP x (fun k => x4 (ix2 0 k)) (fun k => x3 (ix3 0 0 k)) w

theorem dot_own (w : FVec Ideal S1024x1024 .bf16) (r : Fin 512) (j : Fin 1024) :
    dotV (rowsV i x0 x1 x2 x3 x4) w (ix2 ⟨r.val, by omega⟩ j) = blockP x3 x4 (fun k => w (ix2 k j)) (fun k => x0 (ix3 0 r k)) := by
  refine (dotV_at _ _ _ _).trans (congrArg (fun r => proj r _) (funext fun k => ?_))
  refine (pay8_own _ _ _ _ _ _ _ _ _ _ r k).trans ?_
  unfold modRow k0_pay3 k0_pay2 k0_pay1
  pointwise

theorem dot_prev (w : FVec Ideal S1024x1024 .bf16) (j : Fin 1024) :
    dotV (rowsV i x0 x1 x2 x3 x4) w (ix2 ⟨519, by omega⟩ j) =
      if 0 < (i 1).val then blockP x3 x4 (fun k => w (ix2 k j)) (fun k => x1 (ix3 0 7 k)) else 0 := by
  refine (dotV_at _ _ _ _).trans ?_
  unfold rowsV blockP rowP
  rw [← proj_flag, ← flagPrev_at (i 1)]
  exact congrArg (fun r => proj r _) (funext fun k => (pay8_prev _ _ _ _ _ _ _ _ _ _ k).trans (pay4_at i x3 x1 x4 k))

theorem dot_next (w : FVec Ideal S1024x1024 .bf16) (j : Fin 1024) :
    dotV (rowsV i x0 x1 x2 x3 x4) w (ix2 ⟨520, by omega⟩ j) =
      if (i 1).val < 7 then blockP x3 x4 (fun k => w (ix2 k j)) (fun k => x2 (ix3 0 0 k)) else 0 := by
  refine (dotV_at _ _ _ _).trans ?_
  unfold rowsV blockP rowP
  rw [← proj_flag, ← flagNext_at (i 1)]
  exact congrArg (fun r => proj r _) (funext fun k => pay8_next _ x3 _ x2 x4 x0 x4 k)

/-- A block's row under the convolution: its neighbours are the block's rows or the next blocks', or zero past the sequence's ends. -/
def blockConv (w : Fin 1024 → EReal) (c0 c1 c2 b : EReal) (r : Fin 512) : EReal :=
  conv3 (if r.val = 0 then (if 0 < (i 1).val then blockP x3 x4 w (fun k => x1 (ix3 0 7 k)) else 0)
      else blockP x3 x4 w (fun k => x0 (ix3 0 ⟨r.val - 1, by omega⟩ k)))
    (blockP x3 x4 w (fun k => x0 (ix3 0 r k)))
    (if h : r.val = 511 then (if (i 1).val < 7 then blockP x3 x4 w (fun k => x2 (ix3 0 0 k)) else 0)
      else blockP x3 x4 w (fun k => x0 (ix3 0 ⟨r.val + 1, by omega⟩ k))) c0 c1 c2 b

theorem conv_at (w : FVec Ideal S1024x1024 .bf16) (c0 c1 c2 b : FVec Ideal S1x1024 .f32) (r : Fin 512) (j : Fin 1024) :
    convV (dotV (rowsV i x0 x1 x2 x3 x4) w) c0 c1 c2 b (ix3 0 r j) =
      blockConv i x0 x1 x2 x3 x4 (fun k => w (ix2 k j)) (c0 (ix2 0 j)) (c1 (ix2 0 j)) (c2 (ix2 0 j)) (b (ix2 0 j)) r := by
  rw [convV_at, prevV_at, nextV_at, dot_prev, dot_next, dot_own]
  unfold blockConv
  by_cases h0 : r.val = 0
  · have h1 : ¬ r.val = 511 := by omega
    rw [if_pos h0, if_pos h0, if_neg h1, dif_neg h1]
    exact congrArg (fun y => conv3 _ _ y _ _ _ _) (dot_own i x0 x1 x2 x3 x4 w ⟨r.val + 1, by omega⟩ j)
  · rw [if_neg h0, if_neg h0]
    have hp := dot_own i x0 x1 x2 x3 x4 w ⟨r.val - 1, by omega⟩ j
    by_cases h1 : r.val = 511
    · rw [if_pos h1, dif_pos h1]
      exact congrArg (fun y => conv3 y _ _ _ _ _ _) hp
    · rw [if_neg h1, dif_neg h1]
      have hn := dot_own i x0 x1 x2 x3 x4 w ⟨r.val + 1, by omega⟩ j
      exact congrArg₂ (fun y z => conv3 y _ z _ _ _ _) hp hn

theorem pay20_at (v : FVec Ideal S528x1024 .bf16) (w : FVec Ideal S1024x1024 .bf16) (r : Fin 512) (j : Fin 1024) :
    k0_pay20 v w (ix3 0 r j) = silu (dotV v w (ix2 ⟨r.val, by omega⟩ j)) := by
  have h : ∀ g : FVec Ideal S528x1024 .f32, matmul dot_S528x1024_S1024x1024_S528x1024_1_0_0_1_n_n none v
      (shapeCast S1024x1024 w shapeCasts_S1024x1024_S1024x1024) (constant S528x1024 .f32 0x00000000#32) = g →
      k0_pay20 v w (ix3 0 r j) = silu (g (ix2 ⟨r.val, by omega⟩ j)) := by
    rintro g hg
    unfold k0_pay20 silu
    rw [hg]
    pointwise
    rw [zero_sub]
  exact h _ rfl

/-! Blocks read whole, and the groups of lanes. -/

theorem idx2 {n k : Nat} {y : (⟨2, ![n, k]⟩ : Shape).Idx} {a : Fin n} {b : Fin k} (h0 : (y 0).val = a.val) (h1 : (y 1).val = b.val) : y = ix2 a b := by
  funext l
  match l with
  | ⟨0, _⟩ => exact Fin.ext h0
  | ⟨1, _⟩ => exact Fin.ext h1

theorem ld3 : View.ld x3 r0_0 = x3 := funext fun y => congrArg x3 (Att.idx3 (by show 0 + 1 * _ = _; omega) (by show 0 + 1 * _ = _; omega) (by show 0 + 1 * _ = _; omega))
theorem ld1 : View.ld x1 r0_1 = x1 := funext fun y => congrArg x1 (Att.idx3 (by show 0 + 1 * _ = _; omega) (by show 0 + 1 * _ = _; omega) (by show 0 + 1 * _ = _; omega))
theorem whole3 (y : S1x512x1024.Idx) : r0_3.idx y = y := Att.idx3 (by show 0 + 1 * _ = _; omega) (by show 0 + 1 * _ = _; omega) (by show 0 + 1 * _ = _; omega)
theorem ld0 : View.ld x0 r0_3 = x0 := funext fun y => congrArg x0 (whole3 y)
theorem ld4 : View.ld x4 r0_2 = x4 := funext fun y => congrArg x4 (by
  funext a
  match a with
  | ⟨0, _⟩ => exact Fin.ext (by show 0 + 1 * _ = _; omega)
  | ⟨1, _⟩ => exact Fin.ext (by show 0 + 1 * _ = _; omega))
theorem ld6 : View.ld x6 r0_4 = x6 := funext fun y => congrArg x6 (by
  funext a
  match a with
  | ⟨0, _⟩ => exact Fin.ext (by show 0 + 1 * _ = _; omega)
  | ⟨1, _⟩ => exact Fin.ext (by show 0 + 1 * _ = _; omega))

theorem rows_is : k0_pay22 i x0 x1 x2 x3 x4 x5 x6 x7 = rowsV i x0 x1 x2 x3 x4 := by
  unfold k0_pay22 rowsV
  rw [ld3, ld1, ld1, ld0, ld4]

/-- A block's row under the convolution, in a lane of the three convolved groups. -/
def laneConv (j : Fin 3072) (r : Fin 512) : EReal :=
  blockConv i x0 x1 x2 x3 x4 (fun k => x5 (ix2 k ⟨j.val, by omega⟩)) (x6 (ix2 0 j)) (x6 (ix2 1 j)) (x6 (ix2 2 j)) (x7 (ix2 0 j)) r

theorem out8_at (r : Fin 512) (j : Fin 1024) :
    out0_8 i x0 x1 x2 x3 x4 x5 x6 x7 (ix3 0 r j) = laneConv i x0 x1 x2 x3 x4 x5 x6 x7 ⟨j.val, by omega⟩ r := by
  refine (View.canon_apply_of_pieces (Val := Elt Ideal) (convV (dotV (rowsV i x0 x1 x2 x3 x4) (View.ld x5 r0_5))
    (extractStridedSlice S1x1024 ![0, 0] x6 slices_S3x3072_o0_0_S1x1024) (extractStridedSlice S1x1024 ![1, 0] x6 slices_S3x3072_o1_0_S1x1024)
    (extractStridedSlice S1x1024 ![2, 0] x6 slices_S3x3072_o2_0_S1x1024) (View.ld x7 r0_6)) _ ?_ _ (cover0_8 _ _)).trans ?_
  · intro pc hpc
    rw [rows_is, ld6] at hpc
    rcases List.mem_cons.mp hpc with rfl | hpc
    · exact fun y => congrArg (convV (dotV (rowsV i x0 x1 x2 x3 x4) (View.ld x5 r0_5)) _ _ _ _) (whole3 y).symm
    nomatch hpc
  · have hw : ∀ k : Fin 1024, View.ld x5 r0_5 (ix2 k j) = x5 (ix2 k ⟨j.val, by omega⟩) := fun k =>
      congrArg x5 (idx2 (by show 0 + 1 * k.val = _; omega) (by show 0 + 1 * j.val = j.val; omega))
    have hb : View.ld x7 r0_6 (ix2 0 j) = x7 (ix2 0 ⟨j.val, by omega⟩) :=
      congrArg x7 (idx2 (by show 0 + 1 * 0 = 0; omega) (by show 0 + 1 * j.val = j.val; omega))
    rw [conv_at, funext hw, hb]
    unfold laneConv
    pointwise

theorem out9_at (r : Fin 512) (j : Fin 1024) :
    out0_9 i x0 x1 x2 x3 x4 x5 x6 x7 (ix3 0 r j) = laneConv i x0 x1 x2 x3 x4 x5 x6 x7 ⟨1024 + j.val, by omega⟩ r := by
  refine (View.canon_apply_of_pieces (Val := Elt Ideal) (convV (dotV (rowsV i x0 x1 x2 x3 x4) (View.ld x5 r0_7))
    (extractStridedSlice S1x1024 ![0, 1024] x6 slices_S3x3072_o0_1024_S1x1024) (extractStridedSlice S1x1024 ![1, 1024] x6 slices_S3x3072_o1_1024_S1x1024)
    (extractStridedSlice S1x1024 ![2, 1024] x6 slices_S3x3072_o2_1024_S1x1024) (View.ld x7 r0_8)) _ ?_ _ (cover0_9 _ _)).trans ?_
  · intro pc hpc
    rw [rows_is, ld6] at hpc
    rcases List.mem_cons.mp hpc with rfl | hpc
    · exact fun y => congrArg (convV (dotV (rowsV i x0 x1 x2 x3 x4) (View.ld x5 r0_7)) _ _ _ _) (whole3 y).symm
    nomatch hpc
  · have hw : ∀ k : Fin 1024, View.ld x5 r0_7 (ix2 k j) = x5 (ix2 k ⟨1024 + j.val, by omega⟩) := fun k =>
      congrArg x5 (idx2 (by show 0 + 1 * k.val = _; omega) (by show 1024 + 1 * j.val = 1024 + j.val; omega))
    have hb : View.ld x7 r0_8 (ix2 0 j) = x7 (ix2 0 ⟨1024 + j.val, by omega⟩) :=
      congrArg x7 (idx2 (by show 0 + 1 * 0 = 0; omega) (by show 1024 + 1 * j.val = 1024 + j.val; omega))
    rw [conv_at, funext hw, hb]
    unfold laneConv
    pointwise

theorem out10_at (r : Fin 512) (j : Fin 1024) :
    out0_10 i x0 x1 x2 x3 x4 x5 x6 x7 (ix3 0 r j) = laneConv i x0 x1 x2 x3 x4 x5 x6 x7 ⟨2048 + j.val, by omega⟩ r := by
  refine (View.canon_apply_of_pieces (Val := Elt Ideal) (convV (dotV (rowsV i x0 x1 x2 x3 x4) (View.ld x5 r0_9))
    (extractStridedSlice S1x1024 ![0, 2048] x6 slices_S3x3072_o0_2048_S1x1024) (extractStridedSlice S1x1024 ![1, 2048] x6 slices_S3x3072_o1_2048_S1x1024)
    (extractStridedSlice S1x1024 ![2, 2048] x6 slices_S3x3072_o2_2048_S1x1024) (View.ld x7 r0_10)) _ ?_ _ (cover0_10 _ _)).trans ?_
  · intro pc hpc
    rw [rows_is, ld6] at hpc
    rcases List.mem_cons.mp hpc with rfl | hpc
    · exact fun y => congrArg (convV (dotV (rowsV i x0 x1 x2 x3 x4) (View.ld x5 r0_9)) _ _ _ _) (whole3 y).symm
    nomatch hpc
  · have hw : ∀ k : Fin 1024, View.ld x5 r0_9 (ix2 k j) = x5 (ix2 k ⟨2048 + j.val, by omega⟩) := fun k =>
      congrArg x5 (idx2 (by show 0 + 1 * k.val = _; omega) (by show 2048 + 1 * j.val = 2048 + j.val; omega))
    have hb : View.ld x7 r0_10 (ix2 0 j) = x7 (ix2 0 ⟨2048 + j.val, by omega⟩) :=
      congrArg x7 (idx2 (by show 0 + 1 * 0 = 0; omega) (by show 2048 + 1 * j.val = 2048 + j.val; omega))
    rw [conv_at, funext hw, hb]
    unfold laneConv
    pointwise

theorem out11_at (r : Fin 512) (j : Fin 1024) :
    out0_11 i x0 x1 x2 x3 x4 x5 x6 x7 (ix3 0 r j) =
      silu (blockP x3 x4 (fun k => x5 (ix2 k ⟨3072 + j.val, by omega⟩)) (fun k => x0 (ix3 0 r k))) := by
  refine (View.canon_apply_of_pieces (Val := Elt Ideal) (k0_pay20 (rowsV i x0 x1 x2 x3 x4) (View.ld x5 r0_11)) _ ?_ _ (cover0_11 _ _)).trans ?_
  · intro pc hpc
    rw [rows_is] at hpc
    rcases List.mem_cons.mp hpc with rfl | hpc
    · exact fun y => congrArg (k0_pay20 (rowsV i x0 x1 x2 x3 x4) (View.ld x5 r0_11)) (whole3 y).symm
    nomatch hpc
  · have hw : ∀ k : Fin 1024, View.ld x5 r0_11 (ix2 k j) = x5 (ix2 k ⟨3072 + j.val, by omega⟩) := fun k =>
      congrArg x5 (idx2 (by show 0 + 1 * k.val = _; omega) (by show 3072 + 1 * j.val = 3072 + j.val; omega))
    rw [pay20_at, dot_own, funext hw]

end

end Cert.HyenaKernelIdeal.Elems
-- ==== Proof.HyenaValue.lean ====
/-
  The Hyena's input call: the four output arrays after the run, element by element.
-/
module

public import proofs.«01_k».proof.Proof.HyenaBody
public import Idealize.ShloMosaic.Lib.StableHlo.ReadAt
public import Idealize.ShloMosaic.Lib.Pipeline.ValueKit.Geometry

@[expose] public section

set_option maxRecDepth 16384

noncomputable section

namespace Cert.HyenaKernelIdeal.Elems

open Idealize.ShloMosaic Idealize.ShloMosaic.TcCoe Idealize.ShloMosaic.Tactic Idealize.SL.Sem
open Cert.HyenaKernelIdeal Cert.HyenaKernelIdeal.Gen

/-- A sequence's row under the convolution: zeros stand past its ends. -/
def seqConv (p : Fin 4096 → EReal) (c0 c1 c2 b : EReal) (l : Fin 4096) : EReal :=
  conv3 (if l.val = 0 then 0 else p ⟨l.val - 1, by omega⟩) (p l) (if h : l.val = 4095 then 0 else p ⟨l.val + 1, by omega⟩) c0 c1 c2 b

/-! ## Where a grid point's blocks lie in their arrays -/

theorem points : cfg0.N = 64 := by decide +kernel

/-- A point is a batch row and a tile of rows, the tile counting fastest. -/
theorem at0 : ∀ t : Fin cfg0.N, win0_0.index t = ![t.val / 8, t.val % 8, 0] := by decide +kernel
theorem at1 : ∀ t : Fin cfg0.N, win0_1.index t = ![t.val / 8, 64 * (t.val % 8) - 1, 0] := by decide +kernel
theorem at2 : ∀ t : Fin cfg0.N, win0_2.index t = ![t.val / 8, min (64 * (t.val % 8) + 64) 511, 0] := by decide +kernel
theorem at3 : ∀ t : Fin cfg0.N, win0_3.index t = ![t.val / 8, 0, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![t.val / 8, t.val % 8, 0] := by decide +kernel
theorem at9 : ∀ t : Fin cfg0.N, win0_9.index t = ![t.val / 8, t.val % 8, 0] := by decide +kernel
theorem at10 : ∀ t : Fin cfg0.N, win0_10.index t = ![t.val / 8, t.val % 8, 0] := by decide +kernel
theorem at11 : ∀ t : Fin cfg0.N, win0_11.index t = ![t.val / 8, t.val % 8, 0] := by decide +kernel
theorem tile : ∀ t : Fin cfg0.N, ((grid0.coords t) 1).val = t.val % 8 := by decide +kernel

variable (m : (ℓ : Loc nD τ sig) → Buf (Elt Ideal) ℓ) (c : Dev nD)

abbrev batch (t : Fin cfg0.N) : Fin 8 := ⟨t.val / 8, by have := Nat.lt_of_lt_of_eq t.isLt points; omega⟩

abbrev line (t : Fin cfg0.N) (i : Fin 512) : Fin 4096 := ⟨512 * (t.val % 8) + i.val, by omega⟩

section
variable (f : (b : Ref sig .tc) → Buf (Elt Ideal) ((c : Thread nD τ).loc b))

/-! A block's element is the array's, where the block puts it. -/

theorem blk0 (t : Fin cfg0.N) (i : Fin 512) (j : Fin 1024) :
    ((cfg0.win 0).blk t).view.read (Elt Ideal) (f (Pipeline.arrRef spec0 0)) (ix3 0 i j) = f main_arg0 (ix3 (batch t) (line t i) j) := by
  refine congrArg (f main_arg0) (Att.idx3 ?_ ?_ ?_) <;> blk_simp [at0] <;> simp [ix3] <;> omega

/-- The last row before a tile. -/
theorem blk1 (t : Fin cfg0.N) (h : 0 < t.val % 8) (j : Fin 1024) :
    ((cfg0.win 1).blk t).view.read (Elt Ideal) (f (Pipeline.arrRef spec0 1)) (ix3 0 7 j) =
      f main_arg0 (ix3 (batch t) ⟨512 * (t.val % 8) - 1, by omega⟩ j) := by
  refine congrArg (f main_arg0) (Att.idx3 ?_ ?_ ?_) <;> blk_simp [at1] <;> simp [ix3] <;> omega

/-- The first row after a tile. -/
theorem blk2 (t : Fin cfg0.N) (h : t.val % 8 < 7) (j : Fin 1024) :
    ((cfg0.win 2).blk t).view.read (Elt Ideal) (f (Pipeline.arrRef spec0 2)) (ix3 0 0 j) =
      f main_arg0 (ix3 (batch t) ⟨512 * (t.val % 8) + 512, by omega⟩ j) := by
  refine congrArg (f main_arg0) (Att.idx3 ?_ ?_ ?_) <;> blk_simp [at2] <;> simp [ix3] <;> omega

theorem blk3 (t : Fin cfg0.N) (j : Fin 3072) :
    ((cfg0.win 3).blk t).view.read (Elt Ideal) (f (Pipeline.arrRef spec0 3)) (ix3 0 0 j) = f main_v0 (ix3 (batch t) 0 j) := by
  refine congrArg (f main_v0) (Att.idx3 ?_ ?_ ?_) <;> blk_simp [at3] <;> simp [ix3] <;> omega

theorem blk4 (t : Fin cfg0.N) (j : Fin 1024) :
    ((cfg0.win 4).blk t).view.read (Elt Ideal) (f (Pipeline.arrRef spec0 4)) (ix2 0 j) = f main_v1 (ix2 0 j) := by
  refine congrArg (f main_v1) (idx2 ?_ ?_) <;> blk_simp [at4]

theorem blk5 (t : Fin cfg0.N) (k : Fin 1024) (j : Fin 4096) :
    ((cfg0.win 5).blk t).view.read (Elt Ideal) (f (Pipeline.arrRef spec0 5)) (ix2 k j) = f main_v2 (ix2 k j) := by
  refine congrArg (f main_v2) (idx2 ?_ ?_) <;> blk_simp [at5]

theorem blk6 (t : Fin cfg0.N) (k : Fin 3) (j : Fin 3072) :
    ((cfg0.win 6).blk t).view.read (Elt Ideal) (f (Pipeline.arrRef spec0 6)) (ix2 k j) = f main_arg4 (ix2 k j) := by
  refine congrArg (f main_arg4) (idx2 ?_ ?_) <;> blk_simp [at6]

theorem blk7 (t : Fin cfg0.N) (j : Fin 3072) :
    ((cfg0.win 7).blk t).view.read (Elt Ideal) (f (Pipeline.arrRef spec0 7)) (ix2 0 j) = f main_v3 (ix2 0 j) := by
  refine congrArg (f main_v3) (idx2 ?_ ?_) <;> blk_simp [at7]

end

theorem place8 (t : Fin cfg0.N) (i : Fin 512) (j : Fin 1024) :
    ((cfg0.win 8).blk t).view.emb (ix3 0 i j) = ix3 (batch t) (line t i) j := by
  refine Att.idx3 ?_ ?_ ?_ <;> blk_simp [at8] <;> simp [ix3] <;> omega

theorem place9 (t : Fin cfg0.N) (i : Fin 512) (j : Fin 1024) :
    ((cfg0.win 9).blk t).view.emb (ix3 0 i j) = ix3 (batch t) (line t i) j := by
  refine Att.idx3 ?_ ?_ ?_ <;> blk_simp [at9] <;> simp [ix3] <;> omega

theorem place10 (t : Fin cfg0.N) (i : Fin 512) (j : Fin 1024) :
    ((cfg0.win 10).blk t).view.emb (ix3 0 i j) = ix3 (batch t) (line t i) j := by
  refine Att.idx3 ?_ ?_ ?_ <;> blk_simp [at10] <;> simp [ix3] <;> omega

theorem place11 (t : Fin cfg0.N) (i : Fin 512) (j : Fin 1024) :
    ((cfg0.win 11).blk t).view.emb (ix3 0 i j) = ix3 (batch t) (line t i) j := by
  refine Att.idx3 ?_ ?_ ?_ <;> blk_simp [at11] <;> simp [ix3] <;> omega

theorem cover8 : (cfg0.win 8).Covers := by decide +kernel
theorem cover9 : (cfg0.win 9).Covers := by decide +kernel
theorem cover10 : (cfg0.win 10).Covers := by decide +kernel
theorem cover11 : (cfg0.win 11).Covers := by decide +kernel

/-! ## What the host code puts in the arrays -/

abbrev argX : S8x4096x1024.Idx → EReal := m ((c : Thread nD τ).loc main_arg0)
abbrev argG : S8x3072.Idx → EReal := m ((c : Thread nD τ).loc main_arg1)
abbrev argF : S1024.Idx → EReal := m ((c : Thread nD τ).loc main_arg2)
abbrev argW : S1024x4096.Idx → EReal := m ((c : Thread nD τ).loc main_arg3)
abbrev argC : S3x3072.Idx → EReal := m ((c : Thread nD τ).loc main_arg4)
abbrev argB : S3072.Idx → EReal := m ((c : Thread nD τ).loc main_arg5)

theorem hostG (b : Fin 8) (j : Fin 3072) : V m c main_v0 (ix3 b 0 j) = argG m c (ix2 b j) := by
  unfold V
  after_reads_at

theorem hostF (j : Fin 1024) : V m c main_v1 (ix2 0 j) = argF m c (ix1 j) := by
  unfold V
  after_reads_at

theorem hostW (k : Fin 1024) (j : Fin 4096) : V m c main_v2 (ix2 k j) = argW m c (ix2 k j) := by
  unfold V
  after_reads_at

theorem hostB (j : Fin 3072) : V m c main_v3 (ix2 0 j) = argB m c (ix1 j) := by
  unfold V
  after_reads_at

/-! ## The outputs -/

/-- A lane of a batch row's projection, by row. -/
abbrev seqP (b : Fin 8) (j : Fin 4096) (l : Fin 4096) : EReal :=
  rowP (fun k => argX m c (ix3 b l k)) (fun k => argF m c (ix1 k)) (fun k => argG m c (ix2 b k)) (fun k => argW m c (ix2 k j))

/-- A lane of the three convolved groups. -/
abbrev convAt (b : Fin 8) (j : Fin 3072) (l : Fin 4096) : EReal :=
  seqConv (seqP m c b ⟨j.val, by omega⟩) (argC m c (ix2 0 j)) (argC m c (ix2 1 j)) (argC m c (ix2 2 j)) (argB m c (ix1 j)) l

abbrev result8 : S8x4096x1024.Idx → EReal := fun y => convAt m c (y 0) ⟨(y 2).val, by have : (y 2).val < 1024 := (y 2).isLt; omega⟩ (y 1)
abbrev result9 : S8x4096x1024.Idx → EReal := fun y => convAt m c (y 0) ⟨1024 + (y 2).val, by have : (y 2).val < 1024 := (y 2).isLt; omega⟩ (y 1)
abbrev result10 : S8x4096x1024.Idx → EReal := fun y => convAt m c (y 0) ⟨2048 + (y 2).val, by have : (y 2).val < 1024 := (y 2).isLt; omega⟩ (y 1)
abbrev result11 : S8x4096x1024.Idx → EReal := fun y => silu (seqP m c (y 0) ⟨3072 + (y 2).val, by have : (y 2).val < 1024 := (y 2).isLt; omega⟩ (y 1))

theorem block_own (t : Fin cfg0.N) (j : Fin 4096) (i : Fin 512) :
    blockP (iblk m c 3 t) (iblk m c 4 t) (fun k => (iblk m c 5 t : Vec Ideal S1024x4096 .bf16) (ix2 k j)) (fun k => (iblk m c 0 t : Vec Ideal S1x512x1024 .f32) (ix3 0 i k)) =
      seqP m c (batch t) j (line t i) := by
  have h0 : ∀ k : Fin 1024, iblk m c 0 t (ix3 0 i k) = argX m c (ix3 (batch t) (line t i) k) := fun k =>
    (blk0 c (V m c) t i k).trans (congrFun (V_main_arg0 m c) _)
  have h3 : ∀ k : Fin 3072, iblk m c 3 t (ix3 0 0 k) = argG m c (ix2 (batch t) k) := fun k =>
    (blk3 c (V m c) t k).trans (hostG m c _ _)
  have h4 : ∀ k : Fin 1024, iblk m c 4 t (ix2 0 k) = argF m c (ix1 k) := fun k =>
    (blk4 c (V m c) t k).trans (hostF m c _)
  have h5 : ∀ k : Fin 1024, iblk m c 5 t (ix2 k j) = argW m c (ix2 k j) := fun k =>
    (blk5 c (V m c) t k j).trans (hostW m c _ _)
  unfold blockP seqP
  rw [funext h0, funext h3, funext h4, funext h5]

theorem block_prev (t : Fin cfg0.N) (h : 0 < t.val % 8) (j : Fin 4096) :
    blockP (iblk m c 3 t) (iblk m c 4 t) (fun k => (iblk m c 5 t : Vec Ideal S1024x4096 .bf16) (ix2 k j)) (fun k => (iblk m c 1 t : Vec Ideal S1x8x1024 .f32) (ix3 0 7 k)) =
      seqP m c (batch t) j ⟨512 * (t.val % 8) - 1, by omega⟩ := by
  have h0 : ∀ k : Fin 1024, iblk m c 1 t (ix3 0 7 k) = argX m c (ix3 (batch t) ⟨512 * (t.val % 8) - 1, by omega⟩ k) := fun k =>
    (blk1 c (V m c) t h k).trans (congrFun (V_main_arg0 m c) _)
  have h3 : ∀ k : Fin 3072, iblk m c 3 t (ix3 0 0 k) = argG m c (ix2 (batch t) k) := fun k =>
    (blk3 c (V m c) t k).trans (hostG m c _ _)
  have h4 : ∀ k : Fin 1024, iblk m c 4 t (ix2 0 k) = argF m c (ix1 k) := fun k =>
    (blk4 c (V m c) t k).trans (hostF m c _)
  have h5 : ∀ k : Fin 1024, iblk m c 5 t (ix2 k j) = argW m c (ix2 k j) := fun k =>
    (blk5 c (V m c) t k j).trans (hostW m c _ _)
  unfold blockP seqP
  rw [funext h0, funext h3, funext h4, funext h5]

theorem block_next (t : Fin cfg0.N) (h : t.val % 8 < 7) (j : Fin 4096) :
    blockP (iblk m c 3 t) (iblk m c 4 t) (fun k => (iblk m c 5 t : Vec Ideal S1024x4096 .bf16) (ix2 k j)) (fun k => (iblk m c 2 t : Vec Ideal S1x8x1024 .f32) (ix3 0 0 k)) =
      seqP m c (batch t) j ⟨512 * (t.val % 8) + 512, by omega⟩ := by
  have h0 : ∀ k : Fin 1024, iblk m c 2 t (ix3 0 0 k) = argX m c (ix3 (batch t) ⟨512 * (t.val % 8) + 512, by omega⟩ k) := fun k =>
    (blk2 c (V m c) t h k).trans (congrFun (V_main_arg0 m c) _)
  have h3 : ∀ k : Fin 3072, iblk m c 3 t (ix3 0 0 k) = argG m c (ix2 (batch t) k) := fun k =>
    (blk3 c (V m c) t k).trans (hostG m c _ _)
  have h4 : ∀ k : Fin 1024, iblk m c 4 t (ix2 0 k) = argF m c (ix1 k) := fun k =>
    (blk4 c (V m c) t k).trans (hostF m c _)
  have h5 : ∀ k : Fin 1024, iblk m c 5 t (ix2 k j) = argW m c (ix2 k j) := fun k =>
    (blk5 c (V m c) t k j).trans (hostW m c _ _)
  unfold blockP seqP
  rw [funext h0, funext h3, funext h4, funext h5]

/-- A block's convolution is the sequence's, where the block and its neighbours lie in the sequence. -/
theorem conv_glue (i : grid0.Coords) (x0 : Vec Ideal S1x512x1024 .f32) (x1 x2 : Vec Ideal S1x8x1024 .f32) (x3 : Vec Ideal S1x1x3072 .f32)
    (x4 : Vec Ideal S1x1024 .f32) (w : Fin 1024 → EReal) (c0 c1 c2 b : EReal) (s : Fin 4096 → EReal) (n : Nat) (hn : n < 8)
    (hi : (i 1).val = n)
    (own : ∀ r : Fin 512, blockP x3 x4 w (fun k => x0 (ix3 0 r k)) = s ⟨512 * n + r.val, by omega⟩)
    (prev : ∀ h : 0 < n, blockP x3 x4 w (fun k => x1 (ix3 0 7 k)) = s ⟨512 * n - 1, by omega⟩)
    (next : ∀ h : n < 7, blockP x3 x4 w (fun k => x2 (ix3 0 0 k)) = s ⟨512 * n + 512, by omega⟩) (r : Fin 512) :
    blockConv i x0 x1 x2 x3 x4 w c0 c1 c2 b r = seqConv s c0 c1 c2 b ⟨512 * n + r.val, by omega⟩ := by
  unfold blockConv seqConv
  rw [own r, hi]
  have e1 : (if r.val = 0 then (if 0 < n then blockP x3 x4 w (fun k => x1 (ix3 0 7 k)) else 0)
      else blockP x3 x4 w (fun k => x0 (ix3 0 ⟨r.val - 1, by omega⟩ k))) =
      if 512 * n + r.val = 0 then 0 else s ⟨512 * n + r.val - 1, by omega⟩ := by
    by_cases h0 : r.val = 0
    · rw [if_pos h0]
      by_cases ht : 0 < n
      · rw [if_pos ht, if_neg (by omega), prev ht]
        exact congrArg s (Fin.ext (by show 512 * n - 1 = 512 * n + r.val - 1; omega))
      · rw [if_neg ht, if_pos (by omega)]
    · rw [if_neg h0, if_neg (by omega), own]
      exact congrArg s (Fin.ext (by show 512 * n + (r.val - 1) = 512 * n + r.val - 1; omega))
  have e2 : (if h : r.val = 511 then (if n < 7 then blockP x3 x4 w (fun k => x2 (ix3 0 0 k)) else 0)
      else blockP x3 x4 w (fun k => x0 (ix3 0 ⟨r.val + 1, by omega⟩ k))) =
      if h : 512 * n + r.val = 4095 then 0 else s ⟨512 * n + r.val + 1, by omega⟩ := by
    by_cases h0 : r.val = 511
    · rw [dif_pos h0]
      by_cases ht : n < 7
      · rw [if_pos ht, dif_neg (by omega), next ht]
        exact congrArg s (Fin.ext (by show 512 * n + 512 = 512 * n + r.val + 1; omega))
      · rw [if_neg ht, dif_pos (by omega)]
    · rw [dif_neg h0, dif_neg (by omega), own]
      exact congrArg s (Fin.ext (by show 512 * n + (r.val + 1) = 512 * n + r.val + 1; omega))
  exact congrArg₂ (fun y z => conv3 y _ z _ _ _ _) e1 e2

theorem lane_conv (t : Fin cfg0.N) (i : Fin 512) (j : Fin 3072) :
    laneConv (grid0.coords t) (iblk m c 0 t) (iblk m c 1 t) (iblk m c 2 t) (iblk m c 3 t) (iblk m c 4 t) (iblk m c 5 t) (iblk m c 6 t) (iblk m c 7 t) j i =
      convAt m c (batch t) j (line t i) := by
  have h6 : ∀ k : Fin 3, iblk m c 6 t (ix2 k j) = argC m c (ix2 k j) := fun k =>
    (blk6 c (V m c) t k j).trans (congrFun (V_main_arg4 m c) _)
  have h7 : iblk m c 7 t (ix2 0 j) = argB m c (ix1 j) := (blk7 c (V m c) t j).trans (hostB m c j)
  have own := fun r => block_own m c t ⟨j.val, by omega⟩ r
  have prev := fun h => block_prev m c t h ⟨j.val, by omega⟩
  have next := fun h => block_next m c t h ⟨j.val, by omega⟩
  have ht := tile t
  unfold convAt line
  generalize seqP m c (batch t) ⟨j.val, by omega⟩ = s at own prev next ⊢
  unfold laneConv
  rw [h6 0, h6 1, h6 2, h7]
  generalize iblk m c 0 t = y0 at own prev next ⊢
  generalize iblk m c 1 t = y1 at own prev next ⊢
  generalize iblk m c 2 t = y2 at own prev next ⊢
  generalize iblk m c 3 t = y3 at own prev next ⊢
  generalize iblk m c 4 t = y4 at own prev next ⊢
  generalize iblk m c 5 t = y5 at own prev next ⊢
  exact conv_glue (grid0.coords t) y0 y1 y2 y3 y4 _ _ _ _ _ s (t.val % 8) (by omega) ht own prev next i

theorem lane (y : S1x512x1024.Idx) : ∃ (i : Fin 512) (j : Fin 1024), y = ix3 0 i j := by
  have h0 : (y 0).val < 1 := (y 0).isLt
  exact ⟨y 1, y 2, Att.idx3 (by show (y 0).val = 0; omega) rfl rfl⟩

theorem final8_at (t : Fin cfg0.N) (i : Fin 512) (j : Fin 1024) :
    out0_8 (grid0.coords t) (iblk m c 0 t) (iblk m c 1 t) (iblk m c 2 t) (iblk m c 3 t) (iblk m c 4 t) (iblk m c 5 t) (iblk m c 6 t) (iblk m c 7 t) (ix3 0 i j) =
      result8 m c (ix3 (batch t) (line t i) j) := by
  have h := lane_conv m c t i ⟨j.val, by omega⟩
  rw [out8_at, h]
  rfl

theorem final8 : (dats m 0 c).arrAt 8 cfg0.N = result8 m c := by
  refine (dats m 0 c).arrAt_eq_of_covers 8 _ cover8 fun t _ y => ?_
  blk_simp
  rw [after0_8]
  obtain ⟨i, j, rfl⟩ := lane y
  exact (final8_at m c t i j).trans (congrArg (result8 m c) (place8 t i j).symm)

theorem final9_at (t : Fin cfg0.N) (i : Fin 512) (j : Fin 1024) :
    out0_9 (grid0.coords t) (iblk m c 0 t) (iblk m c 1 t) (iblk m c 2 t) (iblk m c 3 t) (iblk m c 4 t) (iblk m c 5 t) (iblk m c 6 t) (iblk m c 7 t) (ix3 0 i j) =
      result9 m c (ix3 (batch t) (line t i) j) := by
  have h := lane_conv m c t i ⟨1024 + j.val, by omega⟩
  rw [out9_at, h]
  rfl

theorem final9 : (dats m 0 c).arrAt 9 cfg0.N = result9 m c := by
  refine (dats m 0 c).arrAt_eq_of_covers 9 _ cover9 fun t _ y => ?_
  blk_simp
  rw [after0_9]
  obtain ⟨i, j, rfl⟩ := lane y
  exact (final9_at m c t i j).trans (congrArg (result9 m c) (place9 t i j).symm)

theorem final10_at (t : Fin cfg0.N) (i : Fin 512) (j : Fin 1024) :
    out0_10 (grid0.coords t) (iblk m c 0 t) (iblk m c 1 t) (iblk m c 2 t) (iblk m c 3 t) (iblk m c 4 t) (iblk m c 5 t) (iblk m c 6 t) (iblk m c 7 t) (ix3 0 i j) =
      result10 m c (ix3 (batch t) (line t i) j) := by
  have h := lane_conv m c t i ⟨2048 + j.val, by omega⟩
  rw [out10_at, h]
  rfl

theorem final10 : (dats m 0 c).arrAt 10 cfg0.N = result10 m c := by
  refine (dats m 0 c).arrAt_eq_of_covers 10 _ cover10 fun t _ y => ?_
  blk_simp
  rw [after0_10]
  obtain ⟨i, j, rfl⟩ := lane y
  exact (final10_at m c t i j).trans (congrArg (result10 m c) (place10 t i j).symm)

theorem final11_at (t : Fin cfg0.N) (i : Fin 512) (j : Fin 1024) :
    out0_11 (grid0.coords t) (iblk m c 0 t) (iblk m c 1 t) (iblk m c 2 t) (iblk m c 3 t) (iblk m c 4 t) (iblk m c 5 t) (iblk m c 6 t) (iblk m c 7 t) (ix3 0 i j) =
      result11 m c (ix3 (batch t) (line t i) j) := by
  have h := block_own m c t ⟨3072 + j.val, by omega⟩ i
  rw [out11_at, h]
  rfl

theorem final11 : (dats m 0 c).arrAt 11 cfg0.N = result11 m c := by
  refine (dats m 0 c).arrAt_eq_of_covers 11 _ cover11 fun t _ y => ?_
  blk_simp
  rw [after0_11]
  obtain ⟨i, j, rfl⟩ := lane y
  exact (final11_at m c t i j).trans (congrArg (result11 m c) (place11 t i j).symm)

end Cert.HyenaKernelIdeal.Elems
-- ==== Proof.HyenaReference.lean ====
/-
  The Hyena's input call: the reference's four results are the arrays the kernel leaves.
-/
module

public import proofs.«01_k».proof.Proof.HyenaValue
public import proofs.«01_k».proof.Proof.Gen.HyenaReferenceIdeal.Run

@[expose] public section

set_option maxRecDepth 16384

noncomputable section

namespace Cert.HyenaReferenceIdeal.Elems

open Idealize.ShloMosaic Idealize.ShloMosaic.TcCoe Idealize.ShloMosaic.Tactic
open Cert.HyenaReferenceIdeal Cert.HyenaReferenceIdeal.Gen
open Cert.HyenaKernelIdeal.Elems (modRow modulated rowP proj conv3 seqConv silu)

/-- The rows' modulated norms. -/
abbrev modV (x : FVec Ideal S8x4096x1024 .f32) (g : FVec Ideal S8x3072 .f32) (f : FVec Ideal S1024 .f32) : FVec Ideal S8x4096x1024 .f32 :=
  addf (mulf (mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 f)))
    (broadcastInDim S8x4096x1024 ![0, 1, 2] bcast_S8x1x1024_S8x4096x1024_0_1_2 (addf (broadcastInDim S8x1x1024 ![] bcast_S_S8x1x1024 (constant S_ .f32 0x3F800000#32))
      (broadcastInDim S8x1x1024 ![0, 2] bcast_S8x1024_S8x1x1024_0_2 (extractStridedSlice S8x1024 ![0, 1024] g slices_S8x3072_S8x1024_0_1024)))))
    (broadcastInDim S8x4096x1024 ![0, 1, 2] bcast_S8x1x1024_S8x4096x1024_0_1_2
      (broadcastInDim S8x1x1024 ![0, 2] bcast_S8x1024_S8x1x1024_0_2 (extractStridedSlice S8x1024 ![0, 0] g slices_S8x3072_S8x1024_0_0)))

/-- Their projections. -/
abbrev projV (h : FVec Ideal S8x4096x1024 .f32) (w : FVec Ideal S1024x4096 .f32) : FVec Ideal S8x4096x4096 .f32 :=
  Host.dotGeneral dot_S8x4096x1024_S1024x4096_S8x4096x4096_2_0_01_1_n_n none h w

/-- The convolved groups' lanes, a row of zeros before the sequence and one after it. -/
abbrev padV (p : FVec Ideal S8x4096x4096 .f32) : FVec Ideal S8x4098x3072 .f32 :=
  pad S8x4098x3072 ![0, 1, 0] ![0, 1, 0] ![0, 0, 0] (extractStridedSlice S8x4096x3072 ![0, 0, 0] p slices_S8x4096x4096_S8x4096x3072_0_0_0)
    (sitofp .f32 (constantI S_ 32 0#32)) pads_S8x4096x3072_S8x4098x3072_000_110_000 h_S_

/-- The convolution of rows three of which stand under each row. -/
abbrev tapsV (q : FVec Ideal S8x4098x3072 .f32) (k : FVec Ideal S3x3072 .f32) (b : FVec Ideal S3072 .f32) : FVec Ideal S8x4096x3072 .f32 :=
  addf (addf (addf (addf (broadcastInDim S8x4096x3072 ![] bcast_S_S8x4096x3072 (constant S_ .f32 0x00000000#32))
      (mulf (extractStridedSlice S8x4096x3072 ![0, 0, 0] q slices_S8x4098x3072_S8x4096x3072_0_0_0)
        (broadcastInDim S8x4096x3072 ![0, 1, 2] bcast_S1x1x3072_S8x4096x3072_0_1_2 (broadcastInDim S1x1x3072 ![2] bcast_S3072_S1x1x3072_2
          (shapeCast S3072 (extractStridedSlice S1x3072 ![0, 0] k slices_S3x3072_S1x3072_0_0) shapeCasts_S1x3072_S3072)))))
      (mulf (extractStridedSlice S8x4096x3072 ![0, 1, 0] q slices_S8x4098x3072_S8x4096x3072_0_1_0)
        (broadcastInDim S8x4096x3072 ![0, 1, 2] bcast_S1x1x3072_S8x4096x3072_0_1_2 (broadcastInDim S1x1x3072 ![2] bcast_S3072_S1x1x3072_2
          (shapeCast S3072 (extractStridedSlice S1x3072 ![1, 0] k slices_S3x3072_S1x3072_1_0) shapeCasts_S1x3072_S3072)))))
      (mulf (extractStridedSlice S8x4096x3072 ![0, 2, 0] q slices_S8x4098x3072_S8x4096x3072_0_2_0)
        (broadcastInDim S8x4096x3072 ![0, 1, 2] bcast_S1x1x3072_S8x4096x3072_0_1_2 (broadcastInDim S1x1x3072 ![2] bcast_S3072_S1x1x3072_2
          (shapeCast S3072 (extractStridedSlice S1x3072 ![2, 0] k slices_S3x3072_S1x3072_2_0) shapeCasts_S1x3072_S3072)))))
    (broadcastInDim S8x4096x3072 ![0, 1, 2] bcast_S1x1x3072_S8x4096x3072_0_1_2 (broadcastInDim S1x1x3072 ![2] bcast_S3072_S1x1x3072_2 b))

/-- The gate. -/
abbrev siluV (p : FVec Ideal S8x4096x1024 .f32) : FVec Ideal S8x4096x1024 .f32 :=
  mulf p (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf p))))

theorem modV_at (x : FVec Ideal S8x4096x1024 .f32) (g : FVec Ideal S8x3072 .f32) (f : FVec Ideal S1024 .f32) (b : Fin 8) (l : Fin 4096) (k : Fin 1024) :
    modV x g f (ix3 b l k) = modRow (fun k => x (ix3 b l k)) (fun k => f (ix1 k)) (fun k => g (ix2 b k)) k := by
  unfold modV modRow modulated
  pointwise

theorem projV_at (h : FVec Ideal S8x4096x1024 .f32) (w : FVec Ideal S1024x4096 .f32) (b : Fin 8) (l j : Fin 4096) :
    projV h w (ix3 b l j) = proj (fun k => h (ix3 b l k)) (fun k => w (ix2 k j)) := by
  unfold projV proj
  pointwise

theorem padV_at (p : FVec Ideal S8x4096x4096 .f32) (b : Fin 8) (l : Fin 4098) (j : Fin 3072) :
    padV p (ix3 b l j) = if h : 1 ≤ l.val ∧ l.val - 1 < 4096 then p (ix3 b ⟨l.val - 1, h.2⟩ ⟨j.val, by omega⟩) else 0 := by
  have hz : (FloatOps.sitofp (F := Ideal) .f32 (0#32 : BitVec 32) : EReal) = 0 := by
    show (((0#32 : BitVec 32).toInt : ℝ) : EReal) = 0
    rw [show (0#32 : BitVec 32).toInt = 0 by decide]
    norm_num
  unfold padV
  pointwise
  rw [hz]

theorem tapsV_at (q : FVec Ideal S8x4098x3072 .f32) (k : FVec Ideal S3x3072 .f32) (z : FVec Ideal S3072 .f32) (b : Fin 8) (l : Fin 4096) (j : Fin 3072) :
    tapsV q k z (ix3 b l j) = conv3 (q (ix3 b ⟨l.val, by omega⟩ j)) (q (ix3 b ⟨1 + l.val, by omega⟩ j)) (q (ix3 b ⟨2 + l.val, by omega⟩ j))
      (k (ix2 0 j)) (k (ix2 1 j)) (k (ix2 2 j)) (z (ix1 j)) := by
  unfold tapsV conv3
  pointwise

theorem siluV_at (p : FVec Ideal S8x4096x1024 .f32) (b : Fin 8) (l : Fin 4096) (j : Fin 1024) : siluV p (ix3 b l j) = silu (p (ix3 b l j)) := by
  unfold siluV silu
  pointwise

theorem seq_at (p : FVec Ideal S8x4096x4096 .f32) (k : FVec Ideal S3x3072 .f32) (z : FVec Ideal S3072 .f32) (b : Fin 8) (l : Fin 4096) (j : Fin 3072) :
    tapsV (padV p) k z (ix3 b l j) = seqConv (fun l => p (ix3 b l ⟨j.val, by omega⟩)) (k (ix2 0 j)) (k (ix2 1 j)) (k (ix2 2 j)) (z (ix1 j)) l := by
  rw [tapsV_at, padV_at, padV_at, padV_at]
  unfold seqConv
  have e0 : (if h : 1 ≤ l.val ∧ l.val - 1 < 4096 then p (ix3 b ⟨l.val - 1, h.2⟩ ⟨j.val, by omega⟩) else 0) =
      if l.val = 0 then 0 else p (ix3 b ⟨l.val - 1, by omega⟩ ⟨j.val, by omega⟩) := by
    by_cases h : l.val = 0
    · rw [dif_neg (by omega), if_pos h]
    · rw [dif_pos (by omega), if_neg h]
  have e1 : (if h : 1 ≤ 1 + l.val ∧ 1 + l.val - 1 < 4096 then p (ix3 b ⟨1 + l.val - 1, h.2⟩ ⟨j.val, by omega⟩) else 0) =
      p (ix3 b l ⟨j.val, by omega⟩) := by
    rw [dif_pos (by omega)]
    exact congrArg p (Att.idx3 rfl (by show 1 + l.val - 1 = l.val; omega) rfl)
  have e2 : (if h : 1 ≤ 2 + l.val ∧ 2 + l.val - 1 < 4096 then p (ix3 b ⟨2 + l.val - 1, h.2⟩ ⟨j.val, by omega⟩) else 0) =
      if h : l.val = 4095 then 0 else p (ix3 b ⟨l.val + 1, by omega⟩ ⟨j.val, by omega⟩) := by
    by_cases h : l.val = 4095
    · rw [dif_neg (by omega), dif_pos h]
    · rw [dif_pos (by omega), dif_neg h]
      exact congrArg p (Att.idx3 rfl (by show 2 + l.val - 1 = l.val + 1; omega) rfl)
  have join : ∀ {u u' v v' w w' : EReal}, u = u' → v = v' → w = w' →
      conv3 u v w (k (ix2 0 j)) (k (ix2 1 j)) (k (ix2 2 j)) (z (ix1 j)) = conv3 u' v' w' (k (ix2 0 j)) (k (ix2 1 j)) (k (ix2 2 j)) (z (ix1 j)) := by
    rintro _ _ _ _ _ _ rfl rfl rfl
    rfl
  exact join e0 e1 e2

/-! ## The results, of the kernel's arguments -/

variable (m : (ℓ : Loc Cert.HyenaKernelIdeal.nD Cert.HyenaKernelIdeal.τ Cert.HyenaKernelIdeal.sig) → Buf (Elt Ideal) ℓ) (c : Dev Cert.HyenaKernelIdeal.nD)

abbrev allP : FVec Ideal S8x4096x4096 .f32 :=
  projV (modV (Cert.HyenaKernelIdeal.Elems.argX m c) (Cert.HyenaKernelIdeal.Elems.argG m c) (Cert.HyenaKernelIdeal.Elems.argF m c))
    (Cert.HyenaKernelIdeal.Elems.argW m c)

abbrev allC : FVec Ideal S8x4096x3072 .f32 := tapsV (padV (allP m c)) (Cert.HyenaKernelIdeal.Elems.argC m c) (Cert.HyenaKernelIdeal.Elems.argB m c)

theorem allP_at (b : Fin 8) (l j : Fin 4096) : allP m c (ix3 b l j) = Cert.HyenaKernelIdeal.Elems.seqP m c b j l := by
  unfold allP Cert.HyenaKernelIdeal.Elems.seqP rowP
  rw [projV_at, funext fun k => modV_at _ _ _ b l k]

theorem allC_at (b : Fin 8) (l : Fin 4096) (j : Fin 3072) : allC m c (ix3 b l j) = Cert.HyenaKernelIdeal.Elems.convAt m c b j l := by
  unfold allC Cert.HyenaKernelIdeal.Elems.convAt
  rw [seq_at, funext fun l => allP_at m c b l ⟨j.val, by omega⟩]

theorem cut (p : FVec Ideal S8x4096x3072 .f32) (n : Nat) (h : S8x4096x3072.Slices ![0, 0, n] S8x4096x1024) (b : Fin 8) (l : Fin 4096) (j : Fin 1024) (hn : n + j.val < 3072) :
    (truncf .bf16 (extractStridedSlice S8x4096x1024 ![0, 0, n] p h) bitsLt_bf16_f32 : FVec Ideal S8x4096x1024 .bf16) (ix3 b l j) = p (ix3 b l ⟨n + j.val, hn⟩) := by
  pointwise

theorem lanes (y : S8x4096x1024.Idx) : ∃ (b : Fin 8) (i : Fin 4096) (j : Fin 1024), y = ix3 b i j := ⟨y 0, y 1, y 2, Att.idx3 rfl rfl rfl⟩

theorem ref8_is : (truncf .bf16 (extractStridedSlice S8x4096x1024 ![0, 0, 0] (allC m c) slices_S8x4096x3072_S8x4096x1024_0_0_0) bitsLt_bf16_f32 : FVec Ideal S8x4096x1024 .bf16) =
    Cert.HyenaKernelIdeal.Elems.result8 m c := by
  funext y
  obtain ⟨b, l, j, rfl⟩ := lanes y
  refine ((cut (allC m c) 0 _ b l j (by omega)).trans (allC_at m c b l _)).trans ?_
  exact congrArg (fun j => Cert.HyenaKernelIdeal.Elems.convAt m c b j l) (Fin.ext (by show 0 + j.val = j.val; omega))

theorem ref9_is : (truncf .bf16 (extractStridedSlice S8x4096x1024 ![0, 0, 1024] (allC m c) slices_S8x4096x3072_S8x4096x1024_0_0_1024) bitsLt_bf16_f32 : FVec Ideal S8x4096x1024 .bf16) =
    Cert.HyenaKernelIdeal.Elems.result9 m c := by
  funext y
  obtain ⟨b, l, j, rfl⟩ := lanes y
  refine ((cut (allC m c) 1024 _ b l j (by omega)).trans (allC_at m c b l _)).trans ?_
  exact congrArg (fun j => Cert.HyenaKernelIdeal.Elems.convAt m c b j l) (Fin.ext rfl)

theorem ref10_is : (truncf .bf16 (extractStridedSlice S8x4096x1024 ![0, 0, 2048] (allC m c) slices_S8x4096x3072_S8x4096x1024_0_0_2048) bitsLt_bf16_f32 : FVec Ideal S8x4096x1024 .bf16) =
    Cert.HyenaKernelIdeal.Elems.result10 m c := by
  funext y
  obtain ⟨b, l, j, rfl⟩ := lanes y
  refine ((cut (allC m c) 2048 _ b l j (by omega)).trans (allC_at m c b l _)).trans ?_
  exact congrArg (fun j => Cert.HyenaKernelIdeal.Elems.convAt m c b j l) (Fin.ext rfl)

theorem gate_at (p : FVec Ideal S8x4096x4096 .f32) (b : Fin 8) (l : Fin 4096) (j : Fin 1024) :
    extractStridedSlice S8x4096x1024 ![0, 0, 3072] p slices_S8x4096x4096_S8x4096x1024_0_0_3072 (ix3 b l j) = p (ix3 b l ⟨3072 + j.val, by omega⟩) := by
  pointwise

theorem ref11_is : (truncf .bf16 (siluV (extractStridedSlice S8x4096x1024 ![0, 0, 3072] (allP m c) slices_S8x4096x4096_S8x4096x1024_0_0_3072)) bitsLt_bf16_f32 : FVec Ideal S8x4096x1024 .bf16) =
    Cert.HyenaKernelIdeal.Elems.result11 m c := by
  funext y
  obtain ⟨b, l, j, rfl⟩ := lanes y
  refine (siluV_at _ b l j).trans ?_
  rw [gate_at, allP_at]
  rfl

end Cert.HyenaReferenceIdeal.Elems
-- ==== Proof.lean ====
/-
  The claims: the compiled program, the ideal one and the reference of each call keep their arguments and finish,
  and the ideal program's result is the reference's, of the two attentions on real queries and keys.
-/
module

public import proofs.«01_k».proof.Defs
public import proofs.«01_k».proof.Proof.Run
public import proofs.«01_k».proof.Proof.Value
public import proofs.«01_k».proof.Proof.LatentRun
public import proofs.«01_k».proof.Proof.LatentValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.LatentKernel
public import proofs.«01_k».proof.Proof.Gen.LatentKernelIdeal
public import proofs.«01_k».proof.Proof.Gen.LatentKernelIdeal.Launch
public import proofs.«01_k».proof.Proof.Gen.LatentKernelIdeal.Points
public import proofs.«01_k».proof.Proof.Gen.LatentReferenceIdeal
public import proofs.«01_k».proof.Proof.Gen.LatentReferenceIdeal.Run
public import proofs.«01_k».proof.Proof.MixValue
public import proofs.«01_k».proof.Proof.LastValue
public import proofs.«01_k».proof.Proof.Gen.MixKernel
public import proofs.«01_k».proof.Proof.Gen.MixKernelIdeal
public import proofs.«01_k».proof.Proof.Gen.MixKernelIdeal.Launch
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.LastKernel
public import proofs.«01_k».proof.Proof.Gen.LastKernelIdeal
public import proofs.«01_k».proof.Proof.Gen.LastKernelIdeal.Launch
public import proofs.«01_k».proof.Proof.Gen.LastKernelIdeal.Value
public import proofs.«01_k».proof.Proof.Gen.LastReferenceIdeal
public import proofs.«01_k».proof.Proof.Gen.LastReferenceIdeal.Run
public import proofs.«01_k».proof.Proof.HyenaValue
public import proofs.«01_k».proof.Proof.HyenaReference
public import proofs.«01_k».proof.Proof.Gen.HyenaKernel
public import proofs.«01_k».proof.Proof.Gen.HyenaKernelIdeal
public import proofs.«01_k».proof.Proof.Gen.HyenaKernelIdeal.Launch
public import proofs.«01_k».proof.Proof.Gen.HyenaKernelIdeal.Value
public import proofs.«01_k».proof.Proof.Gen.HyenaReferenceIdeal
public import proofs.«01_k».proof.Proof.Gen.HyenaReferenceIdeal.Run
public import Idealize.ShloMosaic.Lib.Quiescent

@[expose] public section

noncomputable section

namespace Cert.Proof

open Idealize.ShloMosaic Idealize.ShloMosaic.Tactic Idealize.SL.Sem

theorem frame_ideal : Cert.quiescent_KernelIdeal := fun m ρ _ => Cert.KernelIdeal.Launch.args_kept m ρ

/-- The compiled program is the same text, so the same run serves. -/
theorem frame_kernel : Cert.quiescent_Kernel := fun m ρ _ =>
  Eq.mp (by sl_kernel_rfl) (Cert.KernelIdeal.Launch.args_kept (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_ideal_finite : Cert.quiescent_KernelIdeal_pre_finite := fun m ρ _ => Cert.KernelIdeal.Launch.args_kept m ρ

theorem frame_reference_finite : Cert.quiescent_ReferenceIdeal_pre_finite := fun m ρ _ => frame_reference m ρ trivial

/-- Both programs end with the reference's result of the same arguments. -/
theorem algebraic : Cert.algebraic_KernelIdeal_ReferenceIdeal_pre_finite := fun m ρ m' ρ' hpre hag =>
  ⟨fun c => Cert.KernelIdeal.Launch.result m c, Cert.KernelIdeal.Launch.run_value m ρ hpre,
    (θ_run Cert.ReferenceIdeal.defs _ _).mono (fun r h c => ⟨(h c).1.trans (by
        obtain ⟨h0, h1, h2, h3, h4⟩ := hag c
        rw [h0, h1, h2, h3, h4]), (h c).2⟩)
      (Cert.ReferenceIdeal.Value.run m' ρ')⟩

/-! ### The latent call -/

theorem latent_frame_ideal : Cert.quiescent_LatentKernelIdeal := fun m ρ _ => Cert.LatentKernelIdeal.Launch.args_kept m ρ

/-- The compiled program is the same text, so the same run serves. -/
theorem latent_frame_kernel : Cert.quiescent_LatentKernel := fun m ρ _ =>
  Eq.mp (by sl_kernel_rfl) (Cert.LatentKernelIdeal.Launch.args_kept (F := Bits) m ρ)

theorem latent_frame_reference : Cert.quiescent_LatentReferenceIdeal := fun m ρ _ =>
  (θ_run Cert.LatentReferenceIdeal.defs _ _).mono (fun r h => ⟨fun c => (h c).2, sem_eq_zero_of_no_sems (by decide) r.2⟩)
    (Cert.LatentReferenceIdeal.Value.run m ρ)

theorem latent_frame_ideal_finite : Cert.quiescent_LatentKernelIdeal_pre_finite_latent := fun m ρ _ =>
  Cert.LatentKernelIdeal.Launch.args_kept m ρ

theorem latent_frame_reference_finite : Cert.quiescent_LatentReferenceIdeal_pre_finite_latent := fun m ρ _ =>
  latent_frame_reference m ρ trivial

/-- Both programs end with the reference's result of the same arguments. -/
theorem latent_algebraic : Cert.algebraic_LatentKernelIdeal_LatentReferenceIdeal_pre_finite_latent := fun m ρ m' ρ' hpre hag =>
  ⟨fun c => Cert.LatentKernelIdeal.Launch.result m c, Cert.LatentKernelIdeal.Launch.run_value m ρ hpre,
    (θ_run Cert.LatentReferenceIdeal.defs _ _).mono (fun r h c => ⟨(h c).1.trans (by
        obtain ⟨h0, h1, h2, h3, h4⟩ := hag c
        unfold Cert.LatentReferenceIdeal.Value.res_main_v21
        rw [h0, h1, h2, h3, h4]
        rfl), (h c).2⟩)
      (Cert.LatentReferenceIdeal.Value.run m' ρ')⟩

/-! ## The attention's output projection -/

theorem mix_frame_ideal : Cert.quiescent_MixKernelIdeal := fun m ρ _ => Cert.MixKernelIdeal.Gen.frame m ρ

theorem mix_frame_kernel : Cert.quiescent_MixKernel := fun m ρ _ =>
  Eq.mp (by sl_kernel_rfl) (Cert.MixKernelIdeal.Gen.frame (F := Bits) m ρ)

theorem mix_frame_reference : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run m ρ)

/-- Both programs end with the reference's result of the same arguments. -/
theorem mix_algebraic : Cert.algebraic_MixKernelIdeal_MixReferenceIdeal := fun m ρ m' ρ' _ hag =>
  ⟨fun c => Cert.MixKernelIdeal.Elems.result m c,
    (θ_run Cert.MixKernelIdeal.defs _ _).mono (fun r h c => ⟨(h c).1.trans (Cert.MixKernelIdeal.Elems.final m c), (h c).2⟩)
      (Cert.MixKernelIdeal.Value.run_blocks m ρ),
    (θ_run Cert.MixReferenceIdeal.defs _ _).mono (fun r h c => ⟨(h c).1.trans (by
        obtain ⟨h0, h1, h2, h3, h4, h5⟩ := hag c
        rw [h0, h1, h2, h3, h4, h5]
        exact Cert.MixReferenceIdeal.Elems.ref_is m c), (h c).2⟩)
      (Cert.MixReferenceIdeal.Value.run m' ρ')⟩

/-! ## The Hyena's output projection and the last norm -/

theorem last_frame_ideal : Cert.quiescent_LastKernelIdeal := fun m ρ _ => Cert.LastKernelIdeal.Gen.frame m ρ

theorem last_frame_kernel : Cert.quiescent_LastKernel := fun m ρ _ =>
  Eq.mp (by sl_kernel_rfl) (Cert.LastKernelIdeal.Gen.frame (F := Bits) m ρ)

theorem last_frame_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run m ρ)

/-- Both programs end with the reference's result of the same arguments. -/
theorem last_algebraic : Cert.algebraic_LastKernelIdeal_LastReferenceIdeal := fun m ρ m' ρ' _ hag =>
  ⟨fun c => Cert.LastKernelIdeal.Elems.result m c,
    (θ_run Cert.LastKernelIdeal.defs _ _).mono (fun r h c => ⟨(h c).1.trans (Cert.LastKernelIdeal.Elems.final m c), (h c).2⟩)
      (Cert.LastKernelIdeal.Value.run_blocks m ρ),
    (θ_run Cert.LastReferenceIdeal.defs _ _).mono (fun r h c => ⟨(h c).1.trans (by
        obtain ⟨h0, h1, h2, h3, h4, h5⟩ := hag c
        rw [h0, h1, h2, h3, h4, h5]
        exact Cert.LastReferenceIdeal.Elems.ref_is m c), (h c).2⟩)
      (Cert.LastReferenceIdeal.Value.run m' ρ')⟩

/-! ## The Hyena's input projection and short convolution -/

theorem hyena_frame_ideal : Cert.quiescent_HyenaKernelIdeal := fun m ρ _ => Cert.HyenaKernelIdeal.Gen.frame m ρ

theorem hyena_frame_kernel : Cert.quiescent_HyenaKernel := fun m ρ _ =>
  Eq.mp (by sl_kernel_rfl) (Cert.HyenaKernelIdeal.Gen.frame (F := Bits) m ρ)

theorem hyena_frame_reference : Cert.quiescent_HyenaReferenceIdeal := fun m ρ _ =>
  (θ_run Cert.HyenaReferenceIdeal.defs _ _).mono (fun r h => ⟨fun c => (h c).2.2.2.2, sem_eq_zero_of_no_sems (by decide) r.2⟩)
    (Cert.HyenaReferenceIdeal.Value.run m ρ)

/-- Both programs end with the reference's four results of the same arguments. -/
theorem hyena_algebraic : Cert.algebraic_HyenaKernelIdeal_HyenaReferenceIdeal := fun m ρ m' ρ' _ hag =>
  ⟨fun c => Cert.HyenaKernelIdeal.Elems.result8 m c, fun c => Cert.HyenaKernelIdeal.Elems.result9 m c,
    fun c => Cert.HyenaKernelIdeal.Elems.result10 m c, fun c => Cert.HyenaKernelIdeal.Elems.result11 m c,
    (θ_run Cert.HyenaKernelIdeal.defs _ _).mono (fun r h c => ⟨(h c).1.trans (Cert.HyenaKernelIdeal.Elems.final8 m c),
        (h c).2.1.trans (Cert.HyenaKernelIdeal.Elems.final9 m c), (h c).2.2.1.trans (Cert.HyenaKernelIdeal.Elems.final10 m c),
        (h c).2.2.2.1.trans (Cert.HyenaKernelIdeal.Elems.final11 m c), (h c).2.2.2.2⟩)
      (Cert.HyenaKernelIdeal.Value.run_blocks m ρ),
    (θ_run Cert.HyenaReferenceIdeal.defs _ _).mono (fun r h c => ⟨(h c).1.trans (by
        obtain ⟨h0, h1, h2, h3, h4, h5⟩ := hag c
        unfold Cert.HyenaReferenceIdeal.Value.res_main_v57
        rw [h0, h1, h2, h3, h4, h5]
        exact Cert.HyenaReferenceIdeal.Elems.ref8_is m c), (h c).2.1.trans (by
        obtain ⟨h0, h1, h2, h3, h4, h5⟩ := hag c
        unfold Cert.HyenaReferenceIdeal.Value.res_main_v58
        rw [h0, h1, h2, h3, h4, h5]
        exact Cert.HyenaReferenceIdeal.Elems.ref9_is m c), (h c).2.2.1.trans (by
        obtain ⟨h0, h1, h2, h3, h4, h5⟩ := hag c
        unfold Cert.HyenaReferenceIdeal.Value.res_main_v59
        rw [h0, h1, h2, h3, h4, h5]
        exact Cert.HyenaReferenceIdeal.Elems.ref10_is m c), (h c).2.2.2.1.trans (by
        obtain ⟨h0, h1, h2, h3, h4, h5⟩ := hag c
        rw [h0, h1, h2, h3]
        exact Cert.HyenaReferenceIdeal.Elems.ref11_is m c), (h c).2.2.2.2⟩)
      (Cert.HyenaReferenceIdeal.Value.run m' ρ')⟩

theorem claim : Cert.Claim :=
  ⟨Cert.Kernel.Gen.facts, Cert.KernelIdeal.Gen.facts, Cert.ReferenceIdeal.Gen.facts, Cert.LatentKernel.Gen.facts,
    Cert.LatentKernelIdeal.Gen.facts, Cert.LatentReferenceIdeal.Gen.facts, Cert.MixKernel.Gen.facts, Cert.MixKernelIdeal.Gen.facts,
    Cert.MixReferenceIdeal.Gen.facts, Cert.LastKernel.Gen.facts, Cert.LastKernelIdeal.Gen.facts, Cert.LastReferenceIdeal.Gen.facts,
    Cert.HyenaKernel.Gen.facts, Cert.HyenaKernelIdeal.Gen.facts, Cert.HyenaReferenceIdeal.Gen.facts,
    Cert.Finite.facts, Cert.FiniteLatent.facts,
    frame_kernel, frame_ideal, frame_ideal_finite, frame_reference, frame_reference_finite,
    latent_frame_kernel, latent_frame_ideal, latent_frame_ideal_finite, latent_frame_reference, latent_frame_reference_finite,
    mix_frame_kernel, mix_frame_ideal, mix_frame_reference, last_frame_kernel, last_frame_ideal, last_frame_reference,
    hyena_frame_kernel, hyena_frame_ideal, hyena_frame_reference,
    trivial, algebraic, trivial, latent_algebraic, trivial, mix_algebraic, trivial, last_algebraic,
    trivial, hyena_algebraic⟩

end Cert.Proof
